-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)) (v4 : (c : Dev Cert.Kernel2Ideal.nD) → Buf (Elt Ideal) ((c.tc : Thread Cert.Kernel2Ideal.nD Cert.Kernel2Ideal.τ).loc Cert.Kernel2Ideal.main_v3_4)) (v5 : (c : Dev Cert.Kernel2Ideal.nD) → Buf (Elt Ideal) ((c.tc : Thread Cert.Kernel2Ideal.nD Cert.Kernel2Ideal.τ).loc Cert.Kernel2Ideal.main_v3_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_v3_4) = v4 c
          ∧ r.2.mem ((c.tc : Thread Cert.Kernel2Ideal.nD Cert.Kernel2Ideal.τ).loc Cert.Kernel2Ideal.main_v3_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v22) = v1 c
          ∧ r.2.mem ((c.tc : Thread Cert.Reference2Ideal.nD Cert.Reference2Ideal.τ).loc Cert.Reference2Ideal.main_v23) = v2 c
          ∧ r.2.mem ((c.tc : Thread Cert.Reference2Ideal.nD Cert.Reference2Ideal.τ).loc Cert.Reference2Ideal.main_v24) = v3 c
          ∧ r.2.mem ((c.tc : Thread Cert.Reference2Ideal.nD Cert.Reference2Ideal.τ).loc Cert.Reference2Ideal.main_v25) = v4 c
          ∧ r.2.mem ((c.tc : Thread Cert.Reference2Ideal.nD Cert.Reference2Ideal.τ).loc Cert.Reference2Ideal.main_v26) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v27_0)) (v1 : (c : Dev Cert.Kernel3Ideal.nD) → Buf (Elt Ideal) ((c.tc : Thread Cert.Kernel3Ideal.nD Cert.Kernel3Ideal.τ).loc Cert.Kernel3Ideal.main_v27_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v27_0) = v0 c
          ∧ r.2.mem ((c.tc : Thread Cert.Kernel3Ideal.nD Cert.Kernel3Ideal.τ).loc Cert.Kernel3Ideal.main_v27_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v33) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v35) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v11_0)) (v1 : (c : Dev Cert.Kernel7Ideal.nD) → Buf (Elt Ideal) ((c.tc : Thread Cert.Kernel7Ideal.nD Cert.Kernel7Ideal.τ).loc Cert.Kernel7Ideal.main_v11_1)) (v2 : (c : Dev Cert.Kernel7Ideal.nD) → Buf (Elt Ideal) ((c.tc : Thread Cert.Kernel7Ideal.nD Cert.Kernel7Ideal.τ).loc Cert.Kernel7Ideal.main_v11_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11_0) = v0 c
          ∧ r.2.mem ((c.tc : Thread Cert.Kernel7Ideal.nD Cert.Kernel7Ideal.τ).loc Cert.Kernel7Ideal.main_v11_1) = v1 c
          ∧ r.2.mem ((c.tc : Thread Cert.Kernel7Ideal.nD Cert.Kernel7Ideal.τ).loc Cert.Kernel7Ideal.main_v11_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v28) = v0 c
          ∧ r.2.mem ((c.tc : Thread Cert.Reference7Ideal.nD Cert.Reference7Ideal.τ).loc Cert.Reference7Ideal.main_v29) = v1 c
          ∧ r.2.mem ((c.tc : Thread Cert.Reference7Ideal.nD Cert.Reference7Ideal.τ).loc Cert.Reference7Ideal.main_v30) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S20x4096x1024 : Shape := ⟨3, ![20, 4096, 1024]⟩
abbrev S20x4096x256 : Shape := ⟨3, ![20, 4096, 256]⟩
abbrev S4x256 : Shape := ⟨2, ![4, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S81920x256 : Shape := ⟨2, ![81920, 256]⟩
abbrev S81920x1024 : Shape := ⟨2, ![81920, 1024]⟩
abbrev S1x1024 : Shape := ⟨2, ![1, 1024]⟩
abbrev S1024x256 : Shape := ⟨2, ![1024, 256]⟩
abbrev S1024x1 : Shape := ⟨2, ![1024, 1]⟩
abbrev S1x256 : Shape := ⟨2, ![1, 256]⟩
abbrev S256x1024 : Shape := ⟨2, ![256, 1024]⟩

abbrev nBuf : Space → Nat
  | .hbm => 20
  | .vmem => 20
  | .smem => 0
  | _ => 0

abbrev bufTy : (tb : Table) → Fin (tcTables nBuf tb) → BufTy
  | .hbm, ⟨0, _⟩ => ⟨S20x4096x1024, .f32⟩
  | .hbm, ⟨1, _⟩ => ⟨S20x4096x256, .f32⟩
  | .hbm, ⟨2, _⟩ => ⟨S20x4096x256, .f32⟩
  | .hbm, ⟨3, _⟩ => ⟨S20x4096x256, .f32⟩
  | .hbm, ⟨4, _⟩ => ⟨S20x4096x256, .f32⟩
  | .hbm, ⟨5, _⟩ => ⟨S4x256, .f32⟩
  | .hbm, ⟨6, _⟩ => ⟨S1024x1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S81920x256, .f32⟩
  | .hbm, ⟨11, _⟩ => ⟨S81920x256, .f32⟩
  | .hbm, ⟨12, _⟩ => ⟨S81920x256, .f32⟩
  | .hbm, ⟨13, _⟩ => ⟨S81920x256, .f32⟩
  | .hbm, ⟨14, _⟩ => ⟨S81920x1024, .f32⟩
  | .hbm, ⟨15, _⟩ => ⟨S1024x1024, .bf16⟩
  | .hbm, ⟨16, _⟩ => ⟨S1024x4096, .bf16⟩
  | .hbm, ⟨17, _⟩ => ⟨S4096x1024, .bf16⟩
  | .hbm, ⟨18, _⟩ => ⟨S1x1024, .f32⟩
  | .hbm, ⟨19, _⟩ => ⟨S81920x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S4x256, .f32⟩
  | .local _ .vmem, ⟨11, _⟩ => ⟨S1024x1024, .bf16⟩
  | .local _ .vmem, ⟨12, _⟩ => ⟨S1x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | .local _ .vmem, ⟨18, _⟩ => ⟨S1024x1024, .f32⟩
  | .local _ .vmem, ⟨19, _⟩ => ⟨S1024x1024, .bf16⟩
  | _, _ => ⟨S20x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![80, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S20x4096x1024 : Shape := ⟨3, ![20, 4096, 1024]⟩
abbrev S20x4096x256 : Shape := ⟨3, ![20, 4096, 256]⟩
abbrev S4x256 : Shape := ⟨2, ![4, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x256 : Shape := ⟨2, ![1, 256]⟩
abbrev S256 : Shape := ⟨1, ![256]⟩
abbrev S_ : Shape := ⟨0, ![]⟩
abbrev S20x4096 : Shape := ⟨2, ![20, 4096]⟩
abbrev S20x4096x1 : Shape := ⟨3, ![20, 4096, 1]⟩
abbrev S1x1x256 : Shape := ⟨3, ![1, 1, 256]⟩
abbrev S1x1x1024 : Shape := ⟨3, ![1, 1, 1024]⟩
abbrev S20x4096x4096 : Shape := ⟨3, ![20, 4096, 4096]⟩
abbrev S81920x1024 : Shape := ⟨2, ![81920, 1024]⟩

abbrev nBuf : Space → Nat
  | .hbm => 109
  | .vmem => 0
  | .smem => 0
  | _ => 0

abbrev bufTy : (tb : Table) → Fin (tcTables nBuf tb) → BufTy
  | .hbm, ⟨0, _⟩ => ⟨S20x4096x1024, .f32⟩
  | .hbm, ⟨1, _⟩ => ⟨S20x4096x256, .f32⟩
  | .hbm, ⟨2, _⟩ => ⟨S20x4096x256, .f32⟩
  | .hbm, ⟨3, _⟩ => ⟨S20x4096x256, .f32⟩
  | .hbm, ⟨4, _⟩ => ⟨S20x4096x256, .f32⟩
  | .hbm, ⟨5, _⟩ => ⟨S4x256, .f32⟩
  | .hbm, ⟨6, _⟩ => ⟨S1024x1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1x256, .f32⟩
  | .hbm, ⟨11, _⟩ => ⟨S256, .f32⟩
  | .hbm, ⟨12, _⟩ => ⟨S20x4096x256, .f32⟩
  | .hbm, ⟨13, _⟩ => ⟨S_, .f32⟩
  | .hbm, ⟨14, _⟩ => ⟨S20x4096, .f32⟩
  | .hbm, ⟨15, _⟩ => ⟨S20x4096x1, .f32⟩
  | .hbm, ⟨16, _⟩ => ⟨S_, .f32⟩
  | .hbm, ⟨17, _⟩ => ⟨S20x4096x1, .f32⟩
  | .hbm, ⟨18, _⟩ => ⟨S20x4096x1, .f32⟩
  | .hbm, ⟨19, _⟩ => ⟨S_, .f32⟩
  | .hbm, ⟨20, _⟩ => ⟨S20x4096x1, .f32⟩
  | .hbm, ⟨21, _⟩ => ⟨S20x4096x1, .f32⟩
  | .hbm, ⟨22, _⟩ => ⟨S20x4096x1, .f32⟩
  | .hbm, ⟨23, _⟩ => ⟨S20x4096x256, .f32⟩
  | .hbm, ⟨24, _⟩ => ⟨S20x4096x256, .f32⟩
  | .hbm, ⟨25, _⟩ => ⟨S1x1x256, .f32⟩
  | .hbm, ⟨26, _⟩ => ⟨S20x4096x256, .f32⟩
  | .hbm, ⟨27, _⟩ => ⟨S20x4096x256, .f32⟩
  | .hbm, ⟨28, _⟩ => ⟨S1x256, .f32⟩
  | .hbm, ⟨29, _⟩ => ⟨S256, .f32⟩
  | .hbm, ⟨30, _⟩ => ⟨S20x4096x256, .f32⟩
  | .hbm, ⟨31, _⟩ => ⟨S_, .f32⟩
  | .hbm, ⟨32, _⟩ => ⟨S20x4096, .f32⟩
  | .hbm, ⟨33, _⟩ => ⟨S20x4096x1, .f32⟩
  | .hbm, ⟨34, _⟩ => ⟨S_, .f32⟩
  | .hbm, ⟨35, _⟩ => ⟨S20x4096x1, .f32⟩
  | .hbm, ⟨36, _⟩ => ⟨S20x4096x1, .f32⟩
  | .hbm, ⟨37, _⟩ => ⟨S_, .f32⟩
  | .hbm, ⟨38, _⟩ => ⟨S20x4096x1, .f32⟩
  | .hbm, ⟨39, _⟩ => ⟨S20x4096x1, .f32⟩
  | .hbm, ⟨40, _⟩ => ⟨S20x4096x1, .f32⟩
  | .hbm, ⟨41, _⟩ => ⟨S20x4096x256, .f32⟩
  | .hbm, ⟨42, _⟩ => ⟨S20x4096x256, .f32⟩
  | .hbm, ⟨43, _⟩ => ⟨S1x1x256, .f32⟩
  | .hbm, ⟨44, _⟩ => ⟨S20x4096x256, .f32⟩
  | .hbm, ⟨45, _⟩ => ⟨S20x4096x256, .f32⟩
  | .hbm, ⟨46, _⟩ => ⟨S1x256, .f32⟩
  | .hbm, ⟨47, _⟩ => ⟨S256, .f32⟩
  | .hbm, ⟨48, _⟩ => ⟨S20x4096x256, .f32⟩
  | .hbm, ⟨49, _⟩ => ⟨S_, .f32⟩
  | .hbm, ⟨50, _⟩ => ⟨S20x4096, .f32⟩
  | .hbm, ⟨51, _⟩ => ⟨S20x4096x1, .f32⟩
  | .hbm, ⟨52, _⟩ => ⟨S_, .f32⟩
  | .hbm, ⟨53, _⟩ => ⟨S20x4096x1, .f32⟩
  | .hbm, ⟨54, _⟩ => ⟨S20x4096x1, .f32⟩
  | .hbm, ⟨55, _⟩ => ⟨S_, .f32⟩
  | .hbm, ⟨56, _⟩ => ⟨S20x4096x1, .f32⟩
  | .hbm, ⟨57, _⟩ => ⟨S20x4096x1, .f32⟩
  | .hbm, ⟨58, _⟩ => ⟨S20x4096x1, .f32⟩
  | .hbm, ⟨59, _⟩ => ⟨S20x4096x256, .f32⟩
  | .hbm, ⟨60, _⟩ => ⟨S20x4096x256, .f32⟩
  | .hbm, ⟨61, _⟩ => ⟨S1x1x256, .f32⟩
  | .hbm, ⟨62, _⟩ => ⟨S20x4096x256, .f32⟩
  | .hbm, ⟨63, _⟩ => ⟨S20x4096x256, .f32⟩
  | .hbm, ⟨64, _⟩ => ⟨S1x256, .f32⟩
  | .hbm, ⟨65, _⟩ => ⟨S256, .f32⟩
  | .hbm, ⟨66, _⟩ => ⟨S20x4096x256, .f32⟩
  | .hbm, ⟨67, _⟩ => ⟨S_, .f32⟩
  | .hbm, ⟨68, _⟩ => ⟨S20x4096, .f32⟩
  | .hbm, ⟨69, _⟩ => ⟨S20x4096x1, .f32⟩
  | .hbm, ⟨70, _⟩ => ⟨S_, .f32⟩
  | .hbm, ⟨71, _⟩ => ⟨S20x4096x1, .f32⟩
  | .hbm, ⟨72, _⟩ => ⟨S20x4096x1, .f32⟩
  | .hbm, ⟨73, _⟩ => ⟨S_, .f32⟩
  | .hbm, ⟨74, _⟩ => ⟨S20x4096x1, .f32⟩
  | .hbm, ⟨75, _⟩ => ⟨S20x4096x1, .f32⟩
  | .hbm, ⟨76, _⟩ => ⟨S20x4096x1, .f32⟩
  | .hbm, ⟨77, _⟩ => ⟨S20x4096x256, .f32⟩
  | .hbm, ⟨78, _⟩ => ⟨S20x4096x256, .f32⟩
  | .hbm, ⟨79, _⟩ => ⟨S1x1x256, .f32⟩
  | .hbm, ⟨80, _⟩ => ⟨S20x4096x256, .f32⟩
  | .hbm, ⟨81, _⟩ => ⟨S20x4096x256, .f32⟩
  | .hbm, ⟨82, _⟩ => ⟨S20x4096x1024, .f32⟩
  | .hbm, ⟨83, _⟩ => ⟨S20x4096x1024, .f32⟩
  | .hbm, ⟨84, _⟩ => ⟨S20x4096x1024, .f32⟩
  | .hbm, ⟨85, _⟩ => ⟨S20x4096x1024, .f32⟩
  | .hbm, ⟨86, _⟩ => ⟨S_, .f32⟩
  | .hbm, ⟨87, _⟩ => ⟨S20x4096, .f32⟩
  | .hbm, ⟨88, _⟩ => ⟨S20x4096x1, .f32⟩
  | .hbm, ⟨89, _⟩ => ⟨S_, .f32⟩
  | .hbm, ⟨90, _⟩ => ⟨S20x4096x1, .f32⟩
  | .hbm, ⟨91, _⟩ => ⟨S20x4096x1, .f32⟩
  | .hbm, ⟨92, _⟩ => ⟨S_, .f32⟩
  | .hbm, ⟨93, _⟩ => ⟨S20x4096x1, .f32⟩
  | .hbm, ⟨94, _⟩ => ⟨S20x4096x1, .f32⟩
  | .hbm, ⟨95, _⟩ => ⟨S20x4096x1, .f32⟩
  | .hbm, ⟨96, _⟩ => ⟨S20x4096x1024, .f32⟩
  | .hbm, ⟨97, _⟩ => ⟨S20x4096x1024, .f32⟩
  | .hbm, ⟨98, _⟩ => ⟨S1x1x1024, .f32⟩
  | .hbm, ⟨99, _⟩ => ⟨S20x4096x1024, .f32⟩
  | .hbm, ⟨100, _⟩ => ⟨S20x4096x1024, .f32⟩
  | .hbm, ⟨101, _⟩ => ⟨S20x4096x4096, .f32⟩
  | .hbm, ⟨102, _⟩ => ⟨S_, .f32⟩
  | .hbm, ⟨103, _⟩ => ⟨S20x4096x4096, .f32⟩
  | .hbm, ⟨104, _⟩ => ⟨S20x4096x4096, .f32⟩
  | .hbm, ⟨105, _⟩ => ⟨S20x4096x4096, .f32⟩
  | .hbm, ⟨106, _⟩ => ⟨S20x4096x1024, .f32⟩
  | .hbm, ⟨107, _⟩ => ⟨S20x4096x1024, .f32⟩
  | .hbm, ⟨108, _⟩ => ⟨S81920x1024, .f32⟩
  | _, _ => ⟨S20x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_cst_13 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_call0_cst : Ref sig .tc := ⟨.hbm, 102, rfl⟩
abbrev main_call0_v0 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩

abbrev nD : Nat := 1
abbrev τ : Topo := Topo.v7x

variable {F : FTy → Type} [FloatOps F]
-- ==== Kernel2.lean ====
abbrev S20x4096x1024 : Shape := ⟨3, ![20, 4096, 1024]⟩
abbrev S1024 : Shape := ⟨1, ![1024]⟩
abbrev S1024x2816 : Shape := ⟨2, ![1024, 2816]⟩
abbrev S81920x1024 : Shape := ⟨2, ![81920, 1024]⟩
abbrev S1x1024 : Shape := ⟨2, ![1, 1024]⟩
abbrev S81920x256 : Shape := ⟨2, ![81920, 256]⟩
abbrev S81920x768 : Shape := ⟨2, ![81920, 768]⟩
abbrev S512x1024 : Shape := ⟨2, ![512, 1024]⟩
abbrev S512x256 : Shape := ⟨2, ![512, 256]⟩
abbrev S512x768 : Shape := ⟨2, ![512, 768]⟩
abbrev S512 : Shape := ⟨1, ![512]⟩
abbrev S512x1 : Shape := ⟨2, ![512, 1]⟩
abbrev S1024x256 : Shape := ⟨2, ![1024, 256]⟩
abbrev S1024x768 : Shape := ⟨2, ![1024, 768]⟩
abbrev S1024x1024 : Shape := ⟨2, ![1024, 1024]⟩

abbrev nBuf : Space → Nat
  | .hbm => 12
  | .vmem => 16
  | .smem => 0
  | _ => 0

abbrev bufTy : (tb : Table) → Fin (tcTables nBuf tb) → BufTy
  | .hbm, ⟨0, _⟩ => ⟨S20x4096x1024, .f32⟩
  | .hbm, ⟨1, _⟩ => ⟨S1024, .f32⟩
  | .hbm, ⟨2, _⟩ => ⟨S1024x2816, .f32⟩
  | .hbm, ⟨3, _⟩ => ⟨S81920x1024, .f32⟩
  | .hbm, ⟨4, _⟩ => ⟨S1024x2816, .bf16⟩
  | .hbm, ⟨5, _⟩ => ⟨S1x1024, .f32⟩
  | .hbm, ⟨6, _⟩ => ⟨S81920x256, .f32⟩
  | .hbm, ⟨7, _⟩ => ⟨S81920x768, .f32⟩
  | .hbm, ⟨8, _⟩ => ⟨S81920x1024, .f32⟩
  | .hbm, ⟨9, _⟩ => ⟨S81920x256, .f32⟩
  | .hbm, ⟨10, _⟩ => ⟨S81920x256, .f32⟩
  | .hbm, ⟨11, _⟩ => ⟨S81920x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S512x256, .f32⟩
  | .local _ .vmem, ⟨5, _⟩ => ⟨S512x256, .f32⟩
  | .local _ .vmem, ⟨6, _⟩ => ⟨S512x768, .f32⟩
  | .local _ .vmem, ⟨7, _⟩ => ⟨S512x768, .f32⟩
  | .local _ .vmem, ⟨8, _⟩ => ⟨S512x1024, .f32⟩
  | .local _ .vmem, ⟨9, _⟩ => ⟨S512x1024, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S20x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S20x4096x1024 : Shape := ⟨3, ![20, 4096, 1024]⟩
abbrev S1024 : Shape := ⟨1, ![1024]⟩
abbrev S1024x2816 : Shape := ⟨2, ![1024, 2816]⟩
abbrev S_ : Shape := ⟨0, ![]⟩
abbrev S20x4096 : Shape := ⟨2, ![20, 4096]⟩
abbrev S20x4096x1 : Shape := ⟨3, ![20, 4096, 1]⟩
abbrev S1x1x1024 : Shape := ⟨3, ![1, 1, 1024]⟩
abbrev S20x4096x2816 : Shape := ⟨3, ![20, 4096, 2816]⟩
abbrev S20x4096x256 : Shape := ⟨3, ![20, 4096, 256]⟩
abbrev S20x4096x768 : Shape := ⟨3, ![20, 4096, 768]⟩
abbrev S81920x256 : Shape := ⟨2, ![81920, 256]⟩
abbrev S81920x768 : Shape := ⟨2, ![81920, 768]⟩
abbrev S81920x1024 : Shape := ⟨2, ![81920, 1024]⟩

abbrev nBuf : Space → Nat
  | .hbm => 33
  | .vmem => 0
  | .smem => 0
  | _ => 0

abbrev bufTy : (tb : Table) → Fin (tcTables nBuf tb) → BufTy
  | .hbm, ⟨0, _⟩ => ⟨S20x4096x1024, .f32⟩
  | .hbm, ⟨1, _⟩ => ⟨S1024, .f32⟩
  | .hbm, ⟨2, _⟩ => ⟨S1024x2816, .f32⟩
  | .hbm, ⟨3, _⟩ => ⟨S20x4096x1024, .f32⟩
  | .hbm, ⟨4, _⟩ => ⟨S_, .f32⟩
  | .hbm, ⟨5, _⟩ => ⟨S20x4096, .f32⟩
  | .hbm, ⟨6, _⟩ => ⟨S20x4096x1, .f32⟩
  | .hbm, ⟨7, _⟩ => ⟨S_, .f32⟩
  | .hbm, ⟨8, _⟩ => ⟨S20x4096x1, .f32⟩
  | .hbm, ⟨9, _⟩ => ⟨S20x4096x1, .f32⟩
  | .hbm, ⟨10, _⟩ => ⟨S_, .f32⟩
  | .hbm, ⟨11, _⟩ => ⟨S20x4096x1, .f32⟩
  | .hbm, ⟨12, _⟩ => ⟨S20x4096x1, .f32⟩
  | .hbm, ⟨13, _⟩ => ⟨S20x4096x1, .f32⟩
  | .hbm, ⟨14, _⟩ => ⟨S20x4096x1024, .f32⟩
  | .hbm, ⟨15, _⟩ => ⟨S20x4096x1024, .f32⟩
  | .hbm, ⟨16, _⟩ => ⟨S1x1x1024, .f32⟩
  | .hbm, ⟨17, _⟩ => ⟨S20x4096x1024, .f32⟩
  | .hbm, ⟨18, _⟩ => ⟨S20x4096x1024, .f32⟩
  | .hbm, ⟨19, _⟩ => ⟨S20x4096x2816, .f32⟩
  | .hbm, ⟨20, _⟩ => ⟨S20x4096x256, .f32⟩
  | .hbm, ⟨21, _⟩ => ⟨S20x4096x768, .f32⟩
  | .hbm, ⟨22, _⟩ => ⟨S20x4096x1024, .f32⟩
  | .hbm, ⟨23, _⟩ => ⟨S20x4096x768, .f32⟩
  | .hbm, ⟨24, _⟩ => ⟨S20x4096x256, .f32⟩
  | .hbm, ⟨25, _⟩ => ⟨S20x4096x256, .f32⟩
  | .hbm, ⟨26, _⟩ => ⟨S20x4096x256, .f32⟩
  | .hbm, ⟨27, _⟩ => ⟨S81920x256, .f32⟩
  | .hbm, ⟨28, _⟩ => ⟨S81920x768, .f32⟩
  | .hbm, ⟨29, _⟩ => ⟨S81920x1024, .f32⟩
  | .hbm, ⟨30, _⟩ => ⟨S81920x256, .f32⟩
  | .hbm, ⟨31, _⟩ => ⟨S81920x256, .f32⟩
  | .hbm, ⟨32, _⟩ => ⟨S81920x256, .f32⟩
  | _, _ => ⟨S20x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Kernel3.lean ====
abbrev S4x81920x64 : Shape := ⟨3, ![4, 81920, 64]⟩
abbrev S4x20x4096x64 : Shape := ⟨4, ![4, 20, 4096, 64]⟩
abbrev S4096x64x4x20 : Shape := ⟨4, ![4096, 64, 4, 20]⟩
abbrev S4096x64x80 : Shape := ⟨3, ![4096, 64, 80]⟩
abbrev S16x64x80 : Shape := ⟨3, ![16, 64, 80]⟩
abbrev S2x64x64x80 : Shape := ⟨4, ![2, 64, 64, 80]⟩
abbrev S1x64x80 : Shape := ⟨3, ![1, 64, 80]⟩
abbrev S64x80 : Shape := ⟨2, ![64, 80]⟩
abbrev S1x1x64x80 : Shape := ⟨4, ![1, 1, 64, 80]⟩
abbrev S1x1x80 : Shape := ⟨3, ![1, 1, 80]⟩
abbrev S1x80 : Shape := ⟨2, ![1, 80]⟩

abbrev nBuf : Space → Nat
  | .hbm => 38
  | .vmem => 29
  | .smem => 0
  | _ => 0

abbrev bufTy : (tb : Table) → Fin (tcTables nBuf tb) → BufTy
  | .hbm, ⟨0, _⟩ => ⟨S4x81920x64, .f32⟩
  | .hbm, ⟨1, _⟩ => ⟨S4x81920x64, .f32⟩
  | .hbm, ⟨2, _⟩ => ⟨S4x81920x64, .f32⟩
  | .hbm, ⟨3, _⟩ => ⟨S4x81920x64, .f32⟩
  | .hbm, ⟨4, _⟩ => ⟨S4x81920x64, .f32⟩
  | .hbm, ⟨5, _⟩ => ⟨S4x81920x64, .f32⟩
  | .hbm, ⟨6, _⟩ => ⟨S4x81920x64, .f32⟩
  | .hbm, ⟨7, _⟩ => ⟨S4x81920x64, .f32⟩
  | .hbm, ⟨8, _⟩ => ⟨S4x81920x64, .f32⟩
  | .hbm, ⟨9, _⟩ => ⟨S4x20x4096x64, .f32⟩
  | .hbm, ⟨10, _⟩ => ⟨S4096x64x4x20, .f32⟩
  | .hbm, ⟨11, _⟩ => ⟨S4096x64x80, .f32⟩
  | .hbm, ⟨12, _⟩ => ⟨S4x20x4096x64, .f32⟩
  | .hbm, ⟨13, _⟩ => ⟨S4096x64x4x20, .f32⟩
  | .hbm, ⟨14, _⟩ => ⟨S4096x64x80, .f32⟩
  | .hbm, ⟨15, _⟩ => ⟨S4x20x4096x64, .f32⟩
  | .hbm, ⟨16, _⟩ => ⟨S4096x64x4x20, .f32⟩
  | .hbm, ⟨17, _⟩ => ⟨S4096x64x80, .f32⟩
  | .hbm, ⟨18, _⟩ => ⟨S4x20x4096x64, .f32⟩
  | .hbm, ⟨19, _⟩ => ⟨S4096x64x4x20, .f32⟩
  | .hbm, ⟨20, _⟩ => ⟨S4096x64x80, .f32⟩
  | .hbm, ⟨21, _⟩ => ⟨S4x20x4096x64, .f32⟩
  | .hbm, ⟨22, _⟩ => ⟨S4096x64x4x20, .f32⟩
  | .hbm, ⟨23, _⟩ => ⟨S4096x64x80, .f32⟩
  | .hbm, ⟨24, _⟩ => ⟨S4x20x4096x64, .f32⟩
  | .hbm, ⟨25, _⟩ => ⟨S4096x64x4x20, .f32⟩
  | .hbm, ⟨26, _⟩ => ⟨S4096x64x80, .f32⟩
  | .hbm, ⟨27, _⟩ => ⟨S4x20x4096x64, .f32⟩
  | .hbm, ⟨28, _⟩ => ⟨S4096x64x4x20, .f32⟩
  | .hbm, ⟨29, _⟩ => ⟨S4096x64x80, .f32⟩
  | .hbm, ⟨30, _⟩ => ⟨S4x20x4096x64, .f32⟩
  | .hbm, ⟨31, _⟩ => ⟨S4096x64x4x20, .f32⟩
  | .hbm, ⟨32, _⟩ => ⟨S4096x64x80, .f32⟩
  | .hbm, ⟨33, _⟩ => ⟨S4x20x4096x64, .f32⟩
  | .hbm, ⟨34, _⟩ => ⟨S4096x64x4x20, .f32⟩
  | .hbm, ⟨35, _⟩ => ⟨S4096x64x80, .f32⟩
  | .hbm, ⟨36, _⟩ => ⟨S4096x64x80, .f32⟩
  | .hbm, ⟨37, _⟩ => ⟨S4096x64x80, .f32⟩
  | .local _ .vmem, ⟨0, _⟩ => ⟨S16x64x80, .f32⟩
  | .local _ .vmem, ⟨1, _⟩ => ⟨S16x64x80, .f32⟩
  | .local _ .vmem, ⟨2, _⟩ => ⟨S16x64x80, .f32⟩
  | .local _ .vmem, ⟨3, _⟩ => ⟨S16x64x80, .f32⟩
  | .local _ .vmem, ⟨4, _⟩ => ⟨S16x64x80, .f32⟩
  | .local _ .vmem, ⟨5, _⟩ => ⟨S16x64x80, .f32⟩
  | .local _ .vmem, ⟨6, _⟩ => ⟨S16x64x80, .f32⟩
  | .local _ .vmem, ⟨7, _⟩ => ⟨S16x64x80, .f32⟩
  | .local _ .vmem, ⟨8, _⟩ => ⟨S16x64x80, .f32⟩
  | .local _ .vmem, ⟨9, _⟩ => ⟨S16x64x80, .f32⟩
  | .local _ .vmem, ⟨10, _⟩ => ⟨S16x64x80, .f32⟩
  | .local _ .vmem, ⟨11, _⟩ => ⟨S16x64x80, .f32⟩
  | .local _ .vmem, ⟨12, _⟩ => ⟨S16x64x80, .f32⟩
  | .local _ .vmem, ⟨13, _⟩ => ⟨S16x64x80, .f32⟩
  | .local _ .vmem, ⟨14, _⟩ => ⟨S16x64x80, .f32⟩
  | .local _ .vmem, ⟨15, _⟩ => ⟨S16x64x80, .f32⟩
  | .local _ .vmem, ⟨16, _⟩ => ⟨S16x64x80, .f32⟩
  | .local _ .vmem, ⟨17, _⟩ => ⟨S16x64x80, .f32⟩
  | .local _ .vmem, ⟨18, _⟩ => ⟨S16x64x80, .f32⟩
  | .local _ .vmem, ⟨19, _⟩ => ⟨S16x64x80, .f32⟩
  | .local _ .vmem, ⟨20, _⟩ => ⟨S16x64x80, .f32⟩
  | .local _ .vmem, ⟨21, _⟩ => ⟨S16x64x80, .f32⟩
  | .local _ .vmem, ⟨22, _⟩ => ⟨S16x64x80, .f32⟩
  | .local _ .vmem, ⟨23, _⟩ => ⟨S16x64x80, .f32⟩
  | .local _ .vmem, ⟨24, _⟩ => ⟨S16x64x80, .f32⟩
  | .local _ .vmem, ⟨25, _⟩ => ⟨S16x64x80, .f32⟩
  | .local _ .vmem, ⟨26, _⟩ => ⟨S16x64x80, .f32⟩
  | .local _ .vmem, ⟨27, _⟩ => ⟨S16x64x80, .f32⟩
  | .local _ .vmem, ⟨28, _⟩ => ⟨S2x64x64x80, .f32⟩
  | _, _ => ⟨S4x81920x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27_0 : Ref sig .tc := ⟨.hbm, 36, rfl⟩
abbrev main_v27_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![256], ![false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_off1 (k0_t1 : Fin k0_t1_loop.trips) : Fin 3 → Nat :=
  let c0_i32_1 : BitVec 32 := 0#32
  let c1_i32 : BitVec 32 := 1#32
  let arg16 : BitVec 32 := Scf.iv c0_i32_1 c1_i32 k0_t1
  let v4 : Index := Scalar.indexCast arg16
  let c0 : Index := 0#32
  let c0_3 : Index := 0#32
  ![v4.toNat, 0, 0]
@[reducible] def k0_t2_loop : Scf.Loop 32 :=
  let c0_i32_4 : BitVec 32 := 0#32
  let c64_i32 : BitVec 32 := 64#32
  let v8 : BitVec 32 := Scalar.addi c0_i32_4 c64_i32
  let c1_i32_5 : BitVec 32 := 1#32
  ⟨c0_i32_4, v8, c1_i32_5⟩
def k0_off2 (k0_t2 : Fin k0_t2_loop.trips) : Fin 4 → Nat :=
  let c0_28 : Index := 0#32
  let c0_i32_4 : BitVec 32 := 0#32
  let c1_i32_5 : BitVec 32 := 1#32
  let arg17 : BitVec 32 := Scf.iv c0_i32_4 c1_i32_5 k0_t2
  let v31 : Index := Scalar.indexCast arg17
  let c0_29 : Index := 0#32
  let c0_30 : Index := 0#32
  ![0, v31.toNat, 0, 0]
def k0_off3 (k0_t1 : Fin k0_t1_loop.trips) (k0_t2 : Fin k0_t2_loop.trips) : Fin 3 → Nat :=
  let c0_i32_1 : BitVec 32 := 0#32
  let c1_i32 : BitVec 32 := 1#32
  let arg16 : BitVec 32 := Scf.iv c0_i32_1 c1_i32 k0_t1
  let v34 : Index := Scalar.indexCast arg16
  let c0_i32_4 : BitVec 32 := 0#32
  let c1_i32_5 : BitVec 32 := 1#32
  let arg17 : BitVec 32 := Scf.iv c0_i32_4 c1_i32_5 k0_t2
  let v35 : Index := Scalar.indexCast arg17
  let c0_31 : Index := 0#32
  ![v34.toNat, v35.toNat, 0]
@[reducible] def k0_t3_loop : Scf.Loop 32 :=
  let c0_i32_8 : BitVec 32 := 0#32
  let c64_i32_9 : BitVec 32 := 64#32
  let v11 : BitVec 32 := Scalar.addi c0_i32_8 c64_i32_9
  let c1_i32_10 : BitVec 32 := 1#32
  ⟨c0_i32_8, v11, c1_i32_10⟩
def k0_off4 (k0_t3 : Fin k0_t3_loop.trips) : Fin 4 → Nat :=
  let c0_28 : Index := 0#32
  let c0_i32_8 : BitVec 32 := 0#32
  let c1_i32_10 : BitVec 32 := 1#32
  let arg17 : BitVec 32 := Scf.iv c0_i32_8 c1_i32_10 k0_t3
  let v31 : Index := Scalar.indexCast arg17
  let c0_29 : Index := 0#32
  let c0_30 : Index := 0#32
  ![0, v31.toNat, 0, 0]
def k0_off5 (k0_t1 : Fin k0_t1_loop.trips) (k0_t3 : Fin k0_t3_loop.trips) : Fin 3 → Nat :=
  let c0_i32_1 : BitVec 32 := 0#32
  let c1_i32 : BitVec 32 := 1#32
  let arg16 : BitVec 32 := Scf.iv c0_i32_1 c1_i32 k0_t1
  let v34 : Index := Scalar.indexCast arg16
  let c0_i32_8 : BitVec 32 := 0#32
  let c1_i32_10 : BitVec 32 := 1#32
  let arg17 : BitVec 32 := Scf.iv c0_i32_8 c1_i32_10 k0_t3
  let v35 : Index := Scalar.indexCast arg17
  let c0_31 : Index := 0#32
  ![v34.toNat, v35.toNat, 0]
def k0_off6 (k0_t1 : Fin k0_t1_loop.trips) : Fin 3 → Nat :=
  let c15_i32 : BitVec 32 := 15#32
  let c0_i32_1 : BitVec 32 := 0#32
  let c1_i32 : BitVec 32 := 1#32
  let arg16 : BitVec 32 := Scf.iv c0_i32_1 c1_i32 k0_t1
  let v17 : BitVec 32 := Scalar.subi c15_i32 arg16
  let v18 : Index := Scalar.indexCast v17
  let c0_14 : Index := 0#32
  let c0_15 : Index := 0#32
  ![v18.toNat, 0, 0]
@[reducible] def k0_t4_loop : Scf.Loop 32 :=
  let c0_i32_17 : BitVec 32 := 0#32
  let c64_i32_18 : BitVec 32 := 64#32
  let v22 : BitVec 32 := Scalar.addi c0_i32_17 c64_i32_18
  let c1_i32_19 : BitVec 32 := 1#32
  ⟨c0_i32_17, v22, c1_i32_19⟩
def k0_off7 (k0_t4 : Fin k0_t4_loop.trips) : Fin 4 → Nat :=
  let c1 : Index := 1#32
  let c0_i32_17 : BitVec 32 := 0#32
  let c1_i32_19 : BitVec 32 := 1#32
  let arg17 : BitVec 32 := Scf.iv c0_i32_17 c1_i32_19 k0_t4
  let v31 : Index := Scalar.indexCast arg17
  let c0_28 : Index := 0#32
  let c0_29 : Index := 0#32
  ![1, v31.toNat, 0, 0]
def k0_off8 (k0_t1 : Fin k0_t1_loop.trips) (k0_t4 : Fin k0_t4_loop.trips) : Fin 3 → Nat :=
  let c15_i32 : BitVec 32 := 15#32
  let c0_i32_1 : BitVec 32 := 0#32
  let c1_i32 : BitVec 32 := 1#32
  let arg16 : BitVec 32 := Scf.iv c0_i32_1 c1_i32 k0_t1
  let v17 : BitVec 32 := Scalar.subi c15_i32 arg16
  let v34 : Index := Scalar.indexCast v17
  let c0_i32_17 : BitVec 32 := 0#32
  let c1_i32_19 : BitVec 32 := 1#32
  let arg17 : BitVec 32 := Scf.iv c0_i32_17 c1_i32_19 k0_t4
  let v35 : Index := Scalar.indexCast arg17
  let c0_30 : Index := 0#32
  ![v34.toNat, v35.toNat, 0]
@[reducible] def k0_t5_loop : Scf.Loop 32 :=
  let c0_i32_22 : BitVec 32 := 0#32
  let c64_i32_23 : BitVec 32 := 64#32
  let v25 : BitVec 32 := Scalar.addi c0_i32_22 c64_i32_23
  let c1_i32_24 : BitVec 32 := 1#32
  ⟨c0_i32_22, v25, c1_i32_24⟩
def k0_off9 (k0_t5 : Fin k0_t5_loop.trips) : Fin 4 → Nat :=
  let c1 : Index := 1#32
  let c0_i32_22 : BitVec 32 := 0#32
  let c1_i32_24 : BitVec 32 := 1#32
  let arg17 : BitVec 32 := Scf.iv c0_i32_22 c1_i32_24 k0_t5
  let v31 : Index := Scalar.indexCast arg17
  let c0_28 : Index := 0#32
  let c0_29 : Index := 0#32
  ![1, v31.toNat, 0, 0]
def k0_off10 (k0_t1 : Fin k0_t1_loop.trips) (k0_t5 : Fin k0_t5_loop.trips) : Fin 3 → Nat :=
  let c15_i32 : BitVec 32 := 15#32
  let c0_i32_1 : BitVec 32 := 0#32
  let c1_i32 : BitVec 32 := 1#32
  let arg16 : BitVec 32 := Scf.iv c0_i32_1 c1_i32 k0_t1
  let v17 : BitVec 32 := Scalar.subi c15_i32 arg16
  let v34 : Index := Scalar.indexCast v17
  let c0_i32_22 : BitVec 32 := 0#32
  let c1_i32_24 : BitVec 32 := 1#32
  let arg17 : BitVec 32 := Scf.iv c0_i32_22 c1_i32_24 k0_t5
  let v35 : Index := Scalar.indexCast arg17
  let c0_30 : Index := 0#32
  ![v34.toNat, v35.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c255_i32 : BitVec 32 := 255#32
  let v0 : BitVec 32 := Scalar.subi c255_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let c255_i32 : BitVec 32 := 255#32
  let v0 : BitVec 32 := Scalar.subi c255_i32 arg0
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 3 → Nat :=
  let arg0 : BitVec 32 := BitVec.ofNat 32 (i 0).val
  let c255_i32 : BitVec 32 := 255#32
  let v0 : BitVec 32 := Scalar.subi c255_i32 arg0
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 3 → Nat :=
  let arg0 : BitVec 32 := BitVec.ofNat 32 (i 0).val
  let c255_i32 : BitVec 32 := 255#32
  let v0 : BitVec 32 := Scalar.subi c255_i32 arg0
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 3 → Nat :=
  let arg0 : BitVec 32 := BitVec.ofNat 32 (i 0).val
  let c255_i32 : BitVec 32 := 255#32
  let v0 : BitVec 32 := Scalar.subi c255_i32 arg0
  let c0_i32 : BitVec 32 := 0#32
  let c0_i32_0 : BitVec 32 := 0#32
  let c0_i32_1 : BitVec 32 := 0#32
  ![v0.toNat, c0_i32.toNat, c0_i32_0.toNat]

def cc0_transform_11 (i : grid0.Coords) : Fin 3 → Nat :=
  let arg0 : BitVec 32 := BitVec.ofNat 32 (i 0).val
  let c255_i32 : BitVec 32 := 255#32
  let v0 : BitVec 32 := Scalar.subi c255_i32 arg0
  let c0_i32 : BitVec 32 := 0#32
  let c0_i32_0 : BitVec 32 := 0#32
  let c0_i32_1 : BitVec 32 := 0#32
  ![v0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c255_i32 : BitVec 32 := 255#32
  let v0 : BitVec 32 := Scalar.subi c255_i32 arg0
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S16x64x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x64x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x64x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x64x80 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x64x80 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x64x80 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x64x80 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x64x80 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x64x80 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x64x80 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x64x80 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x64x80 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x64x80 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x64x80 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S4x81920x64 : Shape := ⟨3, ![4, 81920, 64]⟩
abbrev S4x20x4096x64 : Shape := ⟨4, ![4, 20, 4096, 64]⟩
abbrev S4096x4x20x64 : Shape := ⟨4, ![4096, 4, 20, 64]⟩
abbrev S_ : Shape := ⟨0, ![]⟩
abbrev S4x20x64x64 : Shape := ⟨4, ![4, 20, 64, 64]⟩
abbrev S1x4x20x64 : Shape := ⟨4, ![1, 4, 20, 64]⟩
abbrev S4x20x64 : Shape := ⟨3, ![4, 20, 64]⟩
abbrev S4x20x1x64 : Shape := ⟨4, ![4, 20, 1, 64]⟩
abbrev S4x20x64x1 : Shape := ⟨4, ![4, 20, 64, 1]⟩
abbrev S4096x64x4x20 : Shape := ⟨4, ![4096, 64, 4, 20]⟩
abbrev S4096x64x80 : Shape := ⟨3, ![4096, 64, 80]⟩

abbrev nBuf : Space → Nat
  | .hbm => 181
  | .vmem => 0
  | .smem => 0
  | _ => 0

abbrev hbmTy0_0 (i : Nat) : BufTy := match i % 128 with
  | 0 => ⟨S4x81920x64, .f32⟩
  | 1 => ⟨S4x81920x64, .f32⟩
  | 2 => ⟨S4x81920x64, .f32⟩
  | 3 => ⟨S4x81920x64, .f32⟩
  | 4 => ⟨S4x81920x64, .f32⟩
  | 5 => ⟨S4x81920x64, .f32⟩
  | 6 => ⟨S4x81920x64, .f32⟩
  | 7 => ⟨S4x81920x64, .f32⟩
  | 8 => ⟨S4x81920x64, .f32⟩
  | 9 => ⟨S4x20x4096x64, .f32⟩
  | 10 => ⟨S4096x4x20x64, .f32⟩
  | 11 => ⟨S4x20x4096x64, .f32⟩
  | 12 => ⟨S4096x4x20x64, .f32⟩
  | 13 => ⟨S4x20x4096x64, .f32⟩
  | 14 => ⟨S4096x4x20x64, .f32⟩
  | 15 => ⟨S4x20x4096x64, .f32⟩
  | 16 => ⟨S4096x4x20x64, .f32⟩
  | 17 => ⟨S4x20x4096x64, .f32⟩
  | 18 => ⟨S4096x4x20x64, .f32⟩
  | 19 => ⟨S4x20x4096x64, .f32⟩
  | 20 => ⟨S4096x4x20x64, .f32⟩
  | 21 => ⟨S_, .f32⟩
  | 22 => ⟨S4x20x64x64, .f32⟩
  | 23 => ⟨S_, .f32⟩
  | 24 => ⟨S4096x4x20x64, .f32⟩
  | 25 => ⟨S_, .i32⟩
  | 26 => ⟨S4096x4x20x64, .f32⟩
  | 27 => ⟨S4096x4x20x64, .f32⟩
  | 28 => ⟨S4096x4x20x64, .f32⟩
  | 29 => ⟨S4096x4x20x64, .f32⟩
  | 30 => ⟨S4096x4x20x64, .f32⟩
  | 31 => ⟨S4096x4x20x64, .f32⟩
  | 32 => ⟨S_, .i32⟩
  | 33 => ⟨S4x20x64x64, .f32⟩
  | 34 => ⟨S4096x4x20x64, .f32⟩
  | 35 => ⟨S_, .i32⟩
  | 36 => ⟨S_, .i1⟩
  | 37 => ⟨S_, .i32⟩
  | 38 => ⟨S_, .i32⟩
  | 39 => ⟨S_, .i32⟩
  | 40 => ⟨S1x4x20x64, .f32⟩
  | 41 => ⟨S4x20x64, .f32⟩
  | 42 => ⟨S_, .i32⟩
  | 43 => ⟨S_, .i32⟩
  | 44 => ⟨S_, .i32⟩
  | 45 => ⟨S1x4x20x64, .f32⟩
  | 46 => ⟨S4x20x64, .f32⟩
  | 47 => ⟨S_, .i32⟩
  | 48 => ⟨S_, .i32⟩
  | 49 => ⟨S_, .i32⟩
  | 50 => ⟨S1x4x20x64, .f32⟩
  | 51 => ⟨S4x20x64, .f32⟩
  | 52 => ⟨S_, .i32⟩
  | 53 => ⟨S_, .i32⟩
  | 54 => ⟨S_, .i32⟩
  | 55 => ⟨S1x4x20x64, .f32⟩
  | 56 => ⟨S4x20x64, .f32⟩
  | 57 => ⟨S_, .i32⟩
  | 58 => ⟨S_, .i32⟩
  | 59 => ⟨S_, .i32⟩
  | 60 => ⟨S1x4x20x64, .f32⟩
  | 61 => ⟨S4x20x64, .f32⟩
  | 62 => ⟨S_, .i32⟩
  | 63 => ⟨S_, .i32⟩
  | 64 => ⟨S_, .i32⟩
  | 65 => ⟨S1x4x20x64, .f32⟩
  | 66 => ⟨S4x20x64, .f32⟩
  | 67 => ⟨S4x20x64, .f32⟩
  | 68 => ⟨S4x20x1x64, .f32⟩
  | 69 => ⟨S4x20x64x64, .f32⟩
  | 70 => ⟨S4x20x64x64, .f32⟩
  | 71 => ⟨S4x20x64x1, .f32⟩
  | 72 => ⟨S4x20x1x64, .f32⟩
  | 73 => ⟨S4x20x64x64, .f32⟩
  | 74 => ⟨S4x20x64x64, .f32⟩
  | 75 => ⟨S4x20x64x64, .f32⟩
  | 76 => ⟨S4x20x64x64, .f32⟩
  | 77 => ⟨S4x20x64x1, .f32⟩
  | 78 => ⟨S4x20x1x64, .f32⟩
  | 79 => ⟨S4x20x64x64, .f32⟩
  | 80 => ⟨S4x20x64x64, .f32⟩
  | 81 => ⟨S4x20x64x64, .f32⟩
  | 82 => ⟨S4x20x64x64, .f32⟩
  | 83 => ⟨S4x20x64, .f32⟩
  | 84 => ⟨S1x4x20x64, .f32⟩
  | 85 => ⟨S_, .i32⟩
  | 86 => ⟨S_, .i32⟩
  | 87 => ⟨S_, .i32⟩
  | 88 => ⟨S4096x4x20x64, .f32⟩
  | 89 => ⟨S_, .i32⟩
  | 90 => ⟨S_, .i32⟩
  | 91 => ⟨S4096x64x4x20, .f32⟩
  | 92 => ⟨S4096x64x80, .f32⟩
  | 93 => ⟨S4x20x4096x64, .f32⟩
  | 94 => ⟨S4096x4x20x64, .f32⟩
  | 95 => ⟨S4x20x4096x64, .f32⟩
  | 96 => ⟨S4096x4x20x64, .f32⟩
  | 97 => ⟨S4x20x4096x64, .f32⟩
  | 98 => ⟨S4096x4x20x64, .f32⟩
  | 99 => ⟨S4x20x4096x64, .f32⟩
  | 100 => ⟨S4096x4x20x64, .f32⟩
  | 101 => ⟨S4x20x4096x64, .f32⟩
  | 102 => ⟨S4096x4x20x64, .f32⟩
  | 103 => ⟨S4x20x4096x64, .f32⟩
  | 104 => ⟨S4096x4x20x64, .f32⟩
  | 105 => ⟨S_, .f32⟩
  | 106 => ⟨S4x20x64x64, .f32⟩
  | 107 => ⟨S_, .f32⟩
  | 108 => ⟨S4096x4x20x64, .f32⟩
  | 109 => ⟨S_, .i32⟩
  | 110 => ⟨S4096x4x20x64, .f32⟩
  | 111 => ⟨S4096x4x20x64, .f32⟩
  | 112 => ⟨S4096x4x20x64, .f32⟩
  | 113 => ⟨S4096x4x20x64, .f32⟩
  | 114 => ⟨S4096x4x20x64, .f32⟩
  | 115 => ⟨S4096x4x20x64, .f32⟩
  | 116 => ⟨S_, .i32⟩
  | 117 => ⟨S4x20x64x64, .f32⟩
  | 118 => ⟨S4096x4x20x64, .f32⟩
  | 119 => ⟨S_, .i32⟩
  | 120 => ⟨S_, .i1⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S4x81920x64, .f32⟩

abbrev hbmTy0_1 (i : Nat) : BufTy := match i % 128 with
  | 0 => ⟨S1x4x20x64, .f32⟩
  | 1 => ⟨S4x20x64, .f32⟩
  | 2 => ⟨S_, .i32⟩
  | 3 => ⟨S_, .i32⟩
  | 4 => ⟨S_, .i32⟩
  | 5 => ⟨S1x4x20x64, .f32⟩
  | 6 => ⟨S4x20x64, .f32⟩
  | 7 => ⟨S_, .i32⟩
  | 8 => ⟨S_, .i32⟩
  | 9 => ⟨S_, .i32⟩
  | 10 => ⟨S1x4x20x64, .f32⟩
  | 11 => ⟨S4x20x64, .f32⟩
  | 12 => ⟨S_, .i32⟩
  | 13 => ⟨S_, .i32⟩
  | 14 => ⟨S_, .i32⟩
  | 15 => ⟨S1x4x20x64, .f32⟩
  | 16 => ⟨S4x20x64, .f32⟩
  | 17 => ⟨S_, .i32⟩
  | 18 => ⟨S_, .i32⟩
  | 19 => ⟨S_, .i32⟩
  | 20 => ⟨S1x4x20x64, .f32⟩
  | 21 => ⟨S4x20x64, .f32⟩
  | 22 => ⟨S_, .i32⟩
  | 23 => ⟨S_, .i32⟩
  | 24 => ⟨S_, .i32⟩
  | 25 => ⟨S1x4x20x64, .f32⟩
  | 26 => ⟨S4x20x64, .f32⟩
  | 27 => ⟨S4x20x64, .f32⟩
  | 28 => ⟨S4x20x1x64, .f32⟩
  | 29 => ⟨S4x20x64x64, .f32⟩
  | 30 => ⟨S4x20x64x64, .f32⟩
  | 31 => ⟨S4x20x64x1, .f32⟩
  | 32 => ⟨S4x20x1x64, .f32⟩
  | 33 => ⟨S4x20x64x64, .f32⟩
  | 34 => ⟨S4x20x64x64, .f32⟩
  | 35 => ⟨S4x20x64x64, .f32⟩
  | 36 => ⟨S4x20x64x64, .f32⟩
  | 37 => ⟨S4x20x64x1, .f32⟩
  | 38 => ⟨S4x20x1x64, .f32⟩
  | 39 => ⟨S4x20x64x64, .f32⟩
  | 40 => ⟨S4x20x64x64, .f32⟩
  | 41 => ⟨S4x20x64x64, .f32⟩
  | 42 => ⟨S4x20x64x64, .f32⟩
  | 43 => ⟨S4x20x64, .f32⟩
  | 44 => ⟨S1x4x20x64, .f32⟩
  | 45 => ⟨S_, .i32⟩
  | 46 => ⟨S_, .i32⟩
  | 47 => ⟨S_, .i32⟩
  | 48 => ⟨S4096x4x20x64, .f32⟩
  | 49 => ⟨S_, .i32⟩
  | 50 => ⟨S_, .i32⟩
  | 51 => ⟨S4096x64x4x20, .f32⟩
  | 52 => ⟨S4096x64x80, .f32⟩
  | _ => ⟨S4x81920x64, .f32⟩

abbrev hbmTy (i : Nat) : BufTy := match i / 128 with
  | 0 => hbmTy0_0 i
  | 1 => hbmTy0_1 i
  | _ => ⟨S4x81920x64, .f32⟩

abbrev bufTy : (tb : Table) → Fin (tcTables nBuf tb) → BufTy
  | .hbm, ⟨i, _⟩ => hbmTy i
  | _, _ => ⟨S4x81920x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_c : Ref sig .tc := ⟨.hbm, 25, rfl⟩
abbrev main_v14_0 : Ref sig .tc := ⟨.hbm, 26, rfl⟩
abbrev main_v14_1 : Ref sig .tc := ⟨.hbm, 27, rfl⟩
abbrev main_v14_2 : Ref sig .tc := ⟨.hbm, 28, rfl⟩
abbrev main_v14_3 : Ref sig .tc := ⟨.hbm, 29, rfl⟩
abbrev main_v14_4 : Ref sig .tc := ⟨.hbm, 30, rfl⟩
abbrev main_v14_5 : Ref sig .tc := ⟨.hbm, 31, rfl⟩
abbrev main_v14_6 : Ref sig .tc := ⟨.hbm, 32, rfl⟩
abbrev main_v14_7 : Ref sig .tc := ⟨.hbm, 33, rfl⟩
abbrev main_v14_8 : Ref sig .tc := ⟨.hbm, 34, rfl⟩
abbrev main_while0c_c_12 : Ref sig .tc := ⟨.hbm, 35, rfl⟩
abbrev main_while0c_v34 : Ref sig .tc := ⟨.hbm, 36, rfl⟩
abbrev main_while0b_call0_c : Ref sig .tc := ⟨.hbm, 37, rfl⟩
abbrev main_while0b_call0_c_0 : Ref sig .tc := ⟨.hbm, 38, rfl⟩
abbrev main_while0b_call0_c_1 : Ref sig .tc := ⟨.hbm, 39, rfl⟩
abbrev main_while0b_call0_v0 : Ref sig .tc := ⟨.hbm, 40, rfl⟩
abbrev main_while0b_v34 : Ref sig .tc := ⟨.hbm, 41, rfl⟩
abbrev main_while0b_call1_c : Ref sig .tc := ⟨.hbm, 42, rfl⟩
abbrev main_while0b_call1_c_0 : Ref sig .tc := ⟨.hbm, 43, rfl⟩
abbrev main_while0b_call1_c_1 : Ref sig .tc := ⟨.hbm, 44, rfl⟩
abbrev main_while0b_call1_v0 : Ref sig .tc := ⟨.hbm, 45, rfl⟩
abbrev main_while0b_v35 : Ref sig .tc := ⟨.hbm, 46, rfl⟩
abbrev main_while0b_call2_c : Ref sig .tc := ⟨.hbm, 47, rfl⟩
abbrev main_while0b_call2_c_0 : Ref sig .tc := ⟨.hbm, 48, rfl⟩
abbrev main_while0b_call2_c_1 : Ref sig .tc := ⟨.hbm, 49, rfl⟩
abbrev main_while0b_call2_v0 : Ref sig .tc := ⟨.hbm, 50, rfl⟩
abbrev main_while0b_v36 : Ref sig .tc := ⟨.hbm, 51, rfl⟩
abbrev main_while0b_call3_c : Ref sig .tc := ⟨.hbm, 52, rfl⟩
abbrev main_while0b_call3_c_0 : Ref sig .tc := ⟨.hbm, 53, rfl⟩
abbrev main_while0b_call3_c_1 : Ref sig .tc := ⟨.hbm, 54, rfl⟩
abbrev main_while0b_call3_v0 : Ref sig .tc := ⟨.hbm, 55, rfl⟩
abbrev main_while0b_v37 : Ref sig .tc := ⟨.hbm, 56, rfl⟩
abbrev main_while0b_call4_c : Ref sig .tc := ⟨.hbm, 57, rfl⟩
abbrev main_while0b_call4_c_0 : Ref sig .tc := ⟨.hbm, 58, rfl⟩
abbrev main_while0b_call4_c_1 : Ref sig .tc := ⟨.hbm, 59, rfl⟩
abbrev main_while0b_call4_v0 : Ref sig .tc := ⟨.hbm, 60, rfl⟩
abbrev main_while0b_v38 : Ref sig .tc := ⟨.hbm, 61, rfl⟩
abbrev main_while0b_call5_c : Ref sig .tc := ⟨.hbm, 62, rfl⟩
abbrev main_while0b_call5_c_0 : Ref sig .tc := ⟨.hbm, 63, rfl⟩
abbrev main_while0b_call5_c_1 : Ref sig .tc := ⟨.hbm, 64, rfl⟩
abbrev main_while0b_call5_v0 : Ref sig .tc := ⟨.hbm, 65, rfl⟩
abbrev main_while0b_v39 : Ref sig .tc := ⟨.hbm, 66, rfl⟩
abbrev main_while0b_v40 : Ref sig .tc := ⟨.hbm, 67, rfl⟩
abbrev main_while0b_v41 : Ref sig .tc := ⟨.hbm, 68, rfl⟩
abbrev main_while0b_v42 : Ref sig .tc := ⟨.hbm, 69, rfl⟩
abbrev main_while0b_v43 : Ref sig .tc := ⟨.hbm, 70, rfl⟩
abbrev main_while0b_v44 : Ref sig .tc := ⟨.hbm, 71, rfl⟩
abbrev main_while0b_v45 : Ref sig .tc := ⟨.hbm, 72, rfl⟩
abbrev main_while0b_v46 : Ref sig .tc := ⟨.hbm, 73, rfl⟩
abbrev main_while0b_v47 : Ref sig .tc := ⟨.hbm, 74, rfl⟩
abbrev main_while0b_v48 : Ref sig .tc := ⟨.hbm, 75, rfl⟩
abbrev main_while0b_v49 : Ref sig .tc := ⟨.hbm, 76, rfl⟩
abbrev main_while0b_v50 : Ref sig .tc := ⟨.hbm, 77, rfl⟩
abbrev main_while0b_v51 : Ref sig .tc := ⟨.hbm, 78, rfl⟩
abbrev main_while0b_v52 : Ref sig .tc := ⟨.hbm, 79, rfl⟩
abbrev main_while0b_v53 : Ref sig .tc := ⟨.hbm, 80, rfl⟩
abbrev main_while0b_v54 : Ref sig .tc := ⟨.hbm, 81, rfl⟩
abbrev main_while0b_v55 : Ref sig .tc := ⟨.hbm, 82, rfl⟩
abbrev main_while0b_v56 : Ref sig .tc := ⟨.hbm, 83, rfl⟩
abbrev main_while0b_call6_v0 : Ref sig .tc := ⟨.hbm, 84, rfl⟩
abbrev main_while0b_call6_c : Ref sig .tc := ⟨.hbm, 85, rfl⟩
abbrev main_while0b_call6_c_0 : Ref sig .tc := ⟨.hbm, 86, rfl⟩
abbrev main_while0b_call6_c_1 : Ref sig .tc := ⟨.hbm, 87, rfl⟩
abbrev main_while0b_v57 : Ref sig .tc := ⟨.hbm, 88, rfl⟩
abbrev main_while0b_c_12 : Ref sig .tc := ⟨.hbm, 89, rfl⟩
abbrev main_while0b_v58 : Ref sig .tc := ⟨.hbm, 90, rfl⟩
abbrev main_v15 : Ref sig .tc := ⟨.hbm, 91, rfl⟩
abbrev main_v16 : Ref sig .tc := ⟨.hbm, 92, rfl⟩
abbrev main_v17 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩
abbrev main_v26 : Ref sig .tc := ⟨.hbm, 102, rfl⟩
abbrev main_v27 : Ref sig .tc := ⟨.hbm, 103, rfl⟩
abbrev main_v28 : Ref sig .tc := ⟨.hbm, 104, rfl⟩
abbrev main_cst_1 : Ref sig .tc := ⟨.hbm, 105, rfl⟩
abbrev main_v29 : Ref sig .tc := ⟨.hbm, 106, rfl⟩
abbrev main_cst_2 : Ref sig .tc := ⟨.hbm, 107, rfl⟩
abbrev main_v30 : Ref sig .tc := ⟨.hbm, 108, rfl⟩
abbrev main_c_3 : Ref sig .tc := ⟨.hbm, 109, rfl⟩
abbrev main_v31_0 : Ref sig .tc := ⟨.hbm, 110, rfl⟩
abbrev main_v31_1 : Ref sig .tc := ⟨.hbm, 111, rfl⟩
abbrev main_v31_2 : Ref sig .tc := ⟨.hbm, 112, rfl⟩
abbrev main_v31_3 : Ref sig .tc := ⟨.hbm, 113, rfl⟩
abbrev main_v31_4 : Ref sig .tc := ⟨.hbm, 114, rfl⟩
abbrev main_v31_5 : Ref sig .tc := ⟨.hbm, 115, rfl⟩
abbrev main_v31_6 : Ref sig .tc := ⟨.hbm, 116, rfl⟩
abbrev main_v31_7 : Ref sig .tc := ⟨.hbm, 117, rfl⟩
abbrev main_v31_8 : Ref sig .tc := ⟨.hbm, 118, rfl⟩
abbrev main_while1c_c_12 : Ref sig .tc := ⟨.hbm, 119, rfl⟩
abbrev main_while1c_v34 : Ref sig .tc := ⟨.hbm, 120, rfl⟩
abbrev main_while1b_c_12 : Ref sig .tc := ⟨.hbm, 121, rfl⟩
abbrev main_while1b_v34 : Ref sig .tc := ⟨.hbm, 122, rfl⟩
abbrev main_while1b_c_13 : Ref sig .tc := ⟨.hbm, 123, rfl⟩
abbrev main_while1b_v35 : Ref sig .tc := ⟨.hbm, 124, rfl⟩
abbrev main_while1b_call7_c : Ref sig .tc := ⟨.hbm, 125, rfl⟩
abbrev main_while1b_call7_c_0 : Ref sig .tc := ⟨.hbm, 126, rfl⟩
abbrev main_while1b_call7_c_1 : Ref sig .tc := ⟨.hbm, 127, rfl⟩
abbrev main_while1b_call7_v0 : Ref sig .tc := ⟨.hbm, 128, rfl⟩
abbrev main_while1b_v36 : Ref sig .tc := ⟨.hbm, 129, rfl⟩
abbrev main_while1b_call8_c : Ref sig .tc := ⟨.hbm, 130, rfl⟩
abbrev main_while1b_call8_c_0 : Ref sig .tc := ⟨.hbm, 131, rfl⟩
abbrev main_while1b_call8_c_1 : Ref sig .tc := ⟨.hbm, 132, rfl⟩
abbrev main_while1b_call8_v0 : Ref sig .tc := ⟨.hbm, 133, rfl⟩
abbrev main_while1b_v37 : Ref sig .tc := ⟨.hbm, 134, rfl⟩
abbrev main_while1b_call9_c : Ref sig .tc := ⟨.hbm, 135, rfl⟩
abbrev main_while1b_call9_c_0 : Ref sig .tc := ⟨.hbm, 136, rfl⟩
abbrev main_while1b_call9_c_1 : Ref sig .tc := ⟨.hbm, 137, rfl⟩
abbrev main_while1b_call9_v0 : Ref sig .tc := ⟨.hbm, 138, rfl⟩
abbrev main_while1b_v38 : Ref sig .tc := ⟨.hbm, 139, rfl⟩
abbrev main_while1b_call10_c : Ref sig .tc := ⟨.hbm, 140, rfl⟩
abbrev main_while1b_call10_c_0 : Ref sig .tc := ⟨.hbm, 141, rfl⟩
abbrev main_while1b_call10_c_1 : Ref sig .tc := ⟨.hbm, 142, rfl⟩
abbrev main_while1b_call10_v0 : Ref sig .tc := ⟨.hbm, 143, rfl⟩
abbrev main_while1b_v39 : Ref sig .tc := ⟨.hbm, 144, rfl⟩
abbrev main_while1b_call11_c : Ref sig .tc := ⟨.hbm, 145, rfl⟩
abbrev main_while1b_call11_c_0 : Ref sig .tc := ⟨.hbm, 146, rfl⟩
abbrev main_while1b_call11_c_1 : Ref sig .tc := ⟨.hbm, 147, rfl⟩
abbrev main_while1b_call11_v0 : Ref sig .tc := ⟨.hbm, 148, rfl⟩
abbrev main_while1b_v40 : Ref sig .tc := ⟨.hbm, 149, rfl⟩
abbrev main_while1b_call12_c : Ref sig .tc := ⟨.hbm, 150, rfl⟩
abbrev main_while1b_call12_c_0 : Ref sig .tc := ⟨.hbm, 151, rfl⟩
abbrev main_while1b_call12_c_1 : Ref sig .tc := ⟨.hbm, 152, rfl⟩
abbrev main_while1b_call12_v0 : Ref sig .tc := ⟨.hbm, 153, rfl⟩
abbrev main_while1b_v41 : Ref sig .tc := ⟨.hbm, 154, rfl⟩
abbrev main_while1b_v42 : Ref sig .tc := ⟨.hbm, 155, rfl⟩
abbrev main_while1b_v43 : Ref sig .tc := ⟨.hbm, 156, rfl⟩
abbrev main_while1b_v44 : Ref sig .tc := ⟨.hbm, 157, rfl⟩
abbrev main_while1b_v45 : Ref sig .tc := ⟨.hbm, 158, rfl⟩
abbrev main_while1b_v46 : Ref sig .tc := ⟨.hbm, 159, rfl⟩
abbrev main_while1b_v47 : Ref sig .tc := ⟨.hbm, 160, rfl⟩
abbrev main_while1b_v48 : Ref sig .tc := ⟨.hbm, 161, rfl⟩
abbrev main_while1b_v49 : Ref sig .tc := ⟨.hbm, 162, rfl⟩
abbrev main_while1b_v50 : Ref sig .tc := ⟨.hbm, 163, rfl⟩
abbrev main_while1b_v51 : Ref sig .tc := ⟨.hbm, 164, rfl⟩
abbrev main_while1b_v52 : Ref sig .tc := ⟨.hbm, 165, rfl⟩
abbrev main_while1b_v53 : Ref sig .tc := ⟨.hbm, 166, rfl⟩
abbrev main_while1b_v54 : Ref sig .tc := ⟨.hbm, 167, rfl⟩
abbrev main_while1b_v55 : Ref sig .tc := ⟨.hbm, 168, rfl⟩
abbrev main_while1b_v56 : Ref sig .tc := ⟨.hbm, 169, rfl⟩
abbrev main_while1b_v57 : Ref sig .tc := ⟨.hbm, 170, rfl⟩
abbrev main_while1b_v58 : Ref sig .tc := ⟨.hbm, 171, rfl⟩
abbrev main_while1b_call13_v0 : Ref sig .tc := ⟨.hbm, 172, rfl⟩
abbrev main_while1b_call13_c : Ref sig .tc := ⟨.hbm, 173, rfl⟩
abbrev main_while1b_call13_c_0 : Ref sig .tc := ⟨.hbm, 174, rfl⟩
abbrev main_while1b_call13_c_1 : Ref sig .tc := ⟨.hbm, 175, rfl⟩
abbrev main_while1b_v59 : Ref sig .tc := ⟨.hbm, 176, rfl⟩
abbrev main_while1b_c_14 : Ref sig .tc := ⟨.hbm, 177, rfl⟩
abbrev main_while1b_v60 : Ref sig .tc := ⟨.hbm, 178, rfl⟩
abbrev main_v32 : Ref sig .tc := ⟨.hbm, 179, rfl⟩
abbrev main_v33 : Ref sig .tc := ⟨.hbm, 180, rfl⟩

abbrev nD : Nat := 1
abbrev τ : Topo := Topo.v7x

variable {F : FTy → Type} [FloatOps F]

abbrev main_while0_count : Scf.Loop 32 := ⟨0#32, 4096#32, 1#32⟩

abbrev main_while1_count : Scf.Loop 32 := ⟨0#32, 4096#32, 1#32⟩
-- ==== Kernel5.lean ====
abbrev S4096x64x80 : Shape := ⟨3, ![4096, 64, 80]⟩
abbrev S81920x256 : Shape := ⟨2, ![81920, 256]⟩
abbrev S256 : Shape := ⟨1, ![256]⟩
abbrev S4096x64x4x20 : Shape := ⟨4, ![4096, 64, 4, 20]⟩
abbrev S4x20x4096x64 : Shape := ⟨4, ![4, 20, 4096, 64]⟩
abbrev S4x81920x64 : Shape := ⟨3, ![4, 81920, 64]⟩
abbrev S1x256 : Shape := ⟨2, ![1, 256]⟩
abbrev S4x1024x64 : Shape := ⟨3, ![4, 1024, 64]⟩
abbrev S1024x256 : Shape := ⟨2, ![1024, 256]⟩
abbrev S1x1024x64 : Shape := ⟨3, ![1, 1024, 64]⟩
abbrev S1024x64 : Shape := ⟨2, ![1024, 64]⟩
abbrev S256x256 : Shape := ⟨2, ![256, 256]⟩

abbrev nBuf : Space → Nat
  | .hbm => 15
  | .vmem => 12
  | .smem => 0
  | _ => 0

abbrev bufTy : (tb : Table) → Fin (tcTables nBuf tb) → BufTy
  | .hbm, ⟨0, _⟩ => ⟨S4096x64x80, .f32⟩
  | .hbm, ⟨1, _⟩ => ⟨S4096x64x80, .f32⟩
  | .hbm, ⟨2, _⟩ => ⟨S81920x256, .f32⟩
  | .hbm, ⟨3, _⟩ => ⟨S81920x256, .f32⟩
  | .hbm, ⟨4, _⟩ => ⟨S256, .f32⟩
  | .hbm, ⟨5, _⟩ => ⟨S256, .f32⟩
  | .hbm, ⟨6, _⟩ => ⟨S4096x64x4x20, .f32⟩
  | .hbm, ⟨7, _⟩ => ⟨S4x20x4096x64, .f32⟩
  | .hbm, ⟨8, _⟩ => ⟨S4x81920x64, .f32⟩
  | .hbm, ⟨9, _⟩ => ⟨S4096x64x4x20, .f32⟩
  | .hbm, ⟨10, _⟩ => ⟨S4x20x4096x64, .f32⟩
  | .hbm, ⟨11, _⟩ => ⟨S4x81920x64, .f32⟩
  | .hbm, ⟨12, _⟩ => ⟨S1x256, .f32⟩
  | .hbm, ⟨13, _⟩ => ⟨S1x256, .f32⟩
  | .hbm, ⟨14, _⟩ => ⟨S81920x256, .f32⟩
  | .local _ .vmem, ⟨0, _⟩ => ⟨S4x1024x64, .f32⟩
  | .local _ .vmem, ⟨1, _⟩ => ⟨S4x1024x64, .f32⟩
  | .local _ .vmem, ⟨2, _⟩ => ⟨S4x1024x64, .f32⟩
  | .local _ .vmem, ⟨3, _⟩ => ⟨S4x1024x64, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1x256, .f32⟩
  | .local _ .vmem, ⟨9, _⟩ => ⟨S1x256, .f32⟩
  | .local _ .vmem, ⟨10, _⟩ => ⟨S1024x256, .f32⟩
  | .local _ .vmem, ⟨11, _⟩ => ⟨S1024x256, .f32⟩
  | _, _ => ⟨S4096x64x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![80], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S4096x64x80 : Shape := ⟨3, ![4096, 64, 80]⟩
abbrev S81920x256 : Shape := ⟨2, ![81920, 256]⟩
abbrev S256 : Shape := ⟨1, ![256]⟩
abbrev S4096x64x4x20 : Shape := ⟨4, ![4096, 64, 4, 20]⟩
abbrev S20x4096x4x64 : Shape := ⟨4, ![20, 4096, 4, 64]⟩
abbrev S_ : Shape := ⟨0, ![]⟩
abbrev S20x4096x4 : Shape := ⟨3, ![20, 4096, 4]⟩
abbrev S20x4096x4x1 : Shape := ⟨4, ![20, 4096, 4, 1]⟩
abbrev S20x4096x256 : Shape := ⟨3, ![20, 4096, 256]⟩
abbrev S1x1x256 : Shape := ⟨3, ![1, 1, 256]⟩

abbrev nBuf : Space → Nat
  | .hbm => 46
  | .vmem => 0
  | .smem => 0
  | _ => 0

abbrev bufTy : (tb : Table) → Fin (tcTables nBuf tb) → BufTy
  | .hbm, ⟨0, _⟩ => ⟨S4096x64x80, .f32⟩
  | .hbm, ⟨1, _⟩ => ⟨S4096x64x80, .f32⟩
  | .hbm, ⟨2, _⟩ => ⟨S81920x256, .f32⟩
  | .hbm, ⟨3, _⟩ => ⟨S81920x256, .f32⟩
  | .hbm, ⟨4, _⟩ => ⟨S256, .f32⟩
  | .hbm, ⟨5, _⟩ => ⟨S256, .f32⟩
  | .hbm, ⟨6, _⟩ => ⟨S4096x64x4x20, .f32⟩
  | .hbm, ⟨7, _⟩ => ⟨S20x4096x4x64, .f32⟩
  | .hbm, ⟨8, _⟩ => ⟨S4096x64x4x20, .f32⟩
  | .hbm, ⟨9, _⟩ => ⟨S20x4096x4x64, .f32⟩
  | .hbm, ⟨10, _⟩ => ⟨S20x4096x4x64, .f32⟩
  | .hbm, ⟨11, _⟩ => ⟨S_, .f32⟩
  | .hbm, ⟨12, _⟩ => ⟨S20x4096x4, .f32⟩
  | .hbm, ⟨13, _⟩ => ⟨S20x4096x4x1, .f32⟩
  | .hbm, ⟨14, _⟩ => ⟨S_, .f32⟩
  | .hbm, ⟨15, _⟩ => ⟨S20x4096x4x1, .f32⟩
  | .hbm, ⟨16, _⟩ => ⟨S20x4096x4x1, .f32⟩
  | .hbm, ⟨17, _⟩ => ⟨S20x4096x4x64, .f32⟩
  | .hbm, ⟨18, _⟩ => ⟨S20x4096x4x64, .f32⟩
  | .hbm, ⟨19, _⟩ => ⟨S20x4096x4x64, .f32⟩
  | .hbm, ⟨20, _⟩ => ⟨S_, .f32⟩
  | .hbm, ⟨21, _⟩ => ⟨S20x4096x4, .f32⟩
  | .hbm, ⟨22, _⟩ => ⟨S20x4096x4x1, .f32⟩
  | .hbm, ⟨23, _⟩ => ⟨S_, .f32⟩
  | .hbm, ⟨24, _⟩ => ⟨S20x4096x4x1, .f32⟩
  | .hbm, ⟨25, _⟩ => ⟨S20x4096x4x1, .f32⟩
  | .hbm, ⟨26, _⟩ => ⟨S20x4096x4x64, .f32⟩
  | .hbm, ⟨27, _⟩ => ⟨S20x4096x4x64, .f32⟩
  | .hbm, ⟨28, _⟩ => ⟨S_, .f32⟩
  | .hbm, ⟨29, _⟩ => ⟨S20x4096x4x1, .f32⟩
  | .hbm, ⟨30, _⟩ => ⟨S20x4096x4x1, .f32⟩
  | .hbm, ⟨31, _⟩ => ⟨S20x4096x4x1, .f32⟩
  | .hbm, ⟨32, _⟩ => ⟨S20x4096x4x64, .f32⟩
  | .hbm, ⟨33, _⟩ => ⟨S20x4096x4x64, .f32⟩
  | .hbm, ⟨34, _⟩ => ⟨S20x4096x256, .f32⟩
  | .hbm, ⟨35, _⟩ => ⟨S1x1x256, .f32⟩
  | .hbm, ⟨36, _⟩ => ⟨S20x4096x256, .f32⟩
  | .hbm, ⟨37, _⟩ => ⟨S20x4096x256, .f32⟩
  | .hbm, ⟨38, _⟩ => ⟨S1x1x256, .f32⟩
  | .hbm, ⟨39, _⟩ => ⟨S20x4096x256, .f32⟩
  | .hbm, ⟨40, _⟩ => ⟨S20x4096x256, .f32⟩
  | .hbm, ⟨41, _⟩ => ⟨S20x4096x256, .f32⟩
  | .hbm, ⟨42, _⟩ => ⟨S20x4096x256, .f32⟩
  | .hbm, ⟨43, _⟩ => ⟨S20x4096x256, .f32⟩
  | .hbm, ⟨44, _⟩ => ⟨S20x4096x256, .f32⟩
  | .hbm, ⟨45, _⟩ => ⟨S81920x256, .f32⟩
  | _, _ => ⟨S4096x64x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel6.lean ====
abbrev S2x81920x256 : Shape := ⟨3, ![2, 81920, 256]⟩
abbrev S81920x256 : Shape := ⟨2, ![81920, 256]⟩
abbrev S256 : Shape := ⟨1, ![256]⟩
abbrev S256x256 : Shape := ⟨2, ![256, 256]⟩
abbrev S1x256 : Shape := ⟨2, ![1, 256]⟩
abbrev S2x1024x256 : Shape := ⟨3, ![2, 1024, 256]⟩
abbrev S1024x256 : Shape := ⟨2, ![1024, 256]⟩
abbrev S1x1024x256 : Shape := ⟨3, ![1, 1024, 256]⟩

abbrev nBuf : Space → Nat
  | .hbm => 9
  | .vmem => 9
  | .smem => 0
  | _ => 0

abbrev bufTy : (tb : Table) → Fin (tcTables nBuf tb) → BufTy
  | .hbm, ⟨0, _⟩ => ⟨S2x81920x256, .f32⟩
  | .hbm, ⟨1, _⟩ => ⟨S81920x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .bf16⟩
  | .hbm, ⟨6, _⟩ => ⟨S1x256, .f32⟩
  | .hbm, ⟨7, _⟩ => ⟨S1x256, .f32⟩
  | .hbm, ⟨8, _⟩ => ⟨S81920x256, .f32⟩
  | .local _ .vmem, ⟨0, _⟩ => ⟨S2x1024x256, .f32⟩
  | .local _ .vmem, ⟨1, _⟩ => ⟨S2x1024x256, .f32⟩
  | .local _ .vmem, ⟨2, _⟩ => ⟨S1024x256, .f32⟩
  | .local _ .vmem, ⟨3, _⟩ => ⟨S1024x256, .f32⟩
  | .local _ .vmem, ⟨4, _⟩ => ⟨S1x256, .f32⟩
  | .local _ .vmem, ⟨5, _⟩ => ⟨S256x256, .bf16⟩
  | .local _ .vmem, ⟨6, _⟩ => ⟨S1x256, .f32⟩
  | .local _ .vmem, ⟨7, _⟩ => ⟨S1024x256, .f32⟩
  | .local _ .vmem, ⟨8, _⟩ => ⟨S1024x256, .f32⟩
  | _, _ => ⟨S2x81920x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![80], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S2x81920x256 : Shape := ⟨3, ![2, 81920, 256]⟩
abbrev S81920x256 : Shape := ⟨2, ![81920, 256]⟩
abbrev S256 : Shape := ⟨1, ![256]⟩
abbrev S256x256 : Shape := ⟨2, ![256, 256]⟩
abbrev S1x81920x256 : Shape := ⟨3, ![1, 81920, 256]⟩
abbrev S20x4096x256 : Shape := ⟨3, ![20, 4096, 256]⟩
abbrev S1x1x256 : Shape := ⟨3, ![1, 1, 256]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S2x81920x256, .f32⟩
  | .hbm, ⟨1, _⟩ => ⟨S81920x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S1x81920x256, .f32⟩
  | .hbm, ⟨6, _⟩ => ⟨S81920x256, .f32⟩
  | .hbm, ⟨7, _⟩ => ⟨S1x81920x256, .f32⟩
  | .hbm, ⟨8, _⟩ => ⟨S81920x256, .f32⟩
  | .hbm, ⟨9, _⟩ => ⟨S81920x256, .f32⟩
  | .hbm, ⟨10, _⟩ => ⟨S20x4096x256, .f32⟩
  | .hbm, ⟨11, _⟩ => ⟨S20x4096x256, .f32⟩
  | .hbm, ⟨12, _⟩ => ⟨S1x1x256, .f32⟩
  | .hbm, ⟨13, _⟩ => ⟨S20x4096x256, .f32⟩
  | .hbm, ⟨14, _⟩ => ⟨S20x4096x256, .f32⟩
  | .hbm, ⟨15, _⟩ => ⟨S20x4096x256, .f32⟩
  | .hbm, ⟨16, _⟩ => ⟨S20x4096x256, .f32⟩
  | .hbm, ⟨17, _⟩ => ⟨S20x4096x256, .f32⟩
  | .hbm, ⟨18, _⟩ => ⟨S_, .f32⟩
  | .hbm, ⟨19, _⟩ => ⟨S20x4096x256, .f32⟩
  | .hbm, ⟨20, _⟩ => ⟨S20x4096x256, .f32⟩
  | .hbm, ⟨21, _⟩ => ⟨S20x4096x256, .f32⟩
  | .hbm, ⟨22, _⟩ => ⟨S_, .f32⟩
  | .hbm, ⟨23, _⟩ => ⟨S20x4096x256, .f32⟩
  | .hbm, ⟨24, _⟩ => ⟨S20x4096x256, .f32⟩
  | .hbm, ⟨25, _⟩ => ⟨S20x4096x256, .f32⟩
  | .hbm, ⟨26, _⟩ => ⟨S_, .f32⟩
  | .hbm, ⟨27, _⟩ => ⟨S20x4096x256, .f32⟩
  | .hbm, ⟨28, _⟩ => ⟨S20x4096x256, .f32⟩
  | .hbm, ⟨29, _⟩ => ⟨S_, .f32⟩
  | .hbm, ⟨30, _⟩ => ⟨S20x4096x256, .f32⟩
  | .hbm, ⟨31, _⟩ => ⟨S20x4096x256, .f32⟩
  | .hbm, ⟨32, _⟩ => ⟨S20x4096x256, .f32⟩
  | .hbm, ⟨33, _⟩ => ⟨S20x4096x256, .f32⟩
  | .hbm, ⟨34, _⟩ => ⟨S1x1x256, .f32⟩
  | .hbm, ⟨35, _⟩ => ⟨S20x4096x256, .f32⟩
  | .hbm, ⟨36, _⟩ => ⟨S20x4096x256, .f32⟩
  | .hbm, ⟨37, _⟩ => ⟨S20x4096x256, .f32⟩
  | .hbm, ⟨38, _⟩ => ⟨S20x4096x256, .f32⟩
  | .hbm, ⟨39, _⟩ => ⟨S_, .f32⟩
  | .hbm, ⟨40, _⟩ => ⟨S20x4096x256, .f32⟩
  | .hbm, ⟨41, _⟩ => ⟨S20x4096x256, .f32⟩
  | .hbm, ⟨42, _⟩ => ⟨S_, .f32⟩
  | .hbm, ⟨43, _⟩ => ⟨S20x4096x256, .f32⟩
  | .hbm, ⟨44, _⟩ => ⟨S20x4096x256, .f32⟩
  | .hbm, ⟨45, _⟩ => ⟨S20x4096x256, .f32⟩
  | .hbm, ⟨46, _⟩ => ⟨S81920x256, .f32⟩
  | _, _ => ⟨S2x81920x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel7.lean ====
abbrev S81920x768 : Shape := ⟨2, ![81920, 768]⟩
abbrev S3x768 : Shape := ⟨2, ![3, 768]⟩
abbrev S768 : Shape := ⟨1, ![768]⟩
abbrev S20x4x1024x768 : Shape := ⟨4, ![20, 4, 1024, 768]⟩
abbrev S_ : Shape := ⟨0, ![]⟩
abbrev S20x1x768 : Shape := ⟨3, ![20, 1, 768]⟩
abbrev S20x3x1x768 : Shape := ⟨4, ![20, 3, 1, 768]⟩
abbrev S20x3x768 : Shape := ⟨3, ![20, 3, 768]⟩
abbrev S20x4x768 : Shape := ⟨3, ![20, 4, 768]⟩
abbrev S80x1x768 : Shape := ⟨3, ![80, 1, 768]⟩
abbrev S1x768 : Shape := ⟨2, ![1, 768]⟩
abbrev S81920x256 : Shape := ⟨2, ![81920, 256]⟩
abbrev S1024x768 : Shape := ⟨2, ![1024, 768]⟩
abbrev S1x1x768 : Shape := ⟨3, ![1, 1, 768]⟩
abbrev S1024x256 : Shape := ⟨2, ![1024, 256]⟩

abbrev nBuf : Space → Nat
  | .hbm => 18
  | .vmem => 14
  | .smem => 0
  | _ => 0

abbrev bufTy : (tb : Table) → Fin (tcTables nBuf tb) → BufTy
  | .hbm, ⟨0, _⟩ => ⟨S81920x768, .f32⟩
  | .hbm, ⟨1, _⟩ => ⟨S3x768, .f32⟩
  | .hbm, ⟨2, _⟩ => ⟨S768, .f32⟩
  | .hbm, ⟨3, _⟩ => ⟨S20x4x1024x768, .f32⟩
  | .hbm, ⟨4, _⟩ => ⟨S_, .f32⟩
  | .hbm, ⟨5, _⟩ => ⟨S20x1x768, .f32⟩
  | .hbm, ⟨6, _⟩ => ⟨S20x3x1x768, .f32⟩
  | .hbm, ⟨7, _⟩ => ⟨S20x3x768, .f32⟩
  | .hbm, ⟨8, _⟩ => ⟨S20x4x768, .f32⟩
  | .hbm, ⟨9, _⟩ => ⟨S80x1x768, .f32⟩
  | .hbm, ⟨10, _⟩ => ⟨S20x3x1x768, .f32⟩
  | .hbm, ⟨11, _⟩ => ⟨S20x3x768, .f32⟩
  | .hbm, ⟨12, _⟩ => ⟨S20x4x768, .f32⟩
  | .hbm, ⟨13, _⟩ => ⟨S80x1x768, .f32⟩
  | .hbm, ⟨14, _⟩ => ⟨S1x768, .f32⟩
  | .hbm, ⟨15, _⟩ => ⟨S81920x256, .f32⟩
  | .hbm, ⟨16, _⟩ => ⟨S81920x256, .f32⟩
  | .hbm, ⟨17, _⟩ => ⟨S81920x256, .f32⟩
  | .local _ .vmem, ⟨0, _⟩ => ⟨S1024x768, .f32⟩
  | .local _ .vmem, ⟨1, _⟩ => ⟨S1024x768, .f32⟩
  | .local _ .vmem, ⟨2, _⟩ => ⟨S1x1x768, .f32⟩
  | .local _ .vmem, ⟨3, _⟩ => ⟨S1x1x768, .f32⟩
  | .local _ .vmem, ⟨4, _⟩ => ⟨S1x1x768, .f32⟩
  | .local _ .vmem, ⟨5, _⟩ => ⟨S1x1x768, .f32⟩
  | .local _ .vmem, ⟨6, _⟩ => ⟨S3x768, .f32⟩
  | .local _ .vmem, ⟨7, _⟩ => ⟨S1x768, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | _, _ => ⟨S81920x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S81920x768 : Shape := ⟨2, ![81920, 768]⟩
abbrev S3x768 : Shape := ⟨2, ![3, 768]⟩
abbrev S768 : Shape := ⟨1, ![768]⟩
abbrev S20x4096x768 : Shape := ⟨3, ![20, 4096, 768]⟩
abbrev S1x768 : Shape := ⟨2, ![1, 768]⟩
abbrev S20x4095x768 : Shape := ⟨3, ![20, 4095, 768]⟩
abbrev S_ : Shape := ⟨0, ![]⟩
abbrev S1x1x768 : Shape := ⟨3, ![1, 1, 768]⟩
abbrev S20x4096x256 : Shape := ⟨3, ![20, 4096, 256]⟩
abbrev S81920x256 : Shape := ⟨2, ![81920, 256]⟩

abbrev nBuf : Space → Nat
  | .hbm => 38
  | .vmem => 0
  | .smem => 0
  | _ => 0

abbrev bufTy : (tb : Table) → Fin (tcTables nBuf tb) → BufTy
  | .hbm, ⟨0, _⟩ => ⟨S81920x768, .f32⟩
  | .hbm, ⟨1, _⟩ => ⟨S3x768, .f32⟩
  | .hbm, ⟨2, _⟩ => ⟨S768, .f32⟩
  | .hbm, ⟨3, _⟩ => ⟨S20x4096x768, .f32⟩
  | .hbm, ⟨4, _⟩ => ⟨S1x768, .f32⟩
  | .hbm, ⟨5, _⟩ => ⟨S768, .f32⟩
  | .hbm, ⟨6, _⟩ => ⟨S20x4095x768, .f32⟩
  | .hbm, ⟨7, _⟩ => ⟨S_, .i32⟩
  | .hbm, ⟨8, _⟩ => ⟨S_, .f32⟩
  | .hbm, ⟨9, _⟩ => ⟨S20x4096x768, .f32⟩
  | .hbm, ⟨10, _⟩ => ⟨S1x1x768, .f32⟩
  | .hbm, ⟨11, _⟩ => ⟨S20x4096x768, .f32⟩
  | .hbm, ⟨12, _⟩ => ⟨S20x4096x768, .f32⟩
  | .hbm, ⟨13, _⟩ => ⟨S1x768, .f32⟩
  | .hbm, ⟨14, _⟩ => ⟨S768, .f32⟩
  | .hbm, ⟨15, _⟩ => ⟨S1x1x768, .f32⟩
  | .hbm, ⟨16, _⟩ => ⟨S20x4096x768, .f32⟩
  | .hbm, ⟨17, _⟩ => ⟨S20x4096x768, .f32⟩
  | .hbm, ⟨18, _⟩ => ⟨S20x4096x768, .f32⟩
  | .hbm, ⟨19, _⟩ => ⟨S1x768, .f32⟩
  | .hbm, ⟨20, _⟩ => ⟨S768, .f32⟩
  | .hbm, ⟨21, _⟩ => ⟨S20x4095x768, .f32⟩
  | .hbm, ⟨22, _⟩ => ⟨S_, .i32⟩
  | .hbm, ⟨23, _⟩ => ⟨S_, .f32⟩
  | .hbm, ⟨24, _⟩ => ⟨S20x4096x768, .f32⟩
  | .hbm, ⟨25, _⟩ => ⟨S1x1x768, .f32⟩
  | .hbm, ⟨26, _⟩ => ⟨S20x4096x768, .f32⟩
  | .hbm, ⟨27, _⟩ => ⟨S20x4096x768, .f32⟩
  | .hbm, ⟨28, _⟩ => ⟨S20x4096x768, .f32⟩
  | .hbm, ⟨29, _⟩ => ⟨S1x1x768, .f32⟩
  | .hbm, ⟨30, _⟩ => ⟨S20x4096x768, .f32⟩
  | .hbm, ⟨31, _⟩ => ⟨S20x4096x768, .f32⟩
  | .hbm, ⟨32, _⟩ => ⟨S20x4096x256, .f32⟩
  | .hbm, ⟨33, _⟩ => ⟨S20x4096x256, .f32⟩
  | .hbm, ⟨34, _⟩ => ⟨S20x4096x256, .f32⟩
  | .hbm, ⟨35, _⟩ => ⟨S81920x256, .f32⟩
  | .hbm, ⟨36, _⟩ => ⟨S81920x256, .f32⟩
  | .hbm, ⟨37, _⟩ => ⟨S81920x256, .f32⟩
  | _, _ => ⟨S81920x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_call1_v0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== Kernel8.lean ====
abbrev S81920x256 : Shape := ⟨2, ![81920, 256]⟩
abbrev S256 : Shape := ⟨1, ![256]⟩
abbrev S1x256 : Shape := ⟨2, ![1, 256]⟩
abbrev S1024x256 : Shape := ⟨2, ![1024, 256]⟩

abbrev nBuf : Space → Nat
  | .hbm => 6
  | .vmem => 9
  | .smem => 0
  | _ => 0

abbrev bufTy : (tb : Table) → Fin (tcTables nBuf tb) → BufTy
  | .hbm, ⟨0, _⟩ => ⟨S81920x256, .f32⟩
  | .hbm, ⟨1, _⟩ => ⟨S81920x256, .f32⟩
  | .hbm, ⟨2, _⟩ => ⟨S81920x256, .f32⟩
  | .hbm, ⟨3, _⟩ => ⟨S256, .f32⟩
  | .hbm, ⟨4, _⟩ => ⟨S1x256, .f32⟩
  | .hbm, ⟨5, _⟩ => ⟨S81920x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1x256, .f32⟩
  | .local _ .vmem, ⟨7, _⟩ => ⟨S1024x256, .f32⟩
  | .local _ .vmem, ⟨8, _⟩ => ⟨S1024x256, .f32⟩
  | _, _ => ⟨S81920x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S81920x256 : Shape := ⟨2, ![81920, 256]⟩
abbrev S256 : Shape := ⟨1, ![256]⟩
abbrev S20x4096x256 : Shape := ⟨3, ![20, 4096, 256]⟩
abbrev S1x1x256 : Shape := ⟨3, ![1, 1, 256]⟩

abbrev nBuf : Space → Nat
  | .hbm => 13
  | .vmem => 0
  | .smem => 0
  | _ => 0

abbrev bufTy : (tb : Table) → Fin (tcTables nBuf tb) → BufTy
  | .hbm, ⟨0, _⟩ => ⟨S81920x256, .f32⟩
  | .hbm, ⟨1, _⟩ => ⟨S81920x256, .f32⟩
  | .hbm, ⟨2, _⟩ => ⟨S81920x256, .f32⟩
  | .hbm, ⟨3, _⟩ => ⟨S256, .f32⟩
  | .hbm, ⟨4, _⟩ => ⟨S20x4096x256, .f32⟩
  | .hbm, ⟨5, _⟩ => ⟨S20x4096x256, .f32⟩
  | .hbm, ⟨6, _⟩ => ⟨S20x4096x256, .f32⟩
  | .hbm, ⟨7, _⟩ => ⟨S1x1x256, .f32⟩
  | .hbm, ⟨8, _⟩ => ⟨S20x4096x256, .f32⟩
  | .hbm, ⟨9, _⟩ => ⟨S20x4096x256, .f32⟩
  | .hbm, ⟨10, _⟩ => ⟨S20x4096x256, .f32⟩
  | .hbm, ⟨11, _⟩ => ⟨S20x4096x256, .f32⟩
  | .hbm, ⟨12, _⟩ => ⟨S81920x256, .f32⟩
  | _, _ => ⟨S81920x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.ScanLoops.lean ====
/- The recurrence call's body: what its loops do to the state and to the two result blocks. -/
module

public import proofs.«01_k».proof.Defs
public import proofs.«01_k».proof.Proof.Gen.Kernel3Ideal
public import proofs.«01_k».proof.Proof.Gen.Kernel3Ideal.Skeleton
public import Idealize.ShloMosaic.Lib.VecWindow
public import Idealize.ShloMosaic.Lib.Pipeline.ValueKit
public import Idealize.ShloMosaic.Lib.Pointwise
public import Idealize.ShloMosaic.Lib.Pipeline.Frame

@[expose] public section

noncomputable section

namespace Cert.Kernel3Ideal.Scan

open Idealize.ShloMosaic Idealize.ShloMosaic.TcCoe Idealize.ShloMosaic.Pipeline Cert.Kernel3Ideal Cert.Kernel3Ideal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A buffer held whole at read contents. -/
abbrev own (c : Dev nD) {s : Shape} (a : Memref sig .tc .vmem s .f32) (X : Vec F s .f32) : sProp 𝕄 := owns (c : Thread nD τ) a fullShare X

/-- Running a piece of the body on core `c`. -/
abbrev run (c : Dev nD) (E : Set ℕ) {α : Type} (p : Prog (TpuEff nD τ sig (Elt F) Λ₀ .tc) α) (Q : α → sProp 𝕄) : sProp 𝕄 :=
  wp frame (wpE (defs₀ (F := F)) Variants.none (c : Thread nD τ) none) E p Q

/-- A load at a unit-stride rectangle reads a window of the contents. -/
theorem run_load (c : Dev nD) (E : Set ℕ) {s : Shape} (a : Memref sig .tc .vmem s .f32) (X : Vec F s .f32) {off off' size : Fin s.rank → ℕ}
    (inb : ∀ x, off x + size x ≤ s.size x) (hl : a.view.LoadsAt (Rect.unit off size inb).toLoadRect) (he : off = off') (inb' : ∀ x, off' x + size x ≤ s.size x)
    {α : Type} (k : ((Rect.unit off size inb).shape.Idx → Elt F .f32) → Prog (TpuEff nD τ sig (Elt F) Λ₀ .tc) α) (Q : α → sProp 𝕄) :
    own c a X ⊢ iprop((own c a X -∗ run c E (k (VecWindow.window X off' size inb')) Q)
      -∗ run c E (Prog.lift (.load a (Rect.unit off size inb).toLoadRect hl) >>= k) Q) := by
  subst he
  unfold own owns
  iintro ⟨%f, %hf, H⟩ Hk
  subst hf
  iapply (wp_load Variants.none (c : Thread nD τ) none E (m := a) (View.setOn_subset_set _ _)) $$ H
  iintro H
  iapply Hk
  iexists f; isplitr
  · ipureintro; rfl
  iexact H

/-- A store at a unit-stride rectangle puts the payload over that window. -/
theorem run_store (c : Dev nD) (E : Set ℕ) {s : Shape} (a : Memref sig .tc .vmem s .f32) (X : Vec F s .f32) {off off' size : Fin s.rank → ℕ}
    (inb : ∀ x, off x + size x ≤ s.size x) (w : (Rect.unit off size inb).shape.Idx → Elt F .f32) (hs : (a.access (Rect.unit off size inb)).Stores Finset.univ)
    (hm : (Finset.univ : Finset (Rect.unit off size inb).shape.Idx) = Finset.univ ∨ ∀ x, (Rect.unit off size inb).stride x = 1) (he : off = off')
    {α : Type} (k : PUnit → Prog (TpuEff nD τ sig (Elt F) Λ₀ .tc) α) (Q : α → sProp 𝕄) :
    own c a X ⊢ iprop((own c a (VecWindow.put X off' size w) -∗ run c E (k ⟨⟩) Q)
      -∗ run c E (Prog.lift (.store a (Rect.unit off size inb) w Finset.univ hs hm) >>= k) Q) := by
  unfold own owns
  iintro ⟨%f, %hf, H⟩ Hk
  subst hf
  have hS : (a.access (Rect.unit off size inb)).setOn Finset.univ ⊆ a.view.set := (View.setOn_subset_set _ _).trans (View.set_slice_subset _ _)
  iapply (wp_store Variants.none (c : Thread nD τ) none E (m := a) (r := Rect.unit off size inb) (f := f) hS) $$ H
  iintro H
  iapply Hk
  iexists _; isplitr
  swap; · iexact H
  ipureintro
  exact View.read_writes_cons_put a.view f inb w [] he

/-! ## The state and the blocks by rows -/

/-- Row `n` (a key) of half `h` of the state. -/
def rowS (S : Vec F S2x64x64x80 .f32) (h : Fin 2) (n : Fin 64) : Vec F S1x1x64x80 .f32 := fun y => S (ix4 h n (y 2) (y 3))
/-- Row `n` (a key) of time `r` of an operand's block. -/
def rowA (A : Vec F S16x64x80 .f32) (r : Fin 16) (n : Fin 64) : Vec F S1x1x80 .f32 := fun y => A (ix3 r n (y 2))
/-- Time `r` of an operand's block. -/
def rowV (A : Vec F S16x64x80 .f32) (r : Fin 16) : Vec F S1x64x80 .f32 := fun y => A (ix3 r (y 1) (y 2))

omit [FloatOps F] in
theorem window_rowS (S : Vec F S2x64x64x80 .f32) (h : Fin 2) (n : Fin 64) (inb) :
    VecWindow.window S ![h.val, n.val, 0, 0] S1x1x64x80.size inb = rowS S h n := by
  funext y
  refine congrArg S (funext fun a => Fin.ext ?_)
  have h0 := (y 0).isLt
  have h1 := (y 1).isLt
  fin_cases a
  · show h.val + 1 * (y 0).val = h.val
    have : (y 0).val < 1 := h0
    omega
  · show n.val + 1 * (y 1).val = n.val
    have : (y 1).val < 1 := h1
    omega
  · show 0 + 1 * (y 2).val = (y 2).val
    omega
  · show 0 + 1 * (y 3).val = (y 3).val
    omega

omit [FloatOps F] in
theorem window_rowA (A : Vec F S16x64x80 .f32) (r : Fin 16) (n : Fin 64) (inb) :
    VecWindow.window A ![r.val, n.val, 0] S1x1x80.size inb = rowA A r n := by
  funext y
  refine congrArg A (funext fun a => Fin.ext ?_)
  have h0 := (y 0).isLt
  have h1 := (y 1).isLt
  fin_cases a
  · show r.val + 1 * (y 0).val = r.val
    have : (y 0).val < 1 := h0
    omega
  · show n.val + 1 * (y 1).val = n.val
    have : (y 1).val < 1 := h1
    omega
  · show 0 + 1 * (y 2).val = (y 2).val
    omega

omit [FloatOps F] in
theorem window_rowV (A : Vec F S16x64x80 .f32) (r : Fin 16) (inb) :
    VecWindow.window A ![r.val, 0, 0] S1x64x80.size inb = rowV A r := by
  funext y
  refine congrArg A (funext fun a => Fin.ext ?_)
  have h0 := (y 0).isLt
  fin_cases a
  · show r.val + 1 * (y 0).val = r.val
    have : (y 0).val < 1 := h0
    omega
  · show 0 + 1 * (y 1).val = (y 1).val
    omega
  · show 0 + 1 * (y 2).val = (y 2).val
    omega

/-! ## One time step -/

/-- The state applied to the removal direction, summed over the first `n` keys. -/
def dot (h : Fin 2) (r : Fin 16) (S : Vec F S2x64x64x80 .f32) (A : Vec F S16x64x80 .f32) : ℕ → FVec F S64x80 .f32
  | 0 => k0_pay2
  | n + 1 => k0_pay3 (dot h r S A n) (rowS S h (Fin.ofNat 64 n)) (rowA A r (Fin.ofNat 64 n))

/-- The operands of one direction: removal direction, decay, replacement, key, receptance, value. -/
structure Ops (F : FTy → Type) [FloatOps F] where
  a : Vec F S16x64x80 .f32
  w : Vec F S16x64x80 .f32
  b : Vec F S16x64x80 .f32
  k : Vec F S16x64x80 .f32
  r : Vec F S16x64x80 .f32
  v : Vec F S16x64x80 .f32

variable (h : Fin 2) (r : Fin 16) (S : Vec F S2x64x64x80 .f32) (X : Ops F)

/-- Row `n` of the state after the step. -/
def fresh (n : Fin 64) : FVec F S64x80 .f32 :=
  k0_pay5 (rowV X.v r) (dot h r S X.a 64) (rowS S h n) (rowA X.w r n) (rowA X.b r n) (rowA X.k r n)

/-- The state with its first `n` rows of half `h` stepped. -/
def upd (n : ℕ) : Vec F S2x64x64x80 .f32 := fun y =>
  if (y 0).val = h.val ∧ (y 1).val < n then fresh h r S X (y 1) (ix2 (y 2) (y 3)) else S y

/-- The result of the step summed over the first `n` keys. -/
def out : ℕ → FVec F S64x80 .f32
  | 0 => k0_pay4
  | n + 1 => k0_pay7 (rowV X.v r) (dot h r S X.a 64) (out n) (rowS S h (Fin.ofNat 64 n)) (rowA X.w r (Fin.ofNat 64 n)) (rowA X.b r (Fin.ofNat 64 n))
      (rowA X.k r (Fin.ofNat 64 n)) (rowA X.r r (Fin.ofNat 64 n))

theorem upd_zero : upd h r S X 0 = S := by
  funext y
  exact if_neg fun hh => Nat.not_lt_zero _ hh.2

theorem rowS_upd (n : Fin 64) : rowS (upd h r S X n.val) h n = rowS S h n := by
  funext y
  exact if_neg fun hh => Nat.lt_irrefl _ hh.2

omit [FloatOps F] in
theorem cast_at (P : FVec F S64x80 .f32) (i : Fin 64) (j : Fin 80) :
    (shapeCast S1x1x64x80 P shapeCasts_S64x80_S1x1x64x80 : FVec F S1x1x64x80 .f32) (ix4 0 0 i j) = P (ix2 i j) := by
  pointwise

theorem put_upd (n : Fin 64) :
    VecWindow.put (upd h r S X n.val) ![h.val, n.val, 0, 0] S1x1x64x80.size
        (k0_pay6 (rowV X.v r) (dot h r S X.a 64) (rowS S h n) (rowA X.w r n) (rowA X.b r n) (rowA X.k r n))
      = upd h r S X (n.val + 1) := by
  funext y
  unfold VecWindow.put
  by_cases hy : (y 0).val = h.val ∧ (y 1).val = n.val
  · have hw : ∀ a : Fin 4, (![h.val, n.val, 0, 0] : Fin 4 → ℕ) a ≤ (y a).val ∧ (y a).val < (![h.val, n.val, 0, 0] : Fin 4 → ℕ) a + S1x1x64x80.size a := by
      intro a
      fin_cases a
      · show h.val ≤ (y 0).val ∧ (y 0).val < h.val + 1
        omega
      · show n.val ≤ (y 1).val ∧ (y 1).val < n.val + 1
        omega
      · exact ⟨Nat.zero_le _, by show (y 2).val < 0 + 64; have : (y 2).val < 64 := (y 2).isLt; omega⟩
      · exact ⟨Nat.zero_le _, by show (y 3).val < 0 + 80; have : (y 3).val < 80 := (y 3).isLt; omega⟩
    rw [dif_pos hw]
    have e1 : y 1 = n := Fin.ext hy.2
    have e2 : upd h r S X (n.val + 1) y = fresh h r S X (y 1) (ix2 (y 2) (y 3)) := if_pos ⟨hy.1, by omega⟩
    rw [e2, e1]
    refine Eq.trans (congrArg (k0_pay6 _ _ _ _ _ _) (?_ : _ = (ix4 0 0 (y 2) (y 3) : S1x1x64x80.Idx))) (cast_at (fresh h r S X n) (y 2) (y 3))
    funext a
    refine Fin.ext ?_
    fin_cases a
    · show (y 0).val - h.val = 0
      omega
    · show (y 1).val - n.val = 0
      omega
    · rfl
    · rfl
  · rw [dif_neg]
    · unfold upd
      by_cases h0 : (y 0).val = h.val
      · by_cases h1 : (y 1).val < n.val
        · rw [if_pos ⟨h0, h1⟩, if_pos ⟨h0, by omega⟩]
        · rw [if_neg (fun q => h1 q.2), if_neg (fun q => hy ⟨h0, by omega⟩)]
      · rw [if_neg (fun q => h0 q.1), if_neg (fun q => h0 q.1)]
    · intro hw
      have w0 : h.val ≤ (y 0).val ∧ (y 0).val < h.val + 1 := hw 0
      have w1 : n.val ≤ (y 1).val ∧ (y 1).val < n.val + 1 := hw 1
      exact hy ⟨by omega, by omega⟩

/-! ## The inner loops' trips -/

/-- One trip of the loop that applies the state to the removal direction. -/
theorem trip_dot (c : Dev nD) (E : Set ℕ) (m : Memref sig .tc .vmem S2x64x64x80 .f32) (mA : Memref sig .tc .vmem S16x64x80 .f32) (A : Vec F S16x64x80 .f32)
    (n : Fin 64) {offS : Fin 4 → ℕ} (inbS : ∀ x, offS x + S1x1x64x80.size x ≤ S2x64x64x80.size x) (hlS)
    {offA : Fin 3 → ℕ} (inbA : ∀ x, offA x + S1x1x80.size x ≤ S16x64x80.size x) (hlA)
    (hS : offS = ![h.val, n.val, 0, 0]) (hA : offA = ![r.val, n.val, 0]) :
    iprop(own c m S ∗ own c mA A)
      ⊢ run c E (do
          let v32 : Vec F S1x1x64x80 .f32 ← Prog.lift (.load m (Rect.unit (s := S2x64x64x80) offS S1x1x64x80.size inbS).toLoadRect hlS)
          let v36 : Vec F S1x1x80 .f32 ← Prog.lift (.load mA (Rect.unit (s := S16x64x80) offA S1x1x80.size inbA).toLoadRect hlA)
          pure (k0_pay3 (dot h r S A n.val) v32 v36))
        (fun y => iprop(⌜y = dot h r S A (n.val + 1)⌝ ∗ own c m S ∗ own c mA A)) := by
  subst hS hA
  iintro ⟨HS, HA⟩
  iapply (run_load c E m S inbS hlS rfl inbS) $$ HS
  iintro HS
  iapply (run_load c E mA A inbA hlA rfl inbA) $$ HA
  iintro HA
  rw [window_rowS, window_rowA]
  unfold run
  rw [Prog.pure_eq_ret, wp_ret]; imodintro
  isplitr
  · ipureintro
    rw [dot, show Fin.ofNat 64 n.val = n from Fin.ext (Nat.mod_eq_of_lt n.isLt)]
  isplitl [HS]; · iexact HS
  iexact HA

/-- The buffers of one direction at their contents. -/
abbrev held (c : Dev nD) (mw mb mk mr : Memref sig .tc .vmem S16x64x80 .f32) : sProp 𝕄 :=
  iprop(own c mw X.w ∗ own c mb X.b ∗ own c mk X.k ∗ own c mr X.r)

/-- One trip of the loop that steps the state and sums the result. -/
theorem trip_step (c : Dev nD) (E : Set ℕ) (m : Memref sig .tc .vmem S2x64x64x80 .f32) (mw mb mk mr : Memref sig .tc .vmem S16x64x80 .f32)
    (n : Fin 64) {offS : Fin 4 → ℕ} (inbS : ∀ x, offS x + S1x1x64x80.size x ≤ S2x64x64x80.size x) (hlS hlS') (hst hun)
    {offA : Fin 3 → ℕ} (inbA : ∀ x, offA x + S1x1x80.size x ≤ S16x64x80.size x) (hlw hlb hlk hlr)
    (hS : offS = ![h.val, n.val, 0, 0]) (hA : offA = ![r.val, n.val, 0]) :
    iprop(own c m (upd h r S X n.val) ∗ held X c mw mb mk mr)
      ⊢ run c E (do
          let v32 : Vec F S1x1x64x80 .f32 ← Prog.lift (.load m (Rect.unit (s := S2x64x64x80) offS S1x1x64x80.size inbS).toLoadRect hlS)
          let v36 : Vec F S1x1x80 .f32 ← Prog.lift (.load mw (Rect.unit (s := S16x64x80) offA S1x1x80.size inbA).toLoadRect hlw)
          let v42 : Vec F S1x1x80 .f32 ← Prog.lift (.load mb (Rect.unit (s := S16x64x80) offA S1x1x80.size inbA).toLoadRect hlb)
          let v49 : Vec F S1x1x80 .f32 ← Prog.lift (.load mk (Rect.unit (s := S16x64x80) offA S1x1x80.size inbA).toLoadRect hlk)
          let v55 : Vec F S1x1x64x80 .f32 ← Prog.lift (.load m (Rect.unit (s := S2x64x64x80) offS S1x1x64x80.size inbS).toLoadRect hlS')
          Prog.lift (.store m (Rect.unit (s := S2x64x64x80) offS S1x1x64x80.size inbS)
            (k0_pay6 (rowV X.v r) (dot h r S X.a 64) v32 v36 v42 v49) Finset.univ hst hun)
          let v60 : Vec F S1x1x80 .f32 ← Prog.lift (.load mr (Rect.unit (s := S16x64x80) offA S1x1x80.size inbA).toLoadRect hlr)
          pure (k0_pay7 (rowV X.v r) (dot h r S X.a 64) (out h r S X n.val) v32 v36 v42 v49 v60))
        (fun y => iprop(⌜y = out h r S X (n.val + 1)⌝ ∗ own c m (upd h r S X (n.val + 1)) ∗ held X c mw mb mk mr)) := by
  subst hS hA
  iintro ⟨HS, Hw, Hb, Hk, Hr⟩
  iapply (run_load c E m _ inbS hlS rfl inbS) $$ HS
  iintro HS
  iapply (run_load c E mw X.w inbA hlw rfl inbA) $$ Hw
  iintro Hw
  iapply (run_load c E mb X.b inbA hlb rfl inbA) $$ Hb
  iintro Hb
  iapply (run_load c E mk X.k inbA hlk rfl inbA) $$ Hk
  iintro Hk
  iapply (run_load c E m _ inbS hlS' rfl inbS) $$ HS
  iintro HS
  rw [window_rowS, window_rowA, window_rowA, window_rowA, rowS_upd]
  iapply (run_store c E m _ inbS _ hst hun rfl) $$ HS
  iintro HS
  rw [put_upd]
  iapply (run_load c E mr X.r inbA hlr rfl inbA) $$ Hr
  iintro Hr
  rw [window_rowA]
  unfold run
  rw [Prog.pure_eq_ret, wp_ret]; imodintro
  isplitr
  · ipureintro
    rw [out, show Fin.ofNat 64 n.val = n from Fin.ext (Nat.mod_eq_of_lt n.isLt)]
  isplitl [HS]; · iexact HS
  isplitl [Hw]; · iexact Hw
  isplitl [Hb]; · iexact Hb
  isplitl [Hk]; · iexact Hk
  iexact Hr

/-! ## The inner loops -/

section Loops

variable (c : Dev nD) (E : Set ℕ) (i : grid0.Coords) (arg1 : Memref sig .tc .vmem S16x64x80 .f32) (harg1 : arg1.IsWhole) (arg2 : Memref sig .tc .vmem S16x64x80 .f32) (harg2 : arg2.IsWhole) (arg3 : Memref sig .tc .vmem S16x64x80 .f32) (harg3 : arg3.IsWhole) (arg4 : Memref sig .tc .vmem S16x64x80 .f32) (harg4 : arg4.IsWhole) (arg5 : Memref sig .tc .vmem S16x64x80 .f32) (harg5 : arg5.IsWhole) (arg6 : Memref sig .tc .vmem S16x64x80 .f32) (harg6 : arg6.IsWhole) (arg7 : Memref sig .tc .vmem S16x64x80 .f32) (harg7 : arg7.IsWhole) (arg8 : Memref sig .tc .vmem S16x64x80 .f32) (harg8 : arg8.IsWhole) (arg9 : Memref sig .tc .vmem S16x64x80 .f32) (harg9 : arg9.IsWhole) (arg10 : Memref sig .tc .vmem S16x64x80 .f32) (harg10 : arg10.IsWhole) (arg11 : Memref sig .tc .vmem S16x64x80 .f32) (harg11 : arg11.IsWhole) (arg12 : Memref sig .tc .vmem S16x64x80 .f32) (harg12 : arg12.IsWhole) (arg13 : Memref sig .tc .vmem S16x64x80 .f32) (harg13 : arg13.IsWhole) (arg14 : Memref sig .tc .vmem S16x64x80 .f32) (harg14 : arg14.IsWhole) (arg15 : Memref sig .tc .vmem S2x64x64x80 .f32) (harg15 : arg15.IsWhole)

theorem trips1 : k0_t1_loop.trips = 16 := by decide +kernel
theorem trips2 : k0_t2_loop.trips = 64 := by decide +kernel
theorem trips3 : k0_t3_loop.trips = 64 := by decide +kernel
theorem trips4 : k0_t4_loop.trips = 64 := by decide +kernel
theorem trips5 : k0_t5_loop.trips = 64 := by decide +kernel

/-- The forward removal sum. -/
theorem loop2 (t : Fin k0_t1_loop.trips) (hr : t.val = r.val) {α : Type} (kk : FVec F S64x80 .f32 → Prog (TpuEff nD τ sig (Elt F) Λ₀ .tc) α) (Q : α → sProp 𝕄) :
    iprop(own c arg15 S ∗ own c arg1 X.a)
      ⊢ iprop((iprop(own c arg15 S ∗ own c arg1 X.a) -∗ run c E (kk (dot 0 r S X.a 64)) Q)
        -∗ run c E (Scf.Loop.for k0_t2_loop k0_t2_ok (k0_pay2 (F := F)) (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 t) >>= kk) Q) := by
  iintro H Hk
  iapply (Scf.wp_for_bind frame (wpE (defs₀ (F := F)) Variants.none (c : Thread nD τ) none) E _ _ _ k0_t2_ok _ _
    (fun n acc => iprop(⌜acc = dot 0 r S X.a n⌝ ∗ own c arg15 S ∗ own c arg1 X.a))
    (fun k acc => by
      have hk : k.val < 64 := lt_of_lt_of_eq k.isLt trips2
      iintro ⟨%e, H⟩
      subst e
      iapply (trip_dot 0 r S c E arg15 arg1 X.a ⟨k.val, hk⟩ (k0_off2_inb k) _ (k0_off3_inb t k) _ (k0_off2_eq k) ((k0_off3_eq t k).trans (by rw [hr])))
      iexact H)) $$ [H]
  · isplitr
    · ipureintro; rfl
    iexact H
  iintro %acc ⟨%e, H⟩
  have e' : acc = dot 0 r S X.a 64 := e.trans (congrArg _ trips2)
  subst e'
  iapply Hk
  iexact H

/-- The forward step of the state and its result. -/
theorem loop3 (t : Fin k0_t1_loop.trips) (hr : t.val = r.val) {α : Type} (kk : FVec F S64x80 .f32 → Prog (TpuEff nD τ sig (Elt F) Λ₀ .tc) α) (Q : α → sProp 𝕄) :
    iprop(own c arg15 S ∗ held X c arg2 arg3 arg4 arg5)
      ⊢ iprop((iprop(own c arg15 (upd 0 r S X 64) ∗ held X c arg2 arg3 arg4 arg5) -∗ run c E (kk (out 0 r S X 64)) Q)
        -∗ run c E (Scf.Loop.for k0_t3_loop k0_t3_ok (k0_pay4 (F := F))
          (k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 t (rowV X.v r) (dot 0 r S X.a 64)) >>= kk) Q) := by
  iintro H Hk
  iapply (Scf.wp_for_bind frame (wpE (defs₀ (F := F)) Variants.none (c : Thread nD τ) none) E _ _ _ k0_t3_ok _ _
    (fun n acc => iprop(⌜acc = out 0 r S X n⌝ ∗ own c arg15 (upd 0 r S X n) ∗ held X c arg2 arg3 arg4 arg5))
    (fun k acc => by
      have hk : k.val < 64 := lt_of_lt_of_eq k.isLt trips3
      iintro ⟨%e, H⟩
      subst e
      iapply (trip_step 0 r S X c E arg15 arg2 arg3 arg4 arg5 ⟨k.val, hk⟩ (k0_off4_inb k) _ _ _ _ (k0_off5_inb t k) _ _ _ _ (k0_off4_eq k)
        ((k0_off5_eq t k).trans (by rw [hr])))
      iexact H)) $$ [H]
  · isplitr
    · ipureintro; rfl
    rw [upd_zero]
    iexact H
  iintro %acc ⟨%e, H⟩
  have e' : acc = out 0 r S X 64 := e.trans (congrArg _ trips3)
  subst e'
  iapply Hk
  rw [show (Scf.trips k0_t3_loop.lb k0_t3_loop.ub k0_t3_loop.st) = 64 from trips3]
  iexact H

/-- The backward removal sum. -/
theorem loop4 (t : Fin k0_t1_loop.trips) (hr : 15 - t.val = r.val) {α : Type} (kk : FVec F S64x80 .f32 → Prog (TpuEff nD τ sig (Elt F) Λ₀ .tc) α) (Q : α → sProp 𝕄) :
    iprop(own c arg15 S ∗ own c arg7 X.a)
      ⊢ iprop((iprop(own c arg15 S ∗ own c arg7 X.a) -∗ run c E (kk (dot 1 r S X.a 64)) Q)
        -∗ run c E (Scf.Loop.for k0_t4_loop k0_t4_ok (k0_pay2 (F := F)) (k0_t4_body i arg1 harg1 arg2 harg2 arg3 harg3 arg4 harg4 arg5 harg5 arg6 harg6 arg7 harg7 arg8 harg8 arg9 harg9 arg10 harg10 arg11 harg11 arg12 harg12 arg13 harg13 arg14 harg14 arg15 harg15 t) >>= kk) Q) := by
  iintro H Hk
  iapply (Scf.wp_for_bind frame (wpE (defs₀ (F := F)) Variants.none (c : Thread nD τ) none) E _ _ _ k0_t4_ok _ _
    (fun n acc => iprop(⌜acc = dot 1 r S X.a n⌝ ∗ own c arg15 S ∗ own c arg7 X.a))
    (fun k acc => by
      have hk : k.val < 64 := lt_of_lt_of_eq k.isLt trips4
      iintro ⟨%e, H⟩
      subst e
      iapply (trip_dot 1 r S c E arg15 arg7 X.a ⟨k.val, hk⟩ (k0_off7_inb k) _ (k0_off8_inb t k) _ (k0_off7_eq k) ((k0_off8_eq t k).trans (by rw [hr])))
      iexact H)) $$ [H]
  · isplitr
    · ipureintro; rfl
    iexact H
  iintro %acc ⟨%e, H⟩
  have e' : acc = dot 1 r S X.a 64 := e.trans (congrArg _ trips4)
  subst e'
  iapply Hk
  iexact H

/-- The backward step of the state and its result. -/
theorem loop5 (t : Fin k0_t1_loop.trips) (hr : 15 - t.val = r.val) {α : Type} (kk : FVec F S64x80 .f32 → Prog (TpuEff nD τ sig (Elt F) Λ₀ .tc) α) (Q : α → sProp 𝕄) :
    iprop(own c arg15 S ∗ held X c arg8 arg9 arg10 arg11)
      ⊢ iprop((iprop(own c arg15 (upd 1 r S X 64) ∗ held X c arg8 arg9 arg10 arg11) -∗ run c E (kk (out 1 r S X 64)) Q)
        -∗ run c E (Scf.Loop.for k0_t5_loop k0_t5_ok (k0_pay4 (F := F))
          (k0_t5_body i arg1 harg1 arg2 harg2 arg3 harg3 arg4 harg4 arg5 harg5 arg6 harg6 arg7 harg7 arg8 harg8 arg9 harg9 arg10 harg10 arg11 harg11 arg12 harg12 arg13 harg13 arg14 harg14 arg15 harg15 t (rowV X.v r) (dot 1 r S X.a 64)) >>= kk) Q) := by
  iintro H Hk
  iapply (Scf.wp_for_bind frame (wpE (defs₀ (F := F)) Variants.none (c : Thread nD τ) none) E _ _ _ k0_t5_ok _ _
    (fun n acc => iprop(⌜acc = out 1 r S X n⌝ ∗ own c arg15 (upd 1 r S X n) ∗ held X c arg8 arg9 arg10 arg11))
    (fun k acc => by
      have hk : k.val < 64 := lt_of_lt_of_eq k.isLt trips5
      iintro ⟨%e, H⟩
      subst e
      iapply (trip_step 1 r S X c E arg15 arg8 arg9 arg10 arg11 ⟨k.val, hk⟩ (k0_off9_inb k) _ _ _ _ (k0_off10_inb t k) _ _ _ _ (k0_off9_eq k)
        ((k0_off10_eq t k).trans (by rw [hr])))
      iexact H)) $$ [H]
  · isplitr
    · ipureintro; rfl
    rw [upd_zero]
    iexact H
  iintro %acc ⟨%e, H⟩
  have e' : acc = out 1 r S X 64 := e.trans (congrArg _ trips5)
  subst e'
  iapply Hk
  rw [show (Scf.trips k0_t5_loop.lb k0_t5_loop.ub k0_t5_loop.st) = 64 from trips5]
  iexact H

end Loops

/-! ## A block of times -/

/-- The state before step `n` of a block: each step moves the forward half at time `n` and the backward half at time `15 - n`. -/
def along (Xf Xb : Ops F) (S : Vec F S2x64x64x80 .f32) : ℕ → Vec F S2x64x64x80 .f32
  | 0 => S
  | n + 1 => upd 1 (Fin.ofNat 16 (15 - n)) (upd 0 (Fin.ofNat 16 n) (along Xf Xb S n) Xf 64) Xb 64

/-- The forward results of a block. -/
def outF (Xf Xb : Ops F) (S : Vec F S2x64x64x80 .f32) : Vec F S16x64x80 .f32 := fun y =>
  out 0 (y 0) (along Xf Xb S (y 0).val) Xf 64 (ix2 (y 1) (y 2))

/-- The backward results of a block. -/
def outB (Xf Xb : Ops F) (S : Vec F S2x64x64x80 .f32) : Vec F S16x64x80 .f32 := fun y =>
  out 1 (y 0) (upd 0 (Fin.ofNat 16 (15 - (y 0).val)) (along Xf Xb S (15 - (y 0).val)) Xf 64) Xb 64 (ix2 (y 1) (y 2))

omit [FloatOps F] in
theorem castV_at (P : FVec F S64x80 .f32) (i : Fin 64) (j : Fin 80) :
    (shapeCast S1x64x80 P shapeCasts_S64x80_S1x64x80 : FVec F S1x64x80 .f32) (ix3 0 i j) = P (ix2 i j) := by
  pointwise

/-- A time's result put over its row of the block: there it reads the result, -/
theorem putV_same (Y : Vec F S16x64x80 .f32) (r : Fin 16) (P : FVec F S64x80 .f32) (y : S16x64x80.Idx) (hy : (y 0).val = r.val) :
    VecWindow.put Y ![r.val, 0, 0] S1x64x80.size (k0_pay8 P) y = P (ix2 (y 1) (y 2)) := by
  unfold VecWindow.put
  have hw : ∀ a : Fin 3, (![r.val, 0, 0] : Fin 3 → ℕ) a ≤ (y a).val ∧ (y a).val < (![r.val, 0, 0] : Fin 3 → ℕ) a + S1x64x80.size a := by
    intro a
    fin_cases a
    · show r.val ≤ (y 0).val ∧ (y 0).val < r.val + 1
      omega
    · exact ⟨Nat.zero_le _, by show (y 1).val < 0 + 64; have : (y 1).val < 64 := (y 1).isLt; omega⟩
    · exact ⟨Nat.zero_le _, by show (y 2).val < 0 + 80; have : (y 2).val < 80 := (y 2).isLt; omega⟩
  rw [dif_pos hw]
  refine Eq.trans (congrArg (k0_pay8 _) (?_ : _ = (ix3 0 (y 1) (y 2) : S1x64x80.Idx))) (castV_at P (y 1) (y 2))
  funext a
  refine Fin.ext ?_
  fin_cases a
  · show (y 0).val - r.val = 0
    omega
  · rfl
  · rfl

/-- and elsewhere what was there. -/
theorem putV_other (Y : Vec F S16x64x80 .f32) (r : Fin 16) (P : FVec F S64x80 .f32) (y : S16x64x80.Idx) (hy : (y 0).val ≠ r.val) :
    VecWindow.put Y ![r.val, 0, 0] S1x64x80.size (k0_pay8 P) y = Y y := by
  unfold VecWindow.put
  rw [dif_neg]
  intro hw
  have w0 : r.val ≤ (y 0).val ∧ (y 0).val < r.val + 1 := hw 0
  exact hy (by omega)

/-- One direction's operand buffers at their contents. -/
abbrev ins (c : Dev nD) (ma mw mb mk mr mv : Memref sig .tc .vmem S16x64x80 .f32) : sProp 𝕄 :=
  iprop(own c ma X.a ∗ held X c mw mb mk mr ∗ own c mv X.v)

/-- The forward result block with its first `n` times at their results. -/
abbrev doneF (c : Dev nD) (m : Memref sig .tc .vmem S16x64x80 .f32) (Xf Xb : Ops F) (S : Vec F S2x64x64x80 .f32) (n : ℕ) : sProp 𝕄 :=
  iprop(∃ Y, ⌜∀ y : S16x64x80.Idx, (y 0).val < n → Y y = outF Xf Xb S y⌝ ∗ own c m Y)

/-- The backward result block with its last `n` times at their results. -/
abbrev doneB (c : Dev nD) (m : Memref sig .tc .vmem S16x64x80 .f32) (Xf Xb : Ops F) (S : Vec F S2x64x64x80 .f32) (n : ℕ) : sProp 𝕄 :=
  iprop(∃ Y, ⌜∀ y : S16x64x80.Idx, 16 ≤ (y 0).val + n → Y y = outB Xf Xb S y⌝ ∗ own c m Y)

section Point

variable (c : Dev nD) (E : Set ℕ) (Xf Xb : Ops F) (i : grid0.Coords) (arg1 : Memref sig .tc .vmem S16x64x80 .f32) (harg1 : arg1.IsWhole) (arg2 : Memref sig .tc .vmem S16x64x80 .f32) (harg2 : arg2.IsWhole) (arg3 : Memref sig .tc .vmem S16x64x80 .f32) (harg3 : arg3.IsWhole) (arg4 : Memref sig .tc .vmem S16x64x80 .f32) (harg4 : arg4.IsWhole) (arg5 : Memref sig .tc .vmem S16x64x80 .f32) (harg5 : arg5.IsWhole) (arg6 : Memref sig .tc .vmem S16x64x80 .f32) (harg6 : arg6.IsWhole) (arg7 : Memref sig .tc .vmem S16x64x80 .f32) (harg7 : arg7.IsWhole) (arg8 : Memref sig .tc .vmem S16x64x80 .f32) (harg8 : arg8.IsWhole) (arg9 : Memref sig .tc .vmem S16x64x80 .f32) (harg9 : arg9.IsWhole) (arg10 : Memref sig .tc .vmem S16x64x80 .f32) (harg10 : arg10.IsWhole) (arg11 : Memref sig .tc .vmem S16x64x80 .f32) (harg11 : arg11.IsWhole) (arg12 : Memref sig .tc .vmem S16x64x80 .f32) (harg12 : arg12.IsWhole) (arg13 : Memref sig .tc .vmem S16x64x80 .f32) (harg13 : arg13.IsWhole) (arg14 : Memref sig .tc .vmem S16x64x80 .f32) (harg14 : arg14.IsWhole) (arg15 : Memref sig .tc .vmem S2x64x64x80 .f32) (harg15 : arg15.IsWhole)

/-- What the block's loop holds before step `n`. -/
abbrev atStep (n : ℕ) : sProp 𝕄 :=
  iprop(own c arg15 (along Xf Xb S n) ∗ ins Xf c arg1 arg2 arg3 arg4 arg5 arg6 ∗ ins Xb c arg7 arg8 arg9 arg10 arg11 arg12
    ∗ doneF c arg13 Xf Xb S n ∗ doneB c arg14 Xf Xb S n)

/-- One step of the block's loop. -/
theorem trip1 (t : Fin k0_t1_loop.trips) :
    atStep S c Xf Xb arg1 arg2 arg3 arg4 arg5 arg6 arg7 arg8 arg9 arg10 arg11 arg12 arg13 arg14 arg15 t.val
      ⊢ run c E (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 t ⟨⟩)
        (fun _ => atStep S c Xf Xb arg1 arg2 arg3 arg4 arg5 arg6 arg7 arg8 arg9 arg10 arg11 arg12 arg13 arg14 arg15 (t.val + 1)) := by
  have ht : t.val < 16 := lt_of_lt_of_eq t.isLt trips1
  have hf : t.val = (Fin.ofNat 16 t.val).val := (Nat.mod_eq_of_lt ht).symm
  have hb : 15 - t.val = (Fin.ofNat 16 (15 - t.val)).val := (Nat.mod_eq_of_lt (by omega)).symm
  have e1 : k0_off1 t = ![(Fin.ofNat 16 t.val).val, 0, 0] := (k0_off1_eq t).trans (by rw [← hf])
  have e6 : k0_off6 t = ![(Fin.ofNat 16 (15 - t.val)).val, 0, 0] := (k0_off6_eq t).trans (by rw [← hb])
  have i1 := e1 ▸ k0_off1_inb t
  have i6 := e6 ▸ k0_off6_inb t
  unfold k0_t1_body
  iintro ⟨HS, ⟨Ha, Hh, Hv⟩, ⟨Hα, Hη, Hν⟩, ⟨%Y, %hY, HY⟩, ⟨%Z, %hZ, HZ⟩⟩
  iapply (run_load c E arg6 Xf.v (k0_off1_inb t) _ e1 i1) $$ Hv
  iintro Hv
  rw [window_rowV]
  iapply (loop2 (Fin.ofNat 16 t.val) _ Xf c E i arg1 harg1 arg2 harg2 arg3 harg3 arg4 harg4 arg5 harg5 arg6 harg6 arg7 harg7 arg8 harg8 arg9 harg9 arg10 harg10 arg11 harg11 arg12 harg12 arg13 harg13 arg14 harg14 arg15 harg15 t hf) $$ [HS Ha]
  · isplitl [HS]; · iexact HS
    iexact Ha
  iintro ⟨HS, Ha⟩
  iapply (loop3 (Fin.ofNat 16 t.val) _ Xf c E i arg1 harg1 arg2 harg2 arg3 harg3 arg4 harg4 arg5 harg5 arg6 harg6 arg7 harg7 arg8 harg8 arg9 harg9 arg10 harg10 arg11 harg11 arg12 harg12 arg13 harg13 arg14 harg14 arg15 harg15 t hf) $$ [HS Hh]
  · isplitl [HS]; · iexact HS
    iexact Hh
  iintro ⟨HS, Hh⟩
  iapply (run_load c E arg13 Y (k0_off1_inb t) _ e1 i1) $$ HY
  iintro HY
  iapply (run_store c E arg13 Y (k0_off1_inb t) _ _ _ e1) $$ HY
  iintro HY
  iapply (run_load c E arg12 Xb.v (k0_off6_inb t) _ e6 i6) $$ Hν
  iintro Hν
  rw [window_rowV]
  iapply (loop4 (Fin.ofNat 16 (15 - t.val)) _ Xb c E i arg1 harg1 arg2 harg2 arg3 harg3 arg4 harg4 arg5 harg5 arg6 harg6 arg7 harg7 arg8 harg8 arg9 harg9 arg10 harg10 arg11 harg11 arg12 harg12 arg13 harg13 arg14 harg14 arg15 harg15 t hb) $$ [HS Hα]
  · isplitl [HS]; · iexact HS
    iexact Hα
  iintro ⟨HS, Hα⟩
  iapply (loop5 (Fin.ofNat 16 (15 - t.val)) _ Xb c E i arg1 harg1 arg2 harg2 arg3 harg3 arg4 harg4 arg5 harg5 arg6 harg6 arg7 harg7 arg8 harg8 arg9 harg9 arg10 harg10 arg11 harg11 arg12 harg12 arg13 harg13 arg14 harg14 arg15 harg15 t hb) $$ [HS Hη]
  · isplitl [HS]; · iexact HS
    iexact Hη
  iintro ⟨HS, Hη⟩
  iapply (run_load c E arg14 Z (k0_off6_inb t) _ e6 i6) $$ HZ
  iintro HZ
  iapply (run_store c E arg14 Z (k0_off6_inb t) _ _ _ e6) $$ HZ
  iintro HZ
  unfold run
  rw [Prog.pure_eq_ret, wp_ret]; imodintro
  isplitl [HS]; · iexact HS
  isplitl [Ha Hh Hv]
  · isplitl [Ha]; · iexact Ha
    isplitl [Hh]; · iexact Hh
    iexact Hv
  isplitl [Hα Hη Hν]
  · isplitl [Hα]; · iexact Hα
    isplitl [Hη]; · iexact Hη
    iexact Hν
  isplitl [HY]
  · iexists _; isplitr
    swap; · iexact HY
    ipureintro
    intro y hy
    by_cases h0 : (y 0).val = t.val
    · refine (putV_same Y (Fin.ofNat 16 t.val) _ y (h0.trans hf)).trans ?_
      unfold outF
      rw [h0, show y 0 = Fin.ofNat 16 t.val from Fin.ext (h0.trans hf)]
    · exact (putV_other Y (Fin.ofNat 16 t.val) _ y (fun q => h0 (q.trans hf.symm))).trans (hY y (by omega))
  · iexists _; isplitr
    swap; · iexact HZ
    ipureintro
    intro y hy
    have h15 : (y 0).val < 16 := (y 0).isLt
    by_cases h0 : (y 0).val = 15 - t.val
    · refine (putV_same Z (Fin.ofNat 16 (15 - t.val)) _ y (h0.trans hb)).trans ?_
      unfold outB
      rw [show 15 - (y 0).val = t.val by omega, show y 0 = Fin.ofNat 16 (15 - t.val) from Fin.ext (h0.trans hb)]
    · exact (putV_other Z (Fin.ofNat 16 (15 - t.val)) _ y (fun q => h0 (q.trans hb.symm))).trans (hZ y (by omega))

/-- The block's loop. -/
theorem loop1 {α : Type} (kk : PUnit → Prog (TpuEff nD τ sig (Elt F) Λ₀ .tc) α) (Q : α → sProp 𝕄) :
    atStep S c Xf Xb arg1 arg2 arg3 arg4 arg5 arg6 arg7 arg8 arg9 arg10 arg11 arg12 arg13 arg14 arg15 0
      ⊢ iprop((atStep S c Xf Xb arg1 arg2 arg3 arg4 arg5 arg6 arg7 arg8 arg9 arg10 arg11 arg12 arg13 arg14 arg15 16 -∗ run c E (kk ⟨⟩) Q)
        -∗ run c E (Scf.Loop.for k0_t1_loop k0_t1_ok ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15) >>= kk) Q) := by
  iintro H Hk
  iapply (Scf.wp_for_bind frame (wpE (defs₀ (F := F)) Variants.none (c : Thread nD τ) none) E _ _ _ k0_t1_ok _ _
    (fun n _ => atStep S c Xf Xb arg1 arg2 arg3 arg4 arg5 arg6 arg7 arg8 arg9 arg10 arg11 arg12 arg13 arg14 arg15 n)
    (fun k _ => trip1 S c E Xf Xb i arg1 harg1 arg2 harg2 arg3 harg3 arg4 harg4 arg5 harg5 arg6 harg6 arg7 harg7 arg8 harg8 arg9 harg9 arg10 harg10 arg11 harg11 arg12 harg12 arg13 harg13 arg14 harg14 arg15 harg15 k)) $$ H
  iintro %acc H
  iapply Hk
  rw [show (Scf.trips k0_t1_loop.lb k0_t1_loop.ub k0_t1_loop.st) = 16 from trips1]
  iexact H

/-- What a point's body starts its loop from: zeros at the first point, else the state as found. -/
def entry (S : Vec F S2x64x64x80 .f32) : Vec F S2x64x64x80 .f32 := if (i 0).val = 0 then k0_pay1 else S

/-- The body at a point. -/
theorem sound (K : PUnit → sProp 𝕄) :
    iprop(own c arg15 S ∗ ins Xf c arg1 arg2 arg3 arg4 arg5 arg6 ∗ ins Xb c arg7 arg8 arg9 arg10 arg11 arg12
        ∗ (∃ d, own c arg13 d) ∗ (∃ d, own c arg14 d)
        ∗ (iprop(own c arg15 (along Xf Xb (entry i S) 16) ∗ ins Xf c arg1 arg2 arg3 arg4 arg5 arg6 ∗ ins Xb c arg7 arg8 arg9 arg10 arg11 arg12
            ∗ own c arg13 (outF Xf Xb (entry i S)) ∗ own c arg14 (outB Xf Xb (entry i S))) -∗ K ⟨⟩))
      ⊢ run c E (cc0_rwkv_scan i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  rw [cc0_rwkv_scan_eq_skeleton]
  unfold cc0_rwkv_scan_skel
  have hc : (Scalar.cmpi .ne (Scalar.extui (Scalar.cmpi .eq (BitVec.ofNat 32 (i 0).val) 0#32 : BitVec 1) : BitVec 32) 0#32 = 1#1) ↔ (i 0).val = 0 := by
    have hb : (i 0).val < 256 := (i 0).isLt
    revert hb
    generalize (i 0).val = n
    intro hb
    revert n
    decide +kernel
  have rest : iprop(own c arg15 (entry i S) ∗ ins Xf c arg1 arg2 arg3 arg4 arg5 arg6 ∗ ins Xb c arg7 arg8 arg9 arg10 arg11 arg12
        ∗ (∃ d, own c arg13 d) ∗ (∃ d, own c arg14 d)
        ∗ (iprop(own c arg15 (along Xf Xb (entry i S) 16) ∗ ins Xf c arg1 arg2 arg3 arg4 arg5 arg6 ∗ ins Xb c arg7 arg8 arg9 arg10 arg11 arg12
            ∗ own c arg13 (outF Xf Xb (entry i S)) ∗ own c arg14 (outB Xf Xb (entry i S))) -∗ K ⟨⟩))
      ⊢ run c E (Scf.Loop.for k0_t1_loop k0_t1_ok ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15) >>= fun _ => pure ⟨⟩) K := by
    iintro ⟨HS, Hf, Hb, ⟨%d, HY⟩, ⟨%d', HZ⟩, HK⟩
    iapply (loop1 (entry i S) c E Xf Xb i arg1 harg1 arg2 harg2 arg3 harg3 arg4 harg4 arg5 harg5 arg6 harg6 arg7 harg7 arg8 harg8 arg9 harg9 arg10 harg10 arg11 harg11 arg12 harg12 arg13 harg13 arg14 harg14 arg15 harg15) $$ [HS Hf Hb HY HZ]
    · isplitl [HS]; · iexact HS
      isplitl [Hf]; · iexact Hf
      isplitl [Hb]; · iexact Hb
      isplitl [HY]
      · iexists d; isplitr
        · ipureintro; exact fun y hy => absurd hy (Nat.not_lt_zero _)
        iexact HY
      · iexists d'; isplitr
        · ipureintro; exact fun y hy => absurd (y 0).isLt (Nat.not_lt.mpr hy)
        iexact HZ
    iintro ⟨HS, Hf, Hb, ⟨%Y, %hY, HY⟩, ⟨%Z, %hZ, HZ⟩⟩
    have eY : Y = outF Xf Xb (entry i S) := funext fun y => hY y (y 0).isLt
    have eZ : Z = outB Xf Xb (entry i S) := funext fun y => hZ y (Nat.le_add_left _ _)
    subst eY eZ
    unfold run
    rw [Prog.pure_eq_ret, wp_ret]; imodintro
    iapply HK
    isplitl [HS]; · iexact HS
    isplitl [Hf]; · iexact Hf
    isplitl [Hb]; · iexact Hb
    isplitl [HY]; · iexact HY
    iexact HZ
  by_cases h0 : (i 0).val = 0
  · rw [dif_pos (hc.mpr h0)]
    iintro ⟨HS, H⟩
    iapply (run_load c E arg15 S inb_S2x64x64x80_S2x64x64x80_0_0_0_0 _ rfl inb_S2x64x64x80_S2x64x64x80_0_0_0_0) $$ HS
    iintro HS
    iapply (run_store c E arg15 S inb_S2x64x64x80_S2x64x64x80_0_0_0_0 _ _ _ rfl) $$ HS
    iintro HS
    have e : VecWindow.put S ![0, 0, 0, 0] S2x64x64x80.size (k0_pay1 (F := F)) = entry i S := by
      unfold entry
      rw [if_pos h0]
      funext y
      unfold VecWindow.put
      have hw : ∀ a : Fin 4, (![0, 0, 0, 0] : Fin 4 → ℕ) a ≤ (y a).val ∧ (y a).val < (![0, 0, 0, 0] : Fin 4 → ℕ) a + S2x64x64x80.size a := by
        intro a
        have := (y a).isLt
        fin_cases a <;> exact ⟨Nat.zero_le _, lt_of_lt_of_eq this (Nat.zero_add _).symm⟩
      rw [dif_pos hw]
      rfl
    rw [e]
    iapply rest
    isplitl [HS]; · iexact HS
    iexact H
  · rw [dif_neg (fun q => h0 (hc.mp q))]
    have e : entry i S = S := if_neg h0
    rw [e] at rest ⊢
    exact rest

end Point

end Cert.Kernel3Ideal.Scan

end
-- ==== Proof.ScanRun.lean ====
/- The recurrence call's run: the state carried from point to point, and what every point leaves. -/
module

public import proofs.«01_k».proof.Defs
public import proofs.«01_k».proof.Proof.Gen.Kernel3
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.ScanLoops

@[expose] public section

noncomputable section

namespace Cert.Kernel3Ideal.Scan

open Idealize.ShloMosaic Idealize.ShloMosaic.TcCoe Cert.Kernel3Ideal Cert.Kernel3Ideal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The forward operands' blocks at a point. -/
def fwd (c : Dev nD) (t : Fin cfg0.N) : Ops F := ⟨iblk m c 0 t, iblk m c 1 t, iblk m c 2 t, iblk m c 3 t, iblk m c 4 t, iblk m c 5 t⟩
/-- The backward operands' blocks at a point. -/
def bwd (c : Dev nD) (t : Fin cfg0.N) : Ops F := ⟨iblk m c 6 t, iblk m c 7 t, iblk m c 8 t, iblk m c 9 t, iblk m c 10 t, iblk m c 11 t⟩

/-- The state a point's loop starts from. -/
def state (c : Dev nD) : ℕ → Vec F S2x64x64x80 .f32
  | 0 => k0_pay1
  | n + 1 => if h : n < cfg0.N then along (fwd m c ⟨n, h⟩) (bwd m c ⟨n, h⟩) (state c n) 16 else state c n

theorem state_succ (c : Dev nD) (t : Fin cfg0.N) : state m c (t.val + 1) = along (fwd m c t) (bwd m c t) (state m c t.val) 16 := by
  rw [state, dif_pos t.isLt]

theorem coord (t : Fin cfg0.N) : ((grid0.coords t) 0).val = t.val :=
  (by decide +kernel : ∀ t : Fin grid0.N, ((grid0.coords t) 0).val = t.val) t

theorem entry_eq (c : Dev nD) (t : Fin cfg0.N) (S : Vec F S2x64x64x80 .f32) (h : t.val ≠ 0 → S = state m c t.val) :
    entry (grid0.coords t) S = state m c t.val := by
  unfold entry
  rw [coord]
  by_cases h0 : t.val = 0
  · rw [if_pos h0, h0]; rfl
  · rw [if_neg h0]; exact h h0

/-- What is carried between points: the state, and the generator register. -/
def carried (c : Dev nD) (n : ℕ) : sProp 𝕄 :=
  iprop((∃ S, ⌜n ≠ 0 → S = state m c n⌝ ∗ own c (Memref.whole cc0_scratch0) S) ∗ ∃ r, prngReg c r)

/-- The call's arrays, what each point leaves in every block, and what is carried between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outF (fwd m c t) (bwd m c t) (state m c t.val)
    | ⟨13, _⟩ => outB (fwd m c t) (bwd m c t) (state m c t.val)
  Φ t := carried m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = outF (fwd m c t) (bwd m c t) (state m c t.val) := by dsimp only [dats]
theorem after0_13 (c : Dev nD) (t : Fin cfg0.N) : (dats m 0 c).after 13 t = outB (fwd m c t) (bwd m c t) (state m c t.val) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- What a point's body is given, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = carried m c (t.val + 1) from rfl, show (dats m 0 c).Φ t.castSucc = carried m c t.val from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  unfold carried
  iintro ⟨⟨⟨%S, %hS, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have e := entry_eq m c t S hS
  iapply (sound S c Set.univ (fwd m c t) (bwd m c t) (grid0.coords t) _ _ _ _ _ _ _ _ _ _ _ _ _ _ _ _ _ _ _ _ _ _ _ _ _ _ _ _ _ _ _)
  rw [e]
  isplitl [HS]; · iexact HS
  isplitl [H0 H1 H2 H3 H4 H5]
  · isplitl [H0]; · iexact H0
    isplitl [H1 H2 H3 H4]
    · isplitl [H1]; · iexact H1
      isplitl [H2]; · iexact H2
      isplitl [H3]; · iexact H3
      iexact H4
    iexact H5
  isplitl [H6 H7 H8 H9 H10 H11]
  · isplitl [H6]; · iexact H6
    isplitl [H7 H8 H9 H10]
    · isplitl [H7]; · iexact H7
      isplitl [H8]; · iexact H8
      isplitl [H9]; · iexact H9
      iexact H10
    iexact H11
  isplitl [H12]; · iexists _; iexact H12
  isplitl [H13]; · iexists _; iexact H13
  iintro ⟨HS, ⟨H0, ⟨H1, H2, H3, H4⟩, H5⟩, ⟨H6, ⟨H7, H8, H9, H10⟩, H11⟩, H12, H13⟩
  isplitl [HS Hg]
  · isplitl [HS]
    · iexists _; isplitr
      swap; · iexact HS
      ipureintro
      exact fun _ => (state_succ m c t).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t` is the body at its blocks. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

theorem enter (c : Dev nD) : Pipeline.ΦA spec0 c ⊢ (dats m 0 c).Φ 0 := by
  rw [show (dats m 0 c).Φ 0 = carried m c 0 from rfl]
  unfold Pipeline.ΦA carried own
  rw [scopedRest0_eq]
  simp only [owns_whole]
  iintro ⟨⟨%f, H⟩, Hg⟩
  isplitl [H]
  · iexists f; isplitr
    · ipureintro; exact fun h => absurd rfl h
    iexact H
  iexact Hg

theorem leave (c : Dev nD) : (dats m 0 c).Φ (Fin.last cfg0.N) ⊢ Pipeline.ΦA spec0 c := by
  rw [show (dats m 0 c).Φ (Fin.last cfg0.N) = carried m c cfg0.N from rfl]
  unfold Pipeline.ΦA carried own
  rw [scopedRest0_eq]
  simp only [owns_whole]
  iintro ⟨⟨%f, -, H⟩, Hg⟩
  isplitl [H]
  · iexists f
    iexact H
  iexact Hg

set_option backward.isDefEq.respectTransparency.types false in
set_option maxHeartbeats 800000 in
/-- The run: every array at what the points leave, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_quiescent m ρ)

/-- The arguments end unchanged and every counter at zero, over any values. -/
theorem frame_any : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_quiescent m ρ))

theorem frame_ideal : Cert.quiescent_Kernel3Ideal := fun m ρ _ => frame_any (F := Ideal) m ρ

end Cert.Kernel3Ideal.Scan

end
-- ==== Proof.ScanBits.lean ====
/- The recurrence call's frame at bit values: its program there is the same text as the idealized one. -/
module

public import proofs.«01_k».proof.Defs
public import proofs.«01_k».proof.Proof.Gen.Kernel3
public import proofs.«01_k».proof.Proof.ScanRun

@[expose] public section

noncomputable section

namespace Cert.Kernel3Ideal.Scan

open Idealize.ShloMosaic Idealize.ShloMosaic.TcCoe Idealize.SL.Sem

set_option maxHeartbeats 2000000 in
theorem bodies_eq : Cert.Kernel3.defs₀ (F := Bits) = Cert.Kernel3Ideal.defs₀ (F := Bits) := by
  unfold Cert.Kernel3.defs₀ Cert.Kernel3Ideal.defs₀
  refine congrArg (Defs.onTc (nD := Cert.Kernel3.nD)) ?_
  funext a b
  match a, b with
  | 0, (t, s) => rfl

set_option maxHeartbeats 2000000 in
theorem main_eq : Cert.Kernel3.main (F := Bits) = Cert.Kernel3Ideal.main (F := Bits) := by
  unfold Cert.Kernel3.main Cert.Kernel3Ideal.main
  rfl

set_option maxHeartbeats 2000000 in
theorem defs_eq : Cert.Kernel3.defs (F := Bits) = Cert.Kernel3Ideal.defs (F := Bits) := by
  unfold Cert.Kernel3.defs Cert.Kernel3Ideal.defs
  rw [bodies_eq]; rfl

set_option maxHeartbeats 2000000 in
theorem frame_kernel : Cert.quiescent_Kernel3 := fun m ρ _ => by
  rw [defs_eq, main_eq]
  exact frame_any (F := Bits) m ρ

end Cert.Kernel3Ideal.Scan

end
-- ==== Proof.RefLoops.lean ====
/- The reference recurrence's host program as lists of operations: before, between and after its two loops,
   and one trip of each loop with what it makes of the buffers the loop carries. -/
module

public import proofs.«01_k».proof.Defs
public import proofs.«01_k».proof.Proof.Gen.Reference3Ideal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.Reference3Ideal.Scan

open Cert.Reference3Ideal Cert.Reference3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The step's mathematics over arrays -/

/-- The row of a sequence at a time index. -/
def pick (A : Vec F S4096x4x20x64 .f32) (i : Vec F S_ .i32) : Vec F S4x20x64 .f32 :=
  shapeCast S4x20x64 (Host.dynamicSlice S1x4x20x64 A (fun k => ((![i, constantI S_ 32 0#32, constantI S_ 32 0#32, constantI S_ 32 0#32] : Fin 4 → Vec F S_ .i32) k (Shape.Idx.first h_S_)).toInt)
    sliceFits_S4096x4x20x64_S1x4x20x64) shapeCasts_S1x4x20x64_S4x20x64

/-- A sequence with its row at a time index replaced. -/
def put (A : Vec F S4096x4x20x64 .f32) (u : Vec F S4x20x64 .f32) (i : Vec F S_ .i32) : Vec F S4096x4x20x64 .f32 :=
  Host.dynamicUpdateSlice A (broadcastInDim S1x4x20x64 ![1, 2, 3] bcast_S4x20x64_S1x4x20x64_1_2_3 u)
    (fun k => ((![i, constantI S_ 32 0#32, constantI S_ 32 0#32, constantI S_ 32 0#32] : Fin 4 → Vec F S_ .i32) k (Shape.Idx.first h_S_)).toInt)
    updateFits_S4096x4x20x64_S1x4x20x64

/-- The state times a vector over the key axis. -/
def along (S : Vec F S4x20x64x64 .f32) (x : Vec F S4x20x64 .f32) : Vec F S4x20x64 .f32 :=
  Host.dotGeneral dot_S4x20x64x64_S4x20x64_S4x20x64_3_2_2_n_01_01 none S x

/-- A vector over keys, spread over the values. -/
def overKeys (x : Vec F S4x20x64 .f32) : Vec F S4x20x64x64 .f32 :=
  broadcastInDim S4x20x64x64 ![0, 1, 2, 3] bcast_S4x20x1x64_S4x20x64x64_0_1_2_3 (broadcastInDim S4x20x1x64 ![0, 1, 3] bcast_S4x20x64_S4x20x1x64_0_1_3 x)

/-- A vector over values, spread over the keys. -/
def overVals (x : Vec F S4x20x64 .f32) : Vec F S4x20x64x64 .f32 :=
  broadcastInDim S4x20x64x64 ![0, 1, 2, 3] bcast_S4x20x64x1_S4x20x64x64_0_1_2_3 (broadcastInDim S4x20x64x1 ![0, 1, 2] bcast_S4x20x64_S4x20x64x1_0_1_2 x)

/-- One step of the recurrence on the state. -/
def step (S : Vec F S4x20x64x64 .f32) (w k v a b : Vec F S4x20x64 .f32) : Vec F S4x20x64x64 .f32 :=
  addf (addf (mulf S (overKeys w)) (mulf (overVals (along S a)) (overKeys b))) (mulf (overVals v) (overKeys k))

/-! ## The operations -/

/-- The operations of one read of a sequence at an index. -/
abbrev idxOps (a : StableHlo.TRef sig ⟨S4096x4x20x64, .f32⟩) (i : StableHlo.TRef sig ⟨S_, .i32⟩) (φ : fn_dynamic_index_in_dim.Bufs) : List (HloOp τ sig (Elt F)) :=
  [ StableHlo.TRef.nullary φ.c (constantI S_ 32 0#32),
    StableHlo.TRef.nullary φ.c_0 (constantI S_ 32 0#32),
    StableHlo.TRef.nullary φ.c_1 (constantI S_ 32 0#32),
    StableHlo.TRef.unaryIndexed a ![i, φ.c, φ.c_0, φ.c_1] φ.v0 (fun x i => Host.dynamicSlice S1x4x20x64 x (fun k => (i k (Shape.Idx.first h_S_)).toInt) sliceFits_S4096x4x20x64_S1x4x20x64),
    StableHlo.TRef.reshape φ.v0 φ.v1 (rfl : (.f32 : EltTy) = .f32) shapeCasts_S1x4x20x64_S4x20x64 ]

/-- The operations of one write of a row of a sequence. -/
abbrev updOps (a : StableHlo.TRef sig ⟨S4096x4x20x64, .f32⟩) (u : StableHlo.TRef sig ⟨S4x20x64, .f32⟩) (i : StableHlo.TRef sig ⟨S_, .i32⟩) (φ : fn_dynamic_update_index_in_dim.Bufs) : List (HloOp τ sig (Elt F)) :=
  [ StableHlo.TRef.unary u φ.v0 (broadcastInDim S1x4x20x64 ![1, 2, 3] bcast_S4x20x64_S1x4x20x64_1_2_3),
    StableHlo.TRef.nullary φ.c (constantI S_ 32 0#32),
    StableHlo.TRef.nullary φ.c_0 (constantI S_ 32 0#32),
    StableHlo.TRef.nullary φ.c_1 (constantI S_ 32 0#32),
    StableHlo.TRef.binaryIndexed a φ.v0 ![i, φ.c, φ.c_0, φ.c_1] φ.v1 (fun x u i => Host.dynamicUpdateSlice x u (fun k => (i k (Shape.Idx.first h_S_)).toInt) updateFits_S4096x4x20x64_S1x4x20x64) ]

/-- The operations before the first loop. -/
abbrev pre : List (HloOp τ sig (Elt F)) :=
  [ StableHlo.reshape main_arg1 main_v0 (rfl : (.f32 : EltTy) = .f32) shapeCasts_S4x81920x64_S4x20x4096x64,
    StableHlo.unary main_v0 main_v1 ((transpose S4096x4x20x64 [2, 0, 1, 3] · transposes_S4x20x4096x64_S4096x4x20x64_2_0_1_3) : (⟨S4x20x4096x64, .f32⟩ : BufTy).Contents (Elt F) → (⟨S4096x4x20x64, .f32⟩ : BufTy).Contents (Elt F)),
    StableHlo.reshape main_arg3 main_v2 (rfl : (.f32 : EltTy) = .f32) shapeCasts_S4x81920x64_S4x20x4096x64,
    StableHlo.unary main_v2 main_v3 ((transpose S4096x4x20x64 [2, 0, 1, 3] · transposes_S4x20x4096x64_S4096x4x20x64_2_0_1_3) : (⟨S4x20x4096x64, .f32⟩ : BufTy).Contents (Elt F) → (⟨S4096x4x20x64, .f32⟩ : BufTy).Contents (Elt F)),
    StableHlo.reshape main_arg5 main_v4 (rfl : (.f32 : EltTy) = .f32) shapeCasts_S4x81920x64_S4x20x4096x64,
    StableHlo.unary main_v4 main_v5 ((transpose S4096x4x20x64 [2, 0, 1, 3] · transposes_S4x20x4096x64_S4096x4x20x64_2_0_1_3) : (⟨S4x20x4096x64, .f32⟩ : BufTy).Contents (Elt F) → (⟨S4096x4x20x64, .f32⟩ : BufTy).Contents (Elt F)),
    StableHlo.reshape main_arg2 main_v6 (rfl : (.f32 : EltTy) = .f32) shapeCasts_S4x81920x64_S4x20x4096x64,
    StableHlo.unary main_v6 main_v7 ((transpose S4096x4x20x64 [2, 0, 1, 3] · transposes_S4x20x4096x64_S4096x4x20x64_2_0_1_3) : (⟨S4x20x4096x64, .f32⟩ : BufTy).Contents (Elt F) → (⟨S4096x4x20x64, .f32⟩ : BufTy).Contents (Elt F)),
    StableHlo.reshape main_arg0 main_v8 (rfl : (.f32 : EltTy) = .f32) shapeCasts_S4x81920x64_S4x20x4096x64,
    StableHlo.unary main_v8 main_v9 ((transpose S4096x4x20x64 [2, 0, 1, 3] · transposes_S4x20x4096x64_S4096x4x20x64_2_0_1_3) : (⟨S4x20x4096x64, .f32⟩ : BufTy).Contents (Elt F) → (⟨S4096x4x20x64, .f32⟩ : BufTy).Contents (Elt F)),
    StableHlo.reshape main_arg7 main_v10 (rfl : (.f32 : EltTy) = .f32) shapeCasts_S4x81920x64_S4x20x4096x64,
    StableHlo.unary main_v10 main_v11 ((transpose S4096x4x20x64 [2, 0, 1, 3] · transposes_S4x20x4096x64_S4096x4x20x64_2_0_1_3) : (⟨S4x20x4096x64, .f32⟩ : BufTy).Contents (Elt F) → (⟨S4096x4x20x64, .f32⟩ : BufTy).Contents (Elt F)),
    StableHlo.nullary main_cst (constant S_ .f32 0x00000000#32),
    StableHlo.unary main_cst main_v12 (broadcastInDim S4x20x64x64 ![] bcast_S_S4x20x64x64 : (⟨S_, .f32⟩ : BufTy).Contents (Elt F) → (⟨S4x20x64x64, .f32⟩ : BufTy).Contents (Elt F)),
    StableHlo.nullary main_cst_0 (constant S_ .f32 0x00000000#32),
    StableHlo.unary main_cst_0 main_v13 (broadcastInDim S4096x4x20x64 ![] bcast_S_S4096x4x20x64 : (⟨S_, .f32⟩ : BufTy).Contents (Elt F) → (⟨S4096x4x20x64, .f32⟩ : BufTy).Contents (Elt F)),
    StableHlo.nullary main_c (constantI S_ 32 0#32),
    StableHlo.unary main_v1 main_v14_0 id,
    StableHlo.unary main_v3 main_v14_1 id,
    StableHlo.unary main_v5 main_v14_2 id,
    StableHlo.unary main_v7 main_v14_3 id,
    StableHlo.unary main_v9 main_v14_4 id,
    StableHlo.unary main_v11 main_v14_5 id,
    StableHlo.unary main_c main_v14_6 id,
    StableHlo.unary main_v12 main_v14_7 id,
    StableHlo.unary main_v13 main_v14_8 id ]
theorem pre_sub : (pre : List (HloOp τ sig (Elt F))).Forall fun op => op.bufs ⊆ StableHlo.tcRefs τ sig :=
  ⟨StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem pre_fresh : (pre : List (HloOp τ sig (Elt F))).Forall fun op => op.fresh = ∅ :=
  StableHlo.forall_fresh_of_map rfl
abbrev pre_W : List (Ref sig .tc) := [main_v0, main_v1, main_v2, main_v3, main_v4, main_v5, main_v6, main_v7, main_v8, main_v9, main_v10, main_v11, main_cst, main_v12, main_cst_0, main_v13, main_c, main_v14_0, main_v14_1, main_v14_2, main_v14_3, main_v14_4, main_v14_5, main_v14_6, main_v14_7, main_v14_8]
theorem pre_writes : (pre : List (HloOp τ sig (Elt F))).Forall fun op => op.writes ⊆ (pre_W.map (Proc.devRef (τ := τ) .tc)).toFinset :=
  StableHlo.forall_writes_sub_of_map rfl
theorem pre_keep (X : Valuation τ sig (Elt F)) (b : Ref sig .tc) (h : b ∉ pre_W) : after pre X (Proc.devRef .tc b) = X (Proc.devRef .tc b) :=
  after_of_writes_sub pre X pre_writes h

/-- The operations between the loops. -/
abbrev mid : List (HloOp τ sig (Elt F)) :=
  [ StableHlo.unary main_v14_8 main_v15 ((transpose S4096x64x4x20 [0, 3, 1, 2] · transposes_S4096x4x20x64_S4096x64x4x20_0_3_1_2) : (⟨S4096x4x20x64, .f32⟩ : BufTy).Contents (Elt F) → (⟨S4096x64x4x20, .f32⟩ : BufTy).Contents (Elt F)),
    StableHlo.reshape main_v15 main_v16 (rfl : (.f32 : EltTy) = .f32) shapeCasts_S4096x64x4x20_S4096x64x80,
    StableHlo.reshape main_arg1 main_v17 (rfl : (.f32 : EltTy) = .f32) shapeCasts_S4x81920x64_S4x20x4096x64,
    StableHlo.unary main_v17 main_v18 ((transpose S4096x4x20x64 [2, 0, 1, 3] · transposes_S4x20x4096x64_S4096x4x20x64_2_0_1_3) : (⟨S4x20x4096x64, .f32⟩ : BufTy).Contents (Elt F) → (⟨S4096x4x20x64, .f32⟩ : BufTy).Contents (Elt F)),
    StableHlo.reshape main_arg4 main_v19 (rfl : (.f32 : EltTy) = .f32) shapeCasts_S4x81920x64_S4x20x4096x64,
    StableHlo.unary main_v19 main_v20 ((transpose S4096x4x20x64 [2, 0, 1, 3] · transposes_S4x20x4096x64_S4096x4x20x64_2_0_1_3) : (⟨S4x20x4096x64, .f32⟩ : BufTy).Contents (Elt F) → (⟨S4096x4x20x64, .f32⟩ : BufTy).Contents (Elt F)),
    StableHlo.reshape main_arg6 main_v21 (rfl : (.f32 : EltTy) = .f32) shapeCasts_S4x81920x64_S4x20x4096x64,
    StableHlo.unary main_v21 main_v22 ((transpose S4096x4x20x64 [2, 0, 1, 3] · transposes_S4x20x4096x64_S4096x4x20x64_2_0_1_3) : (⟨S4x20x4096x64, .f32⟩ : BufTy).Contents (Elt F) → (⟨S4096x4x20x64, .f32⟩ : BufTy).Contents (Elt F)),
    StableHlo.reshape main_arg2 main_v23 (rfl : (.f32 : EltTy) = .f32) shapeCasts_S4x81920x64_S4x20x4096x64,
    StableHlo.unary main_v23 main_v24 ((transpose S4096x4x20x64 [2, 0, 1, 3] · transposes_S4x20x4096x64_S4096x4x20x64_2_0_1_3) : (⟨S4x20x4096x64, .f32⟩ : BufTy).Contents (Elt F) → (⟨S4096x4x20x64, .f32⟩ : BufTy).Contents (Elt F)),
    StableHlo.reshape main_arg0 main_v25 (rfl : (.f32 : EltTy) = .f32) shapeCasts_S4x81920x64_S4x20x4096x64,
    StableHlo.unary main_v25 main_v26 ((transpose S4096x4x20x64 [2, 0, 1, 3] · transposes_S4x20x4096x64_S4096x4x20x64_2_0_1_3) : (⟨S4x20x4096x64, .f32⟩ : BufTy).Contents (Elt F) → (⟨S4096x4x20x64, .f32⟩ : BufTy).Contents (Elt F)),
    StableHlo.reshape main_arg8 main_v27 (rfl : (.f32 : EltTy) = .f32) shapeCasts_S4x81920x64_S4x20x4096x64,
    StableHlo.unary main_v27 main_v28 ((transpose S4096x4x20x64 [2, 0, 1, 3] · transposes_S4x20x4096x64_S4096x4x20x64_2_0_1_3) : (⟨S4x20x4096x64, .f32⟩ : BufTy).Contents (Elt F) → (⟨S4096x4x20x64, .f32⟩ : BufTy).Contents (Elt F)),
    StableHlo.nullary main_cst_1 (constant S_ .f32 0x00000000#32),
    StableHlo.unary main_cst_1 main_v29 (broadcastInDim S4x20x64x64 ![] bcast_S_S4x20x64x64 : (⟨S_, .f32⟩ : BufTy).Contents (Elt F) → (⟨S4x20x64x64, .f32⟩ : BufTy).Contents (Elt F)),
    StableHlo.nullary main_cst_2 (constant S_ .f32 0x00000000#32),
    StableHlo.unary main_cst_2 main_v30 (broadcastInDim S4096x4x20x64 ![] bcast_S_S4096x4x20x64 : (⟨S_, .f32⟩ : BufTy).Contents (Elt F) → (⟨S4096x4x20x64, .f32⟩ : BufTy).Contents (Elt F)),
    StableHlo.nullary main_c_3 (constantI S_ 32 0#32),
    StableHlo.unary main_v18 main_v31_0 id,
    StableHlo.unary main_v20 main_v31_1 id,
    StableHlo.unary main_v22 main_v31_2 id,
    StableHlo.unary main_v24 main_v31_3 id,
    StableHlo.unary main_v26 main_v31_4 id,
    StableHlo.unary main_v28 main_v31_5 id,
    StableHlo.unary main_c_3 main_v31_6 id,
    StableHlo.unary main_v29 main_v31_7 id,
    StableHlo.unary main_v30 main_v31_8 id ]
theorem mid_sub : (mid : List (HloOp τ sig (Elt F))).Forall fun op => op.bufs ⊆ StableHlo.tcRefs τ sig :=
  ⟨StableHlo.unary_bufs_sub .., StableHlo.reshape_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem mid_fresh : (mid : List (HloOp τ sig (Elt F))).Forall fun op => op.fresh = ∅ :=
  StableHlo.forall_fresh_of_map rfl
abbrev mid_W : List (Ref sig .tc) := [main_v15, main_v16, main_v17, main_v18, main_v19, main_v20, main_v21, main_v22, main_v23, main_v24, main_v25, main_v26, main_v27, main_v28, main_cst_1, main_v29, main_cst_2, main_v30, main_c_3, main_v31_0, main_v31_1, main_v31_2, main_v31_3, main_v31_4, main_v31_5, main_v31_6, main_v31_7, main_v31_8]
theorem mid_writes : (mid : List (HloOp τ sig (Elt F))).Forall fun op => op.writes ⊆ (mid_W.map (Proc.devRef (τ := τ) .tc)).toFinset :=
  StableHlo.forall_writes_sub_of_map rfl
theorem mid_keep (X : Valuation τ sig (Elt F)) (b : Ref sig .tc) (h : b ∉ mid_W) : after mid X (Proc.devRef .tc b) = X (Proc.devRef .tc b) :=
  after_of_writes_sub mid X mid_writes h

/-- The operations after the second loop. -/
abbrev post : List (HloOp τ sig (Elt F)) :=
  [ StableHlo.unary main_v31_8 main_v32 ((transpose S4096x64x4x20 [0, 3, 1, 2] · transposes_S4096x4x20x64_S4096x64x4x20_0_3_1_2) : (⟨S4096x4x20x64, .f32⟩ : BufTy).Contents (Elt F) → (⟨S4096x64x4x20, .f32⟩ : BufTy).Contents (Elt F)),
    StableHlo.reshape main_v32 main_v33 (rfl : (.f32 : EltTy) = .f32) shapeCasts_S4096x64x4x20_S4096x64x80 ]
theorem post_sub : (post : List (HloOp τ sig (Elt F))).Forall fun op => op.bufs ⊆ StableHlo.tcRefs τ sig :=
  ⟨StableHlo.unary_bufs_sub .., StableHlo.reshape_bufs_sub ..⟩
theorem post_fresh : (post : List (HloOp τ sig (Elt F))).Forall fun op => op.fresh = ∅ :=
  StableHlo.forall_fresh_of_map rfl
abbrev post_W : List (Ref sig .tc) := [main_v32, main_v33]
theorem post_writes : (post : List (HloOp τ sig (Elt F))).Forall fun op => op.writes ⊆ (post_W.map (Proc.devRef (τ := τ) .tc)).toFinset :=
  StableHlo.forall_writes_sub_of_map rfl
theorem post_keep (X : Valuation τ sig (Elt F)) (b : Ref sig .tc) (h : b ∉ post_W) : after post X (Proc.devRef .tc b) = X (Proc.devRef .tc b) :=
  after_of_writes_sub post X post_writes h

/-- The first loop's condition. -/
abbrev cond0 : List (HloOp τ sig (Elt F)) :=
  [ StableHlo.nullary main_while0c_c_12 (constantI S_ 32 4096#32),
    StableHlo.binary main_v14_6 main_while0c_c_12 main_while0c_v34 (cmpi .slt : (⟨S_, .i32⟩ : BufTy).Contents (Elt F) → (⟨S_, .i32⟩ : BufTy).Contents (Elt F) → (⟨S_, .i1⟩ : BufTy).Contents (Elt F)) ]
theorem cond0_sub : (cond0 : List (HloOp τ sig (Elt F))).Forall fun op => op.bufs ⊆ StableHlo.tcRefs τ sig :=
  ⟨StableHlo.nullary_bufs_sub .., StableHlo.binary_bufs_sub ..⟩
theorem cond0_fresh : (cond0 : List (HloOp τ sig (Elt F))).Forall fun op => op.fresh = ∅ :=
  StableHlo.forall_fresh_of_map rfl
abbrev cond0_W : List (Ref sig .tc) := [main_while0c_c_12, main_while0c_v34]
theorem cond0_writes : (cond0 : List (HloOp τ sig (Elt F))).Forall fun op => op.writes ⊆ (cond0_W.map (Proc.devRef (τ := τ) .tc)).toFinset :=
  StableHlo.forall_writes_sub_of_map rfl
theorem cond0_keep (X : Valuation τ sig (Elt F)) (b : Ref sig .tc) (h : b ∉ cond0_W) : after cond0 X (Proc.devRef .tc b) = X (Proc.devRef .tc b) :=
  after_of_writes_sub cond0 X cond0_writes h

/-- A read of a trip of the first loop. -/
abbrev read0_0 : List (HloOp τ sig (Elt F)) :=
  idxOps (.of main_v14_0) (.of main_v14_6) main_while0b_call0
theorem read0_0_sub : (read0_0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem read0_0_fresh : (read0_0 : List (HloOp τ sig (Elt F))).Forall fun op => op.fresh = ∅ :=
  StableHlo.forall_fresh_of_map rfl
abbrev read0_0_W : List (Ref sig .tc) := [main_while0b_call0_c, main_while0b_call0_c_0, main_while0b_call0_c_1, main_while0b_call0_v0, main_while0b_v34]
theorem read0_0_writes : (read0_0 : List (HloOp τ sig (Elt F))).Forall fun op => op.writes ⊆ (read0_0_W.map (Proc.devRef (τ := τ) .tc)).toFinset :=
  StableHlo.forall_writes_sub_of_map rfl
theorem read0_0_keep (X : Valuation τ sig (Elt F)) (b : Ref sig .tc) (h : b ∉ read0_0_W) : after read0_0 X (Proc.devRef .tc b) = X (Proc.devRef .tc b) :=
  after_of_writes_sub read0_0 X read0_0_writes h

set_option maxRecDepth 8192 in
theorem read0_0_at (X : Valuation τ sig (Elt F)) : after read0_0 X (Proc.devRef .tc main_while0b_v34) = pick (X (Proc.devRef .tc main_v14_0)) (X (Proc.devRef .tc main_v14_6)) := by
  unfold pick
  after_results_entrywise [cast_eq]

/-- A read of a trip of the first loop. -/
abbrev read0_1 : List (HloOp τ sig (Elt F)) :=
  idxOps (.of main_v14_1) (.of main_v14_6) main_while0b_call1
theorem read0_1_sub : (read0_1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem read0_1_fresh : (read0_1 : List (HloOp τ sig (Elt F))).Forall fun op => op.fresh = ∅ :=
  StableHlo.forall_fresh_of_map rfl
abbrev read0_1_W : List (Ref sig .tc) := [main_while0b_call1_c, main_while0b_call1_c_0, main_while0b_call1_c_1, main_while0b_call1_v0, main_while0b_v35]
theorem read0_1_writes : (read0_1 : List (HloOp τ sig (Elt F))).Forall fun op => op.writes ⊆ (read0_1_W.map (Proc.devRef (τ := τ) .tc)).toFinset :=
  StableHlo.forall_writes_sub_of_map rfl
theorem read0_1_keep (X : Valuation τ sig (Elt F)) (b : Ref sig .tc) (h : b ∉ read0_1_W) : after read0_1 X (Proc.devRef .tc b) = X (Proc.devRef .tc b) :=
  after_of_writes_sub read0_1 X read0_1_writes h

set_option maxRecDepth 8192 in
theorem read0_1_at (X : Valuation τ sig (Elt F)) : after read0_1 X (Proc.devRef .tc main_while0b_v35) = pick (X (Proc.devRef .tc main_v14_1)) (X (Proc.devRef .tc main_v14_6)) := by
  unfold pick
  after_results_entrywise [cast_eq]

/-- A read of a trip of the first loop. -/
abbrev read0_2 : List (HloOp τ sig (Elt F)) :=
  idxOps (.of main_v14_2) (.of main_v14_6) main_while0b_call2
theorem read0_2_sub : (read0_2 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem read0_2_fresh : (read0_2 : List (HloOp τ sig (Elt F))).Forall fun op => op.fresh = ∅ :=
  StableHlo.forall_fresh_of_map rfl
abbrev read0_2_W : List (Ref sig .tc) := [main_while0b_call2_c, main_while0b_call2_c_0, main_while0b_call2_c_1, main_while0b_call2_v0, main_while0b_v36]
theorem read0_2_writes : (read0_2 : List (HloOp τ sig (Elt F))).Forall fun op => op.writes ⊆ (read0_2_W.map (Proc.devRef (τ := τ) .tc)).toFinset :=
  StableHlo.forall_writes_sub_of_map rfl
theorem read0_2_keep (X : Valuation τ sig (Elt F)) (b : Ref sig .tc) (h : b ∉ read0_2_W) : after read0_2 X (Proc.devRef .tc b) = X (Proc.devRef .tc b) :=
  after_of_writes_sub read0_2 X read0_2_writes h

set_option maxRecDepth 8192 in
theorem read0_2_at (X : Valuation τ sig (Elt F)) : after read0_2 X (Proc.devRef .tc main_while0b_v36) = pick (X (Proc.devRef .tc main_v14_2)) (X (Proc.devRef .tc main_v14_6)) := by
  unfold pick
  after_results_entrywise [cast_eq]

/-- A read of a trip of the first loop. -/
abbrev read0_3 : List (HloOp τ sig (Elt F)) :=
  idxOps (.of main_v14_3) (.of main_v14_6) main_while0b_call3
theorem read0_3_sub : (read0_3 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem read0_3_fresh : (read0_3 : List (HloOp τ sig (Elt F))).Forall fun op => op.fresh = ∅ :=
  StableHlo.forall_fresh_of_map rfl
abbrev read0_3_W : List (Ref sig .tc) := [main_while0b_call3_c, main_while0b_call3_c_0, main_while0b_call3_c_1, main_while0b_call3_v0, main_while0b_v37]
theorem read0_3_writes : (read0_3 : List (HloOp τ sig (Elt F))).Forall fun op => op.writes ⊆ (read0_3_W.map (Proc.devRef (τ := τ) .tc)).toFinset :=
  StableHlo.forall_writes_sub_of_map rfl
theorem read0_3_keep (X : Valuation τ sig (Elt F)) (b : Ref sig .tc) (h : b ∉ read0_3_W) : after read0_3 X (Proc.devRef .tc b) = X (Proc.devRef .tc b) :=
  after_of_writes_sub read0_3 X read0_3_writes h

set_option maxRecDepth 8192 in
theorem read0_3_at (X : Valuation τ sig (Elt F)) : after read0_3 X (Proc.devRef .tc main_while0b_v37) = pick (X (Proc.devRef .tc main_v14_3)) (X (Proc.devRef .tc main_v14_6)) := by
  unfold pick
  after_results_entrywise [cast_eq]

/-- A read of a trip of the first loop. -/
abbrev read0_4 : List (HloOp τ sig (Elt F)) :=
  idxOps (.of main_v14_4) (.of main_v14_6) main_while0b_call4
theorem read0_4_sub : (read0_4 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem read0_4_fresh : (read0_4 : List (HloOp τ sig (Elt F))).Forall fun op => op.fresh = ∅ :=
  StableHlo.forall_fresh_of_map rfl
abbrev read0_4_W : List (Ref sig .tc) := [main_while0b_call4_c, main_while0b_call4_c_0, main_while0b_call4_c_1, main_while0b_call4_v0, main_while0b_v38]
theorem read0_4_writes : (read0_4 : List (HloOp τ sig (Elt F))).Forall fun op => op.writes ⊆ (read0_4_W.map (Proc.devRef (τ := τ) .tc)).toFinset :=
  StableHlo.forall_writes_sub_of_map rfl
theorem read0_4_keep (X : Valuation τ sig (Elt F)) (b : Ref sig .tc) (h : b ∉ read0_4_W) : after read0_4 X (Proc.devRef .tc b) = X (Proc.devRef .tc b) :=
  after_of_writes_sub read0_4 X read0_4_writes h

set_option maxRecDepth 8192 in
theorem read0_4_at (X : Valuation τ sig (Elt F)) : after read0_4 X (Proc.devRef .tc main_while0b_v38) = pick (X (Proc.devRef .tc main_v14_4)) (X (Proc.devRef .tc main_v14_6)) := by
  unfold pick
  after_results_entrywise [cast_eq]

/-- A read of a trip of the first loop. -/
abbrev read0_5 : List (HloOp τ sig (Elt F)) :=
  idxOps (.of main_v14_5) (.of main_v14_6) main_while0b_call5
theorem read0_5_sub : (read0_5 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem read0_5_fresh : (read0_5 : List (HloOp τ sig (Elt F))).Forall fun op => op.fresh = ∅ :=
  StableHlo.forall_fresh_of_map rfl
abbrev read0_5_W : List (Ref sig .tc) := [main_while0b_call5_c, main_while0b_call5_c_0, main_while0b_call5_c_1, main_while0b_call5_v0, main_while0b_v39]
theorem read0_5_writes : (read0_5 : List (HloOp τ sig (Elt F))).Forall fun op => op.writes ⊆ (read0_5_W.map (Proc.devRef (τ := τ) .tc)).toFinset :=
  StableHlo.forall_writes_sub_of_map rfl
theorem read0_5_keep (X : Valuation τ sig (Elt F)) (b : Ref sig .tc) (h : b ∉ read0_5_W) : after read0_5 X (Proc.devRef .tc b) = X (Proc.devRef .tc b) :=
  after_of_writes_sub read0_5 X read0_5_writes h

set_option maxRecDepth 8192 in
theorem read0_5_at (X : Valuation τ sig (Elt F)) : after read0_5 X (Proc.devRef .tc main_while0b_v39) = pick (X (Proc.devRef .tc main_v14_5)) (X (Proc.devRef .tc main_v14_6)) := by
  unfold pick
  after_results_entrywise [cast_eq]

/-- Operations of a trip of the first loop. -/
abbrev core0 : List (HloOp τ sig (Elt F)) :=
  [ StableHlo.binary main_v14_7 main_while0b_v38 main_while0b_v40 ((fun l r => Host.dotGeneral dot_S4x20x64x64_S4x20x64_S4x20x64_3_2_2_n_01_01 none l r) : (⟨S4x20x64x64, .f32⟩ : BufTy).Contents (Elt F) → (⟨S4x20x64, .f32⟩ : BufTy).Contents (Elt F) → (⟨S4x20x64, .f32⟩ : BufTy).Contents (Elt F)),
    StableHlo.unary main_while0b_v35 main_while0b_v41 (broadcastInDim S4x20x1x64 ![0, 1, 3] bcast_S4x20x64_S4x20x1x64_0_1_3 : (⟨S4x20x64, .f32⟩ : BufTy).Contents (Elt F) → (⟨S4x20x1x64, .f32⟩ : BufTy).Contents (Elt F)),
    StableHlo.unary main_while0b_v41 main_while0b_v42 (broadcastInDim S4x20x64x64 ![0, 1, 2, 3] bcast_S4x20x1x64_S4x20x64x64_0_1_2_3 : (⟨S4x20x1x64, .f32⟩ : BufTy).Contents (Elt F) → (⟨S4x20x64x64, .f32⟩ : BufTy).Contents (Elt F)),
    StableHlo.binary main_v14_7 main_while0b_v42 main_while0b_v43 (mulf : (⟨S4x20x64x64, .f32⟩ : BufTy).Contents (Elt F) → (⟨S4x20x64x64, .f32⟩ : BufTy).Contents (Elt F) → (⟨S4x20x64x64, .f32⟩ : BufTy).Contents (Elt F)),
    StableHlo.unary main_while0b_v40 main_while0b_v44 (broadcastInDim S4x20x64x1 ![0, 1, 2] bcast_S4x20x64_S4x20x64x1_0_1_2 : (⟨S4x20x64, .f32⟩ : BufTy).Contents (Elt F) → (⟨S4x20x64x1, .f32⟩ : BufTy).Contents (Elt F)),
    StableHlo.unary main_while0b_v39 main_while0b_v45 (broadcastInDim S4x20x1x64 ![0, 1, 3] bcast_S4x20x64_S4x20x1x64_0_1_3 : (⟨S4x20x64, .f32⟩ : BufTy).Contents (Elt F) → (⟨S4x20x1x64, .f32⟩ : BufTy).Contents (Elt F)),
    StableHlo.unary main_while0b_v44 main_while0b_v46 (broadcastInDim S4x20x64x64 ![0, 1, 2, 3] bcast_S4x20x64x1_S4x20x64x64_0_1_2_3 : (⟨S4x20x64x1, .f32⟩ : BufTy).Contents (Elt F) → (⟨S4x20x64x64, .f32⟩ : BufTy).Contents (Elt F)),
    StableHlo.unary main_while0b_v45 main_while0b_v47 (broadcastInDim S4x20x64x64 ![0, 1, 2, 3] bcast_S4x20x1x64_S4x20x64x64_0_1_2_3 : (⟨S4x20x1x64, .f32⟩ : BufTy).Contents (Elt F) → (⟨S4x20x64x64, .f32⟩ : BufTy).Contents (Elt F)),
    StableHlo.binary main_while0b_v46 main_while0b_v47 main_while0b_v48 (mulf : (⟨S4x20x64x64, .f32⟩ : BufTy).Contents (Elt F) → (⟨S4x20x64x64, .f32⟩ : BufTy).Contents (Elt F) → (⟨S4x20x64x64, .f32⟩ : BufTy).Contents (Elt F)),
    StableHlo.binary main_while0b_v43 main_while0b_v48 main_while0b_v49 (addf : (⟨S4x20x64x64, .f32⟩ : BufTy).Contents (Elt F) → (⟨S4x20x64x64, .f32⟩ : BufTy).Contents (Elt F) → (⟨S4x20x64x64, .f32⟩ : BufTy).Contents (Elt F)),
    StableHlo.unary main_while0b_v37 main_while0b_v50 (broadcastInDim S4x20x64x1 ![0, 1, 2] bcast_S4x20x64_S4x20x64x1_0_1_2 : (⟨S4x20x64, .f32⟩ : BufTy).Contents (Elt F) → (⟨S4x20x64x1, .f32⟩ : BufTy).Contents (Elt F)),
    StableHlo.unary main_while0b_v36 main_while0b_v51 (broadcastInDim S4x20x1x64 ![0, 1, 3] bcast_S4x20x64_S4x20x1x64_0_1_3 : (⟨S4x20x64, .f32⟩ : BufTy).Contents (Elt F) → (⟨S4x20x1x64, .f32⟩ : BufTy).Contents (Elt F)),
    StableHlo.unary main_while0b_v50 main_while0b_v52 (broadcastInDim S4x20x64x64 ![0, 1, 2, 3] bcast_S4x20x64x1_S4x20x64x64_0_1_2_3 : (⟨S4x20x64x1, .f32⟩ : BufTy).Contents (Elt F) → (⟨S4x20x64x64, .f32⟩ : BufTy).Contents (Elt F)),
    StableHlo.unary main_while0b_v51 main_while0b_v53 (broadcastInDim S4x20x64x64 ![0, 1, 2, 3] bcast_S4x20x1x64_S4x20x64x64_0_1_2_3 : (⟨S4x20x1x64, .f32⟩ : BufTy).Contents (Elt F) → (⟨S4x20x64x64, .f32⟩ : BufTy).Contents (Elt F)),
    StableHlo.binary main_while0b_v52 main_while0b_v53 main_while0b_v54 (mulf : (⟨S4x20x64x64, .f32⟩ : BufTy).Contents (Elt F) → (⟨S4x20x64x64, .f32⟩ : BufTy).Contents (Elt F) → (⟨S4x20x64x64, .f32⟩ : BufTy).Contents (Elt F)),
    StableHlo.binary main_while0b_v49 main_while0b_v54 main_while0b_v55 (addf : (⟨S4x20x64x64, .f32⟩ : BufTy).Contents (Elt F) → (⟨S4x20x64x64, .f32⟩ : BufTy).Contents (Elt F) → (⟨S4x20x64x64, .f32⟩ : BufTy).Contents (Elt F)),
    StableHlo.binary main_while0b_v55 main_while0b_v34 main_while0b_v56 ((fun l r => Host.dotGeneral dot_S4x20x64x64_S4x20x64_S4x20x64_3_2_2_n_01_01 none l r) : (⟨S4x20x64x64, .f32⟩ : BufTy).Contents (Elt F) → (⟨S4x20x64, .f32⟩ : BufTy).Contents (Elt F) → (⟨S4x20x64, .f32⟩ : BufTy).Contents (Elt F)) ]
theorem core0_sub : (core0 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.binary_bufs_sub ..⟩
theorem core0_fresh : (core0 : List (HloOp τ sig (Elt F))).Forall fun op => op.fresh = ∅ :=
  StableHlo.forall_fresh_of_map rfl
abbrev core0_W : List (Ref sig .tc) := [main_while0b_v40, main_while0b_v41, main_while0b_v42, main_while0b_v43, main_while0b_v44, main_while0b_v45, main_while0b_v46, main_while0b_v47, main_while0b_v48, main_while0b_v49, main_while0b_v50, main_while0b_v51, main_while0b_v52, main_while0b_v53, main_while0b_v54, main_while0b_v55, main_while0b_v56]
theorem core0_writes : (core0 : List (HloOp τ sig (Elt F))).Forall fun op => op.writes ⊆ (core0_W.map (Proc.devRef (τ := τ) .tc)).toFinset :=
  StableHlo.forall_writes_sub_of_map rfl
theorem core0_keep (X : Valuation τ sig (Elt F)) (b : Ref sig .tc) (h : b ∉ core0_W) : after core0 X (Proc.devRef .tc b) = X (Proc.devRef .tc b) :=
  after_of_writes_sub core0 X core0_writes h

/-- The write of a trip of the first loop. -/
abbrev write0 : List (HloOp τ sig (Elt F)) :=
  updOps (.of main_v14_8) (.of main_while0b_v56) (.of main_v14_6) main_while0b_call6
theorem write0_sub : (write0 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem write0_fresh : (write0 : List (HloOp τ sig (Elt F))).Forall fun op => op.fresh = ∅ :=
  StableHlo.forall_fresh_of_map rfl
abbrev write0_W : List (Ref sig .tc) := [main_while0b_call6_v0, main_while0b_call6_c, main_while0b_call6_c_0, main_while0b_call6_c_1, main_while0b_v57]
theorem write0_writes : (write0 : List (HloOp τ sig (Elt F))).Forall fun op => op.writes ⊆ (write0_W.map (Proc.devRef (τ := τ) .tc)).toFinset :=
  StableHlo.forall_writes_sub_of_map rfl
theorem write0_keep (X : Valuation τ sig (Elt F)) (b : Ref sig .tc) (h : b ∉ write0_W) : after write0 X (Proc.devRef .tc b) = X (Proc.devRef .tc b) :=
  after_of_writes_sub write0 X write0_writes h

set_option maxRecDepth 8192 in
theorem write0_at (X : Valuation τ sig (Elt F)) : after write0 X (Proc.devRef .tc main_while0b_v57) = put (X (Proc.devRef .tc main_v14_8)) (X (Proc.devRef .tc main_while0b_v56)) (X (Proc.devRef .tc main_v14_6)) := by
  unfold put
  after_results_entrywise [cast_eq]

/-- Operations of a trip of the first loop. -/
abbrev tail0 : List (HloOp τ sig (Elt F)) :=
  [ StableHlo.nullary main_while0b_c_12 (constantI S_ 32 1#32),
    StableHlo.binary main_v14_6 main_while0b_c_12 main_while0b_v58 (addi : (⟨S_, .i32⟩ : BufTy).Contents (Elt F) → (⟨S_, .i32⟩ : BufTy).Contents (Elt F) → (⟨S_, .i32⟩ : BufTy).Contents (Elt F)),
    StableHlo.unary main_while0b_v58 main_v14_6 id,
    StableHlo.unary main_while0b_v55 main_v14_7 id,
    StableHlo.unary main_while0b_v57 main_v14_8 id ]
theorem tail0_sub : (tail0 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
theorem tail0_fresh : (tail0 : List (HloOp τ sig (Elt F))).Forall fun op => op.fresh = ∅ :=
  StableHlo.forall_fresh_of_map rfl
abbrev tail0_W : List (Ref sig .tc) := [main_while0b_c_12, main_while0b_v58, main_v14_6, main_v14_7, main_v14_8]
theorem tail0_writes : (tail0 : List (HloOp τ sig (Elt F))).Forall fun op => op.writes ⊆ (tail0_W.map (Proc.devRef (τ := τ) .tc)).toFinset :=
  StableHlo.forall_writes_sub_of_map rfl
theorem tail0_keep (X : Valuation τ sig (Elt F)) (b : Ref sig .tc) (h : b ∉ tail0_W) : after tail0 X (Proc.devRef .tc b) = X (Proc.devRef .tc b) :=
  after_of_writes_sub tail0 X tail0_writes h

set_option maxRecDepth 8192 in
theorem core0_state (X : Valuation τ sig (Elt F)) : after core0 X (Proc.devRef .tc main_while0b_v55) = step (X (Proc.devRef .tc main_v14_7)) (X (Proc.devRef .tc main_while0b_v35)) (X (Proc.devRef .tc main_while0b_v36)) (X (Proc.devRef .tc main_while0b_v37)) (X (Proc.devRef .tc main_while0b_v38)) (X (Proc.devRef .tc main_while0b_v39)) := by
  unfold step overKeys overVals along
  after_results
  all_goals rfl

set_option maxRecDepth 8192 in
theorem core0_out (X : Valuation τ sig (Elt F)) : after core0 X (Proc.devRef .tc main_while0b_v56) = along (step (X (Proc.devRef .tc main_v14_7)) (X (Proc.devRef .tc main_while0b_v35)) (X (Proc.devRef .tc main_while0b_v36)) (X (Proc.devRef .tc main_while0b_v37)) (X (Proc.devRef .tc main_while0b_v38)) (X (Proc.devRef .tc main_while0b_v39))) (X (Proc.devRef .tc main_while0b_v34)) := by
  unfold step overKeys overVals along
  after_results
  all_goals rfl

theorem tail0_state (X : Valuation τ sig (Elt F)) : after tail0 X (Proc.devRef .tc main_v14_7) = X (Proc.devRef .tc main_while0b_v55) := by
  after_results
  all_goals rfl

theorem tail0_out (X : Valuation τ sig (Elt F)) : after tail0 X (Proc.devRef .tc main_v14_8) = X (Proc.devRef .tc main_while0b_v57) := by
  after_results
  all_goals rfl

theorem tail0_count (X : Valuation τ sig (Elt F)) : after tail0 X (Proc.devRef .tc main_v14_6) = addi (X (Proc.devRef .tc main_v14_6)) (constantI S_ 32 1#32) := by
  after_results
  all_goals rfl

/-- A trip of the first loop. -/
abbrev body0 : List (List (HloOp τ sig (Elt F))) := [read0_0, read0_1, read0_2, read0_3, read0_4, read0_5, core0, write0, tail0]

theorem body0_keep (X : Valuation τ sig (Elt F)) (b : Ref sig .tc) (h : b ∉ cond0_W ∧ b ∉ read0_0_W ∧ b ∉ read0_1_W ∧ b ∉ read0_2_W ∧ b ∉ read0_3_W ∧ b ∉ read0_4_W ∧ b ∉ read0_5_W ∧ b ∉ core0_W ∧ b ∉ write0_W ∧ b ∉ tail0_W) :
    afterL body0 (after cond0 X) (Proc.devRef .tc b) = X (Proc.devRef .tc b) := by
  obtain ⟨h0, h1, h2, h3, h4, h5, h6, h7, h8, h9⟩ := h
  simp only [afterL_cons, afterL_nil]
  rw [tail0_keep _ b h9, write0_keep _ b h8, core0_keep _ b h7, read0_5_keep _ b h6, read0_4_keep _ b h5, read0_3_keep _ b h4, read0_2_keep _ b h3, read0_1_keep _ b h2, read0_0_keep _ b h1, cond0_keep _ b h0]

theorem trip0_x0 (X : Valuation τ sig (Elt F)) : (after read0_5 (after read0_4 (after read0_3 (after read0_2 (after read0_1 (after read0_0 (after cond0 X))))))) (Proc.devRef .tc main_while0b_v34) = pick (X (Proc.devRef .tc main_v14_0)) (X (Proc.devRef .tc main_v14_6)) := by
  rw [read0_5_keep _ main_while0b_v34 (by decide +kernel), read0_4_keep _ main_while0b_v34 (by decide +kernel), read0_3_keep _ main_while0b_v34 (by decide +kernel), read0_2_keep _ main_while0b_v34 (by decide +kernel), read0_1_keep _ main_while0b_v34 (by decide +kernel), read0_0_at, cond0_keep _ main_v14_0 (by decide +kernel), cond0_keep _ main_v14_6 (by decide +kernel)]

theorem trip0_x1 (X : Valuation τ sig (Elt F)) : (after read0_5 (after read0_4 (after read0_3 (after read0_2 (after read0_1 (after read0_0 (after cond0 X))))))) (Proc.devRef .tc main_while0b_v35) = pick (X (Proc.devRef .tc main_v14_1)) (X (Proc.devRef .tc main_v14_6)) := by
  rw [read0_5_keep _ main_while0b_v35 (by decide +kernel), read0_4_keep _ main_while0b_v35 (by decide +kernel), read0_3_keep _ main_while0b_v35 (by decide +kernel), read0_2_keep _ main_while0b_v35 (by decide +kernel), read0_1_at, read0_0_keep _ main_v14_1 (by decide +kernel), cond0_keep _ main_v14_1 (by decide +kernel), read0_0_keep _ main_v14_6 (by decide +kernel), cond0_keep _ main_v14_6 (by decide +kernel)]

theorem trip0_x2 (X : Valuation τ sig (Elt F)) : (after read0_5 (after read0_4 (after read0_3 (after read0_2 (after read0_1 (after read0_0 (after cond0 X))))))) (Proc.devRef .tc main_while0b_v36) = pick (X (Proc.devRef .tc main_v14_2)) (X (Proc.devRef .tc main_v14_6)) := by
  rw [read0_5_keep _ main_while0b_v36 (by decide +kernel), read0_4_keep _ main_while0b_v36 (by decide +kernel), read0_3_keep _ main_while0b_v36 (by decide +kernel), read0_2_at, read0_1_keep _ main_v14_2 (by decide +kernel), read0_0_keep _ main_v14_2 (by decide +kernel), cond0_keep _ main_v14_2 (by decide +kernel), read0_1_keep _ main_v14_6 (by decide +kernel), read0_0_keep _ main_v14_6 (by decide +kernel), cond0_keep _ main_v14_6 (by decide +kernel)]

theorem trip0_x3 (X : Valuation τ sig (Elt F)) : (after read0_5 (after read0_4 (after read0_3 (after read0_2 (after read0_1 (after read0_0 (after cond0 X))))))) (Proc.devRef .tc main_while0b_v37) = pick (X (Proc.devRef .tc main_v14_3)) (X (Proc.devRef .tc main_v14_6)) := by
  rw [read0_5_keep _ main_while0b_v37 (by decide +kernel), read0_4_keep _ main_while0b_v37 (by decide +kernel), read0_3_at, read0_2_keep _ main_v14_3 (by decide +kernel), read0_1_keep _ main_v14_3 (by decide +kernel), read0_0_keep _ main_v14_3 (by decide +kernel), cond0_keep _ main_v14_3 (by decide +kernel), read0_2_keep _ main_v14_6 (by decide +kernel), read0_1_keep _ main_v14_6 (by decide +kernel), read0_0_keep _ main_v14_6 (by decide +kernel), cond0_keep _ main_v14_6 (by decide +kernel)]

theorem trip0_x4 (X : Valuation τ sig (Elt F)) : (after read0_5 (after read0_4 (after read0_3 (after read0_2 (after read0_1 (after read0_0 (after cond0 X))))))) (Proc.devRef .tc main_while0b_v38) = pick (X (Proc.devRef .tc main_v14_4)) (X (Proc.devRef .tc main_v14_6)) := by
  rw [read0_5_keep _ main_while0b_v38 (by decide +kernel), read0_4_at, read0_3_keep _ main_v14_4 (by decide +kernel), read0_2_keep _ main_v14_4 (by decide +kernel), read0_1_keep _ main_v14_4 (by decide +kernel), read0_0_keep _ main_v14_4 (by decide +kernel), cond0_keep _ main_v14_4 (by decide +kernel), read0_3_keep _ main_v14_6 (by decide +kernel), read0_2_keep _ main_v14_6 (by decide +kernel), read0_1_keep _ main_v14_6 (by decide +kernel), read0_0_keep _ main_v14_6 (by decide +kernel), cond0_keep _ main_v14_6 (by decide +kernel)]

theorem trip0_x5 (X : Valuation τ sig (Elt F)) : (after read0_5 (after read0_4 (after read0_3 (after read0_2 (after read0_1 (after read0_0 (after cond0 X))))))) (Proc.devRef .tc main_while0b_v39) = pick (X (Proc.devRef .tc main_v14_5)) (X (Proc.devRef .tc main_v14_6)) := by
  rw [read0_5_at, read0_4_keep _ main_v14_5 (by decide +kernel), read0_3_keep _ main_v14_5 (by decide +kernel), read0_2_keep _ main_v14_5 (by decide +kernel), read0_1_keep _ main_v14_5 (by decide +kernel), read0_0_keep _ main_v14_5 (by decide +kernel), cond0_keep _ main_v14_5 (by decide +kernel), read0_4_keep _ main_v14_6 (by decide +kernel), read0_3_keep _ main_v14_6 (by decide +kernel), read0_2_keep _ main_v14_6 (by decide +kernel), read0_1_keep _ main_v14_6 (by decide +kernel), read0_0_keep _ main_v14_6 (by decide +kernel), cond0_keep _ main_v14_6 (by decide +kernel)]

theorem trip0_s (X : Valuation τ sig (Elt F)) : (after read0_5 (after read0_4 (after read0_3 (after read0_2 (after read0_1 (after read0_0 (after cond0 X))))))) (Proc.devRef .tc main_v14_7) = X (Proc.devRef .tc main_v14_7) := by
  rw [read0_5_keep _ main_v14_7 (by decide +kernel), read0_4_keep _ main_v14_7 (by decide +kernel), read0_3_keep _ main_v14_7 (by decide +kernel), read0_2_keep _ main_v14_7 (by decide +kernel), read0_1_keep _ main_v14_7 (by decide +kernel), read0_0_keep _ main_v14_7 (by decide +kernel), cond0_keep _ main_v14_7 (by decide +kernel)]

theorem trip0_state (X : Valuation τ sig (Elt F)) : afterL body0 (after cond0 X) (Proc.devRef .tc main_v14_7) = step (X (Proc.devRef .tc main_v14_7)) (pick (X (Proc.devRef .tc main_v14_1)) (X (Proc.devRef .tc main_v14_6))) (pick (X (Proc.devRef .tc main_v14_2)) (X (Proc.devRef .tc main_v14_6))) (pick (X (Proc.devRef .tc main_v14_3)) (X (Proc.devRef .tc main_v14_6))) (pick (X (Proc.devRef .tc main_v14_4)) (X (Proc.devRef .tc main_v14_6))) (pick (X (Proc.devRef .tc main_v14_5)) (X (Proc.devRef .tc main_v14_6))) := by
  simp only [afterL_cons, afterL_nil]
  rw [tail0_state, write0_keep _ main_while0b_v55 (by decide +kernel), core0_state, trip0_s, trip0_x1, trip0_x2, trip0_x3, trip0_x4, trip0_x5]

theorem trip0_out (X : Valuation τ sig (Elt F)) : afterL body0 (after cond0 X) (Proc.devRef .tc main_v14_8) = put (X (Proc.devRef .tc main_v14_8)) (along (step (X (Proc.devRef .tc main_v14_7)) (pick (X (Proc.devRef .tc main_v14_1)) (X (Proc.devRef .tc main_v14_6))) (pick (X (Proc.devRef .tc main_v14_2)) (X (Proc.devRef .tc main_v14_6))) (pick (X (Proc.devRef .tc main_v14_3)) (X (Proc.devRef .tc main_v14_6))) (pick (X (Proc.devRef .tc main_v14_4)) (X (Proc.devRef .tc main_v14_6))) (pick (X (Proc.devRef .tc main_v14_5)) (X (Proc.devRef .tc main_v14_6)))) (pick (X (Proc.devRef .tc main_v14_0)) (X (Proc.devRef .tc main_v14_6)))) (X (Proc.devRef .tc main_v14_6)) := by
  simp only [afterL_cons, afterL_nil]
  rw [tail0_out, write0_at, core0_keep _ main_v14_8 (by decide +kernel), read0_5_keep _ main_v14_8 (by decide +kernel), read0_4_keep _ main_v14_8 (by decide +kernel), read0_3_keep _ main_v14_8 (by decide +kernel), read0_2_keep _ main_v14_8 (by decide +kernel), read0_1_keep _ main_v14_8 (by decide +kernel), read0_0_keep _ main_v14_8 (by decide +kernel), cond0_keep _ main_v14_8 (by decide +kernel), core0_out, trip0_s, trip0_x0, trip0_x1, trip0_x2, trip0_x3, trip0_x4, trip0_x5, core0_keep _ main_v14_6 (by decide +kernel), read0_5_keep _ main_v14_6 (by decide +kernel), read0_4_keep _ main_v14_6 (by decide +kernel), read0_3_keep _ main_v14_6 (by decide +kernel), read0_2_keep _ main_v14_6 (by decide +kernel), read0_1_keep _ main_v14_6 (by decide +kernel), read0_0_keep _ main_v14_6 (by decide +kernel), cond0_keep _ main_v14_6 (by decide +kernel)]

theorem trip0_count (X : Valuation τ sig (Elt F)) : afterL body0 (after cond0 X) (Proc.devRef .tc main_v14_6) = addi (X (Proc.devRef .tc main_v14_6)) (constantI S_ 32 1#32) := by
  simp only [afterL_cons, afterL_nil]
  rw [tail0_count, write0_keep _ main_v14_6 (by decide +kernel), core0_keep _ main_v14_6 (by decide +kernel), read0_5_keep _ main_v14_6 (by decide +kernel), read0_4_keep _ main_v14_6 (by decide +kernel), read0_3_keep _ main_v14_6 (by decide +kernel), read0_2_keep _ main_v14_6 (by decide +kernel), read0_1_keep _ main_v14_6 (by decide +kernel), read0_0_keep _ main_v14_6 (by decide +kernel), cond0_keep _ main_v14_6 (by decide +kernel)]

theorem body0_plain : Plain (body0 (F := F)) := .cons read0_0_sub (hf := List.forall_iff_forall_mem.mp read0_0_fresh) (.cons read0_1_sub (hf := List.forall_iff_forall_mem.mp read0_1_fresh) (.cons read0_2_sub (hf := List.forall_iff_forall_mem.mp read0_2_fresh) (.cons read0_3_sub (hf := List.forall_iff_forall_mem.mp read0_3_fresh) (.cons read0_4_sub (hf := List.forall_iff_forall_mem.mp read0_4_fresh) (.cons read0_5_sub (hf := List.forall_iff_forall_mem.mp read0_5_fresh) (.cons core0_sub (hf := List.forall_iff_forall_mem.mp core0_fresh) (.cons write0_sub (hf := List.forall_iff_forall_mem.mp write0_fresh) (.cons tail0_sub (hf := List.forall_iff_forall_mem.mp tail0_fresh) (.nil)))))))))

theorem body0_chain : main_while0_body (F := F) = (Pipeline.chain [StableHlo.seq read0_0, StableHlo.seq read0_1, StableHlo.seq read0_2, StableHlo.seq read0_3, StableHlo.seq read0_4, StableHlo.seq read0_5, StableHlo.seq core0, StableHlo.seq write0, StableHlo.seq tail0] : Prog (TpuEff nD τ sig (Elt F) (HostLoop.Sig (Pipeline.Sig Λ₀ (Fin 0) fun p => (pcfgs (F := F) p).Adm) 2) .tc) PUnit) := by
  unfold main_while0_body
  rewrite [Pipeline.chain_cons, Pipeline.chain_cons, Pipeline.chain_cons, Pipeline.chain_cons, Pipeline.chain_cons, Pipeline.chain_cons, StableHlo.chain_seq_cons, Pipeline.chain_cons, StableHlo.chain_seq_cons]
  chain_rfl

/-- The second loop's condition. -/
abbrev cond1 : List (HloOp τ sig (Elt F)) :=
  [ StableHlo.nullary main_while1c_c_12 (constantI S_ 32 4096#32),
    StableHlo.binary main_v31_6 main_while1c_c_12 main_while1c_v34 (cmpi .slt : (⟨S_, .i32⟩ : BufTy).Contents (Elt F) → (⟨S_, .i32⟩ : BufTy).Contents (Elt F) → (⟨S_, .i1⟩ : BufTy).Contents (Elt F)) ]
theorem cond1_sub : (cond1 : List (HloOp τ sig (Elt F))).Forall fun op => op.bufs ⊆ StableHlo.tcRefs τ sig :=
  ⟨StableHlo.nullary_bufs_sub .., StableHlo.binary_bufs_sub ..⟩
theorem cond1_fresh : (cond1 : List (HloOp τ sig (Elt F))).Forall fun op => op.fresh = ∅ :=
  StableHlo.forall_fresh_of_map rfl
abbrev cond1_W : List (Ref sig .tc) := [main_while1c_c_12, main_while1c_v34]
theorem cond1_writes : (cond1 : List (HloOp τ sig (Elt F))).Forall fun op => op.writes ⊆ (cond1_W.map (Proc.devRef (τ := τ) .tc)).toFinset :=
  StableHlo.forall_writes_sub_of_map rfl
theorem cond1_keep (X : Valuation τ sig (Elt F)) (b : Ref sig .tc) (h : b ∉ cond1_W) : after cond1 X (Proc.devRef .tc b) = X (Proc.devRef .tc b) :=
  after_of_writes_sub cond1 X cond1_writes h

/-- Operations of a trip of the second loop. -/
abbrev head1 : List (HloOp τ sig (Elt F)) :=
  [ StableHlo.nullary main_while1b_c_12 (constantI S_ 32 4096#32),
    StableHlo.binary main_while1b_c_12 main_v31_6 main_while1b_v34 (subi : (⟨S_, .i32⟩ : BufTy).Contents (Elt F) → (⟨S_, .i32⟩ : BufTy).Contents (Elt F) → (⟨S_, .i32⟩ : BufTy).Contents (Elt F)),
    StableHlo.nullary main_while1b_c_13 (constantI S_ 32 1#32),
    StableHlo.binary main_while1b_v34 main_while1b_c_13 main_while1b_v35 (subi : (⟨S_, .i32⟩ : BufTy).Contents (Elt F) → (⟨S_, .i32⟩ : BufTy).Contents (Elt F) → (⟨S_, .i32⟩ : BufTy).Contents (Elt F)) ]
theorem head1_sub : (head1 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
theorem head1_fresh : (head1 : List (HloOp τ sig (Elt F))).Forall fun op => op.fresh = ∅ :=
  StableHlo.forall_fresh_of_map rfl
abbrev head1_W : List (Ref sig .tc) := [main_while1b_c_12, main_while1b_v34, main_while1b_c_13, main_while1b_v35]
theorem head1_writes : (head1 : List (HloOp τ sig (Elt F))).Forall fun op => op.writes ⊆ (head1_W.map (Proc.devRef (τ := τ) .tc)).toFinset :=
  StableHlo.forall_writes_sub_of_map rfl
theorem head1_keep (X : Valuation τ sig (Elt F)) (b : Ref sig .tc) (h : b ∉ head1_W) : after head1 X (Proc.devRef .tc b) = X (Proc.devRef .tc b) :=
  after_of_writes_sub head1 X head1_writes h

/-- A read of a trip of the second loop. -/
abbrev read1_0 : List (HloOp τ sig (Elt F)) :=
  idxOps (.of main_v31_0) (.of main_while1b_v35) main_while1b_call7
theorem read1_0_sub : (read1_0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem read1_0_fresh : (read1_0 : List (HloOp τ sig (Elt F))).Forall fun op => op.fresh = ∅ :=
  StableHlo.forall_fresh_of_map rfl
abbrev read1_0_W : List (Ref sig .tc) := [main_while1b_call7_c, main_while1b_call7_c_0, main_while1b_call7_c_1, main_while1b_call7_v0, main_while1b_v36]
theorem read1_0_writes : (read1_0 : List (HloOp τ sig (Elt F))).Forall fun op => op.writes ⊆ (read1_0_W.map (Proc.devRef (τ := τ) .tc)).toFinset :=
  StableHlo.forall_writes_sub_of_map rfl
theorem read1_0_keep (X : Valuation τ sig (Elt F)) (b : Ref sig .tc) (h : b ∉ read1_0_W) : after read1_0 X (Proc.devRef .tc b) = X (Proc.devRef .tc b) :=
  after_of_writes_sub read1_0 X read1_0_writes h

set_option maxRecDepth 8192 in
theorem read1_0_at (X : Valuation τ sig (Elt F)) : after read1_0 X (Proc.devRef .tc main_while1b_v36) = pick (X (Proc.devRef .tc main_v31_0)) (X (Proc.devRef .tc main_while1b_v35)) := by
  unfold pick
  after_results_entrywise [cast_eq]

/-- A read of a trip of the second loop. -/
abbrev read1_1 : List (HloOp τ sig (Elt F)) :=
  idxOps (.of main_v31_1) (.of main_while1b_v35) main_while1b_call8
theorem read1_1_sub : (read1_1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem read1_1_fresh : (read1_1 : List (HloOp τ sig (Elt F))).Forall fun op => op.fresh = ∅ :=
  StableHlo.forall_fresh_of_map rfl
abbrev read1_1_W : List (Ref sig .tc) := [main_while1b_call8_c, main_while1b_call8_c_0, main_while1b_call8_c_1, main_while1b_call8_v0, main_while1b_v37]
theorem read1_1_writes : (read1_1 : List (HloOp τ sig (Elt F))).Forall fun op => op.writes ⊆ (read1_1_W.map (Proc.devRef (τ := τ) .tc)).toFinset :=
  StableHlo.forall_writes_sub_of_map rfl
theorem read1_1_keep (X : Valuation τ sig (Elt F)) (b : Ref sig .tc) (h : b ∉ read1_1_W) : after read1_1 X (Proc.devRef .tc b) = X (Proc.devRef .tc b) :=
  after_of_writes_sub read1_1 X read1_1_writes h

set_option maxRecDepth 8192 in
theorem read1_1_at (X : Valuation τ sig (Elt F)) : after read1_1 X (Proc.devRef .tc main_while1b_v37) = pick (X (Proc.devRef .tc main_v31_1)) (X (Proc.devRef .tc main_while1b_v35)) := by
  unfold pick
  after_results_entrywise [cast_eq]

/-- A read of a trip of the second loop. -/
abbrev read1_2 : List (HloOp τ sig (Elt F)) :=
  idxOps (.of main_v31_2) (.of main_while1b_v35) main_while1b_call9
theorem read1_2_sub : (read1_2 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem read1_2_fresh : (read1_2 : List (HloOp τ sig (Elt F))).Forall fun op => op.fresh = ∅ :=
  StableHlo.forall_fresh_of_map rfl
abbrev read1_2_W : List (Ref sig .tc) := [main_while1b_call9_c, main_while1b_call9_c_0, main_while1b_call9_c_1, main_while1b_call9_v0, main_while1b_v38]
theorem read1_2_writes : (read1_2 : List (HloOp τ sig (Elt F))).Forall fun op => op.writes ⊆ (read1_2_W.map (Proc.devRef (τ := τ) .tc)).toFinset :=
  StableHlo.forall_writes_sub_of_map rfl
theorem read1_2_keep (X : Valuation τ sig (Elt F)) (b : Ref sig .tc) (h : b ∉ read1_2_W) : after read1_2 X (Proc.devRef .tc b) = X (Proc.devRef .tc b) :=
  after_of_writes_sub read1_2 X read1_2_writes h

set_option maxRecDepth 8192 in
theorem read1_2_at (X : Valuation τ sig (Elt F)) : after read1_2 X (Proc.devRef .tc main_while1b_v38) = pick (X (Proc.devRef .tc main_v31_2)) (X (Proc.devRef .tc main_while1b_v35)) := by
  unfold pick
  after_results_entrywise [cast_eq]

/-- A read of a trip of the second loop. -/
abbrev read1_3 : List (HloOp τ sig (Elt F)) :=
  idxOps (.of main_v31_3) (.of main_while1b_v35) main_while1b_call10
theorem read1_3_sub : (read1_3 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem read1_3_fresh : (read1_3 : List (HloOp τ sig (Elt F))).Forall fun op => op.fresh = ∅ :=
  StableHlo.forall_fresh_of_map rfl
abbrev read1_3_W : List (Ref sig .tc) := [main_while1b_call10_c, main_while1b_call10_c_0, main_while1b_call10_c_1, main_while1b_call10_v0, main_while1b_v39]
theorem read1_3_writes : (read1_3 : List (HloOp τ sig (Elt F))).Forall fun op => op.writes ⊆ (read1_3_W.map (Proc.devRef (τ := τ) .tc)).toFinset :=
  StableHlo.forall_writes_sub_of_map rfl
theorem read1_3_keep (X : Valuation τ sig (Elt F)) (b : Ref sig .tc) (h : b ∉ read1_3_W) : after read1_3 X (Proc.devRef .tc b) = X (Proc.devRef .tc b) :=
  after_of_writes_sub read1_3 X read1_3_writes h

set_option maxRecDepth 8192 in
theorem read1_3_at (X : Valuation τ sig (Elt F)) : after read1_3 X (Proc.devRef .tc main_while1b_v39) = pick (X (Proc.devRef .tc main_v31_3)) (X (Proc.devRef .tc main_while1b_v35)) := by
  unfold pick
  after_results_entrywise [cast_eq]

/-- A read of a trip of the second loop. -/
abbrev read1_4 : List (HloOp τ sig (Elt F)) :=
  idxOps (.of main_v31_4) (.of main_while1b_v35) main_while1b_call11
theorem read1_4_sub : (read1_4 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem read1_4_fresh : (read1_4 : List (HloOp τ sig (Elt F))).Forall fun op => op.fresh = ∅ :=
  StableHlo.forall_fresh_of_map rfl
abbrev read1_4_W : List (Ref sig .tc) := [main_while1b_call11_c, main_while1b_call11_c_0, main_while1b_call11_c_1, main_while1b_call11_v0, main_while1b_v40]
theorem read1_4_writes : (read1_4 : List (HloOp τ sig (Elt F))).Forall fun op => op.writes ⊆ (read1_4_W.map (Proc.devRef (τ := τ) .tc)).toFinset :=
  StableHlo.forall_writes_sub_of_map rfl
theorem read1_4_keep (X : Valuation τ sig (Elt F)) (b : Ref sig .tc) (h : b ∉ read1_4_W) : after read1_4 X (Proc.devRef .tc b) = X (Proc.devRef .tc b) :=
  after_of_writes_sub read1_4 X read1_4_writes h

set_option maxRecDepth 8192 in
theorem read1_4_at (X : Valuation τ sig (Elt F)) : after read1_4 X (Proc.devRef .tc main_while1b_v40) = pick (X (Proc.devRef .tc main_v31_4)) (X (Proc.devRef .tc main_while1b_v35)) := by
  unfold pick
  after_results_entrywise [cast_eq]

/-- A read of a trip of the second loop. -/
abbrev read1_5 : List (HloOp τ sig (Elt F)) :=
  idxOps (.of main_v31_5) (.of main_while1b_v35) main_while1b_call12
theorem read1_5_sub : (read1_5 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem read1_5_fresh : (read1_5 : List (HloOp τ sig (Elt F))).Forall fun op => op.fresh = ∅ :=
  StableHlo.forall_fresh_of_map rfl
abbrev read1_5_W : List (Ref sig .tc) := [main_while1b_call12_c, main_while1b_call12_c_0, main_while1b_call12_c_1, main_while1b_call12_v0, main_while1b_v41]
theorem read1_5_writes : (read1_5 : List (HloOp τ sig (Elt F))).Forall fun op => op.writes ⊆ (read1_5_W.map (Proc.devRef (τ := τ) .tc)).toFinset :=
  StableHlo.forall_writes_sub_of_map rfl
theorem read1_5_keep (X : Valuation τ sig (Elt F)) (b : Ref sig .tc) (h : b ∉ read1_5_W) : after read1_5 X (Proc.devRef .tc b) = X (Proc.devRef .tc b) :=
  after_of_writes_sub read1_5 X read1_5_writes h

set_option maxRecDepth 8192 in
theorem read1_5_at (X : Valuation τ sig (Elt F)) : after read1_5 X (Proc.devRef .tc main_while1b_v41) = pick (X (Proc.devRef .tc main_v31_5)) (X (Proc.devRef .tc main_while1b_v35)) := by
  unfold pick
  after_results_entrywise [cast_eq]

/-- Operations of a trip of the second loop. -/
abbrev core1 : List (HloOp τ sig (Elt F)) :=
  [ StableHlo.binary main_v31_7 main_while1b_v40 main_while1b_v42 ((fun l r => Host.dotGeneral dot_S4x20x64x64_S4x20x64_S4x20x64_3_2_2_n_01_01 none l r) : (⟨S4x20x64x64, .f32⟩ : BufTy).Contents (Elt F) → (⟨S4x20x64, .f32⟩ : BufTy).Contents (Elt F) → (⟨S4x20x64, .f32⟩ : BufTy).Contents (Elt F)),
    StableHlo.unary main_while1b_v37 main_while1b_v43 (broadcastInDim S4x20x1x64 ![0, 1, 3] bcast_S4x20x64_S4x20x1x64_0_1_3 : (⟨S4x20x64, .f32⟩ : BufTy).Contents (Elt F) → (⟨S4x20x1x64, .f32⟩ : BufTy).Contents (Elt F)),
    StableHlo.unary main_while1b_v43 main_while1b_v44 (broadcastInDim S4x20x64x64 ![0, 1, 2, 3] bcast_S4x20x1x64_S4x20x64x64_0_1_2_3 : (⟨S4x20x1x64, .f32⟩ : BufTy).Contents (Elt F) → (⟨S4x20x64x64, .f32⟩ : BufTy).Contents (Elt F)),
    StableHlo.binary main_v31_7 main_while1b_v44 main_while1b_v45 (mulf : (⟨S4x20x64x64, .f32⟩ : BufTy).Contents (Elt F) → (⟨S4x20x64x64, .f32⟩ : BufTy).Contents (Elt F) → (⟨S4x20x64x64, .f32⟩ : BufTy).Contents (Elt F)),
    StableHlo.unary main_while1b_v42 main_while1b_v46 (broadcastInDim S4x20x64x1 ![0, 1, 2] bcast_S4x20x64_S4x20x64x1_0_1_2 : (⟨S4x20x64, .f32⟩ : BufTy).Contents (Elt F) → (⟨S4x20x64x1, .f32⟩ : BufTy).Contents (Elt F)),
    StableHlo.unary main_while1b_v41 main_while1b_v47 (broadcastInDim S4x20x1x64 ![0, 1, 3] bcast_S4x20x64_S4x20x1x64_0_1_3 : (⟨S4x20x64, .f32⟩ : BufTy).Contents (Elt F) → (⟨S4x20x1x64, .f32⟩ : BufTy).Contents (Elt F)),
    StableHlo.unary main_while1b_v46 main_while1b_v48 (broadcastInDim S4x20x64x64 ![0, 1, 2, 3] bcast_S4x20x64x1_S4x20x64x64_0_1_2_3 : (⟨S4x20x64x1, .f32⟩ : BufTy).Contents (Elt F) → (⟨S4x20x64x64, .f32⟩ : BufTy).Contents (Elt F)),
    StableHlo.unary main_while1b_v47 main_while1b_v49 (broadcastInDim S4x20x64x64 ![0, 1, 2, 3] bcast_S4x20x1x64_S4x20x64x64_0_1_2_3 : (⟨S4x20x1x64, .f32⟩ : BufTy).Contents (Elt F) → (⟨S4x20x64x64, .f32⟩ : BufTy).Contents (Elt F)),
    StableHlo.binary main_while1b_v48 main_while1b_v49 main_while1b_v50 (mulf : (⟨S4x20x64x64, .f32⟩ : BufTy).Contents (Elt F) → (⟨S4x20x64x64, .f32⟩ : BufTy).Contents (Elt F) → (⟨S4x20x64x64, .f32⟩ : BufTy).Contents (Elt F)),
    StableHlo.binary main_while1b_v45 main_while1b_v50 main_while1b_v51 (addf : (⟨S4x20x64x64, .f32⟩ : BufTy).Contents (Elt F) → (⟨S4x20x64x64, .f32⟩ : BufTy).Contents (Elt F) → (⟨S4x20x64x64, .f32⟩ : BufTy).Contents (Elt F)),
    StableHlo.unary main_while1b_v39 main_while1b_v52 (broadcastInDim S4x20x64x1 ![0, 1, 2] bcast_S4x20x64_S4x20x64x1_0_1_2 : (⟨S4x20x64, .f32⟩ : BufTy).Contents (Elt F) → (⟨S4x20x64x1, .f32⟩ : BufTy).Contents (Elt F)),
    StableHlo.unary main_while1b_v38 main_while1b_v53 (broadcastInDim S4x20x1x64 ![0, 1, 3] bcast_S4x20x64_S4x20x1x64_0_1_3 : (⟨S4x20x64, .f32⟩ : BufTy).Contents (Elt F) → (⟨S4x20x1x64, .f32⟩ : BufTy).Contents (Elt F)),
    StableHlo.unary main_while1b_v52 main_while1b_v54 (broadcastInDim S4x20x64x64 ![0, 1, 2, 3] bcast_S4x20x64x1_S4x20x64x64_0_1_2_3 : (⟨S4x20x64x1, .f32⟩ : BufTy).Contents (Elt F) → (⟨S4x20x64x64, .f32⟩ : BufTy).Contents (Elt F)),
    StableHlo.unary main_while1b_v53 main_while1b_v55 (broadcastInDim S4x20x64x64 ![0, 1, 2, 3] bcast_S4x20x1x64_S4x20x64x64_0_1_2_3 : (⟨S4x20x1x64, .f32⟩ : BufTy).Contents (Elt F) → (⟨S4x20x64x64, .f32⟩ : BufTy).Contents (Elt F)),
    StableHlo.binary main_while1b_v54 main_while1b_v55 main_while1b_v56 (mulf : (⟨S4x20x64x64, .f32⟩ : BufTy).Contents (Elt F) → (⟨S4x20x64x64, .f32⟩ : BufTy).Contents (Elt F) → (⟨S4x20x64x64, .f32⟩ : BufTy).Contents (Elt F)),
    StableHlo.binary main_while1b_v51 main_while1b_v56 main_while1b_v57 (addf : (⟨S4x20x64x64, .f32⟩ : BufTy).Contents (Elt F) → (⟨S4x20x64x64, .f32⟩ : BufTy).Contents (Elt F) → (⟨S4x20x64x64, .f32⟩ : BufTy).Contents (Elt F)),
    StableHlo.binary main_while1b_v57 main_while1b_v36 main_while1b_v58 ((fun l r => Host.dotGeneral dot_S4x20x64x64_S4x20x64_S4x20x64_3_2_2_n_01_01 none l r) : (⟨S4x20x64x64, .f32⟩ : BufTy).Contents (Elt F) → (⟨S4x20x64, .f32⟩ : BufTy).Contents (Elt F) → (⟨S4x20x64, .f32⟩ : BufTy).Contents (Elt F)) ]
theorem core1_sub : (core1 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.binary_bufs_sub ..⟩
theorem core1_fresh : (core1 : List (HloOp τ sig (Elt F))).Forall fun op => op.fresh = ∅ :=
  StableHlo.forall_fresh_of_map rfl
abbrev core1_W : List (Ref sig .tc) := [main_while1b_v42, main_while1b_v43, main_while1b_v44, main_while1b_v45, main_while1b_v46, main_while1b_v47, main_while1b_v48, main_while1b_v49, main_while1b_v50, main_while1b_v51, main_while1b_v52, main_while1b_v53, main_while1b_v54, main_while1b_v55, main_while1b_v56, main_while1b_v57, main_while1b_v58]
theorem core1_writes : (core1 : List (HloOp τ sig (Elt F))).Forall fun op => op.writes ⊆ (core1_W.map (Proc.devRef (τ := τ) .tc)).toFinset :=
  StableHlo.forall_writes_sub_of_map rfl
theorem core1_keep (X : Valuation τ sig (Elt F)) (b : Ref sig .tc) (h : b ∉ core1_W) : after core1 X (Proc.devRef .tc b) = X (Proc.devRef .tc b) :=
  after_of_writes_sub core1 X core1_writes h

/-- The write of a trip of the second loop. -/
abbrev write1 : List (HloOp τ sig (Elt F)) :=
  updOps (.of main_v31_8) (.of main_while1b_v58) (.of main_while1b_v35) main_while1b_call13
theorem write1_sub : (write1 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem write1_fresh : (write1 : List (HloOp τ sig (Elt F))).Forall fun op => op.fresh = ∅ :=
  StableHlo.forall_fresh_of_map rfl
abbrev write1_W : List (Ref sig .tc) := [main_while1b_call13_v0, main_while1b_call13_c, main_while1b_call13_c_0, main_while1b_call13_c_1, main_while1b_v59]
theorem write1_writes : (write1 : List (HloOp τ sig (Elt F))).Forall fun op => op.writes ⊆ (write1_W.map (Proc.devRef (τ := τ) .tc)).toFinset :=
  StableHlo.forall_writes_sub_of_map rfl
theorem write1_keep (X : Valuation τ sig (Elt F)) (b : Ref sig .tc) (h : b ∉ write1_W) : after write1 X (Proc.devRef .tc b) = X (Proc.devRef .tc b) :=
  after_of_writes_sub write1 X write1_writes h

set_option maxRecDepth 8192 in
theorem write1_at (X : Valuation τ sig (Elt F)) : after write1 X (Proc.devRef .tc main_while1b_v59) = put (X (Proc.devRef .tc main_v31_8)) (X (Proc.devRef .tc main_while1b_v58)) (X (Proc.devRef .tc main_while1b_v35)) := by
  unfold put
  after_results_entrywise [cast_eq]

/-- Operations of a trip of the second loop. -/
abbrev tail1 : List (HloOp τ sig (Elt F)) :=
  [ StableHlo.nullary main_while1b_c_14 (constantI S_ 32 1#32),
    StableHlo.binary main_v31_6 main_while1b_c_14 main_while1b_v60 (addi : (⟨S_, .i32⟩ : BufTy).Contents (Elt F) → (⟨S_, .i32⟩ : BufTy).Contents (Elt F) → (⟨S_, .i32⟩ : BufTy).Contents (Elt F)),
    StableHlo.unary main_while1b_v60 main_v31_6 id,
    StableHlo.unary main_while1b_v57 main_v31_7 id,
    StableHlo.unary main_while1b_v59 main_v31_8 id ]
theorem tail1_sub : (tail1 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
theorem tail1_fresh : (tail1 : List (HloOp τ sig (Elt F))).Forall fun op => op.fresh = ∅ :=
  StableHlo.forall_fresh_of_map rfl
abbrev tail1_W : List (Ref sig .tc) := [main_while1b_c_14, main_while1b_v60, main_v31_6, main_v31_7, main_v31_8]
theorem tail1_writes : (tail1 : List (HloOp τ sig (Elt F))).Forall fun op => op.writes ⊆ (tail1_W.map (Proc.devRef (τ := τ) .tc)).toFinset :=
  StableHlo.forall_writes_sub_of_map rfl
theorem tail1_keep (X : Valuation τ sig (Elt F)) (b : Ref sig .tc) (h : b ∉ tail1_W) : after tail1 X (Proc.devRef .tc b) = X (Proc.devRef .tc b) :=
  after_of_writes_sub tail1 X tail1_writes h

set_option maxRecDepth 8192 in
theorem core1_state (X : Valuation τ sig (Elt F)) : after core1 X (Proc.devRef .tc main_while1b_v57) = step (X (Proc.devRef .tc main_v31_7)) (X (Proc.devRef .tc main_while1b_v37)) (X (Proc.devRef .tc main_while1b_v38)) (X (Proc.devRef .tc main_while1b_v39)) (X (Proc.devRef .tc main_while1b_v40)) (X (Proc.devRef .tc main_while1b_v41)) := by
  unfold step overKeys overVals along
  after_results
  all_goals rfl

set_option maxRecDepth 8192 in
theorem core1_out (X : Valuation τ sig (Elt F)) : after core1 X (Proc.devRef .tc main_while1b_v58) = along (step (X (Proc.devRef .tc main_v31_7)) (X (Proc.devRef .tc main_while1b_v37)) (X (Proc.devRef .tc main_while1b_v38)) (X (Proc.devRef .tc main_while1b_v39)) (X (Proc.devRef .tc main_while1b_v40)) (X (Proc.devRef .tc main_while1b_v41))) (X (Proc.devRef .tc main_while1b_v36)) := by
  unfold step overKeys overVals along
  after_results
  all_goals rfl

theorem tail1_state (X : Valuation τ sig (Elt F)) : after tail1 X (Proc.devRef .tc main_v31_7) = X (Proc.devRef .tc main_while1b_v57) := by
  after_results
  all_goals rfl

theorem tail1_out (X : Valuation τ sig (Elt F)) : after tail1 X (Proc.devRef .tc main_v31_8) = X (Proc.devRef .tc main_while1b_v59) := by
  after_results
  all_goals rfl

theorem tail1_count (X : Valuation τ sig (Elt F)) : after tail1 X (Proc.devRef .tc main_v31_6) = addi (X (Proc.devRef .tc main_v31_6)) (constantI S_ 32 1#32) := by
  after_results
  all_goals rfl

theorem head1_at (X : Valuation τ sig (Elt F)) : after head1 X (Proc.devRef .tc main_while1b_v35) = subi (subi (constantI S_ 32 4096#32) (X (Proc.devRef .tc main_v31_6))) (constantI S_ 32 1#32) := by
  after_results
  all_goals rfl

/-- A trip of the second loop. -/
abbrev body1 : List (List (HloOp τ sig (Elt F))) := [head1, read1_0, read1_1, read1_2, read1_3, read1_4, read1_5, core1, write1, tail1]

theorem body1_keep (X : Valuation τ sig (Elt F)) (b : Ref sig .tc) (h : b ∉ cond1_W ∧ b ∉ head1_W ∧ b ∉ read1_0_W ∧ b ∉ read1_1_W ∧ b ∉ read1_2_W ∧ b ∉ read1_3_W ∧ b ∉ read1_4_W ∧ b ∉ read1_5_W ∧ b ∉ core1_W ∧ b ∉ write1_W ∧ b ∉ tail1_W) :
    afterL body1 (after cond1 X) (Proc.devRef .tc b) = X (Proc.devRef .tc b) := by
  obtain ⟨h0, h1, h2, h3, h4, h5, h6, h7, h8, h9, h10⟩ := h
  simp only [afterL_cons, afterL_nil]
  rw [tail1_keep _ b h10, write1_keep _ b h9, core1_keep _ b h8, read1_5_keep _ b h7, read1_4_keep _ b h6, read1_3_keep _ b h5, read1_2_keep _ b h4, read1_1_keep _ b h3, read1_0_keep _ b h2, head1_keep _ b h1, cond1_keep _ b h0]

theorem trip1_x0 (X : Valuation τ sig (Elt F)) : (after read1_5 (after read1_4 (after read1_3 (after read1_2 (after read1_1 (after read1_0 (after head1 (after cond1 X)))))))) (Proc.devRef .tc main_while1b_v36) = pick (X (Proc.devRef .tc main_v31_0)) (subi (subi (constantI S_ 32 4096#32) (X (Proc.devRef .tc main_v31_6))) (constantI S_ 32 1#32)) := by
  rw [read1_5_keep _ main_while1b_v36 (by decide +kernel), read1_4_keep _ main_while1b_v36 (by decide +kernel), read1_3_keep _ main_while1b_v36 (by decide +kernel), read1_2_keep _ main_while1b_v36 (by decide +kernel), read1_1_keep _ main_while1b_v36 (by decide +kernel), read1_0_at, head1_keep _ main_v31_0 (by decide +kernel), cond1_keep _ main_v31_0 (by decide +kernel), head1_at, cond1_keep _ main_v31_6 (by decide +kernel)]

theorem trip1_x1 (X : Valuation τ sig (Elt F)) : (after read1_5 (after read1_4 (after read1_3 (after read1_2 (after read1_1 (after read1_0 (after head1 (after cond1 X)))))))) (Proc.devRef .tc main_while1b_v37) = pick (X (Proc.devRef .tc main_v31_1)) (subi (subi (constantI S_ 32 4096#32) (X (Proc.devRef .tc main_v31_6))) (constantI S_ 32 1#32)) := by
  rw [read1_5_keep _ main_while1b_v37 (by decide +kernel), read1_4_keep _ main_while1b_v37 (by decide +kernel), read1_3_keep _ main_while1b_v37 (by decide +kernel), read1_2_keep _ main_while1b_v37 (by decide +kernel), read1_1_at, read1_0_keep _ main_v31_1 (by decide +kernel), head1_keep _ main_v31_1 (by decide +kernel), cond1_keep _ main_v31_1 (by decide +kernel), read1_0_keep _ main_while1b_v35 (by decide +kernel), head1_at, cond1_keep _ main_v31_6 (by decide +kernel)]

theorem trip1_x2 (X : Valuation τ sig (Elt F)) : (after read1_5 (after read1_4 (after read1_3 (after read1_2 (after read1_1 (after read1_0 (after head1 (after cond1 X)))))))) (Proc.devRef .tc main_while1b_v38) = pick (X (Proc.devRef .tc main_v31_2)) (subi (subi (constantI S_ 32 4096#32) (X (Proc.devRef .tc main_v31_6))) (constantI S_ 32 1#32)) := by
  rw [read1_5_keep _ main_while1b_v38 (by decide +kernel), read1_4_keep _ main_while1b_v38 (by decide +kernel), read1_3_keep _ main_while1b_v38 (by decide +kernel), read1_2_at, read1_1_keep _ main_v31_2 (by decide +kernel), read1_0_keep _ main_v31_2 (by decide +kernel), head1_keep _ main_v31_2 (by decide +kernel), cond1_keep _ main_v31_2 (by decide +kernel), read1_1_keep _ main_while1b_v35 (by decide +kernel), read1_0_keep _ main_while1b_v35 (by decide +kernel), head1_at, cond1_keep _ main_v31_6 (by decide +kernel)]

theorem trip1_x3 (X : Valuation τ sig (Elt F)) : (after read1_5 (after read1_4 (after read1_3 (after read1_2 (after read1_1 (after read1_0 (after head1 (after cond1 X)))))))) (Proc.devRef .tc main_while1b_v39) = pick (X (Proc.devRef .tc main_v31_3)) (subi (subi (constantI S_ 32 4096#32) (X (Proc.devRef .tc main_v31_6))) (constantI S_ 32 1#32)) := by
  rw [read1_5_keep _ main_while1b_v39 (by decide +kernel), read1_4_keep _ main_while1b_v39 (by decide +kernel), read1_3_at, read1_2_keep _ main_v31_3 (by decide +kernel), read1_1_keep _ main_v31_3 (by decide +kernel), read1_0_keep _ main_v31_3 (by decide +kernel), head1_keep _ main_v31_3 (by decide +kernel), cond1_keep _ main_v31_3 (by decide +kernel), read1_2_keep _ main_while1b_v35 (by decide +kernel), read1_1_keep _ main_while1b_v35 (by decide +kernel), read1_0_keep _ main_while1b_v35 (by decide +kernel), head1_at, cond1_keep _ main_v31_6 (by decide +kernel)]

theorem trip1_x4 (X : Valuation τ sig (Elt F)) : (after read1_5 (after read1_4 (after read1_3 (after read1_2 (after read1_1 (after read1_0 (after head1 (after cond1 X)))))))) (Proc.devRef .tc main_while1b_v40) = pick (X (Proc.devRef .tc main_v31_4)) (subi (subi (constantI S_ 32 4096#32) (X (Proc.devRef .tc main_v31_6))) (constantI S_ 32 1#32)) := by
  rw [read1_5_keep _ main_while1b_v40 (by decide +kernel), read1_4_at, read1_3_keep _ main_v31_4 (by decide +kernel), read1_2_keep _ main_v31_4 (by decide +kernel), read1_1_keep _ main_v31_4 (by decide +kernel), read1_0_keep _ main_v31_4 (by decide +kernel), head1_keep _ main_v31_4 (by decide +kernel), cond1_keep _ main_v31_4 (by decide +kernel), read1_3_keep _ main_while1b_v35 (by decide +kernel), read1_2_keep _ main_while1b_v35 (by decide +kernel), read1_1_keep _ main_while1b_v35 (by decide +kernel), read1_0_keep _ main_while1b_v35 (by decide +kernel), head1_at, cond1_keep _ main_v31_6 (by decide +kernel)]

theorem trip1_x5 (X : Valuation τ sig (Elt F)) : (after read1_5 (after read1_4 (after read1_3 (after read1_2 (after read1_1 (after read1_0 (after head1 (after cond1 X)))))))) (Proc.devRef .tc main_while1b_v41) = pick (X (Proc.devRef .tc main_v31_5)) (subi (subi (constantI S_ 32 4096#32) (X (Proc.devRef .tc main_v31_6))) (constantI S_ 32 1#32)) := by
  rw [read1_5_at, read1_4_keep _ main_v31_5 (by decide +kernel), read1_3_keep _ main_v31_5 (by decide +kernel), read1_2_keep _ main_v31_5 (by decide +kernel), read1_1_keep _ main_v31_5 (by decide +kernel), read1_0_keep _ main_v31_5 (by decide +kernel), head1_keep _ main_v31_5 (by decide +kernel), cond1_keep _ main_v31_5 (by decide +kernel), read1_4_keep _ main_while1b_v35 (by decide +kernel), read1_3_keep _ main_while1b_v35 (by decide +kernel), read1_2_keep _ main_while1b_v35 (by decide +kernel), read1_1_keep _ main_while1b_v35 (by decide +kernel), read1_0_keep _ main_while1b_v35 (by decide +kernel), head1_at, cond1_keep _ main_v31_6 (by decide +kernel)]

theorem trip1_s (X : Valuation τ sig (Elt F)) : (after read1_5 (after read1_4 (after read1_3 (after read1_2 (after read1_1 (after read1_0 (after head1 (after cond1 X)))))))) (Proc.devRef .tc main_v31_7) = X (Proc.devRef .tc main_v31_7) := by
  rw [read1_5_keep _ main_v31_7 (by decide +kernel), read1_4_keep _ main_v31_7 (by decide +kernel), read1_3_keep _ main_v31_7 (by decide +kernel), read1_2_keep _ main_v31_7 (by decide +kernel), read1_1_keep _ main_v31_7 (by decide +kernel), read1_0_keep _ main_v31_7 (by decide +kernel), head1_keep _ main_v31_7 (by decide +kernel), cond1_keep _ main_v31_7 (by decide +kernel)]

theorem trip1_state (X : Valuation τ sig (Elt F)) : afterL body1 (after cond1 X) (Proc.devRef .tc main_v31_7) = step (X (Proc.devRef .tc main_v31_7)) (pick (X (Proc.devRef .tc main_v31_1)) (subi (subi (constantI S_ 32 4096#32) (X (Proc.devRef .tc main_v31_6))) (constantI S_ 32 1#32))) (pick (X (Proc.devRef .tc main_v31_2)) (subi (subi (constantI S_ 32 4096#32) (X (Proc.devRef .tc main_v31_6))) (constantI S_ 32 1#32))) (pick (X (Proc.devRef .tc main_v31_3)) (subi (subi (constantI S_ 32 4096#32) (X (Proc.devRef .tc main_v31_6))) (constantI S_ 32 1#32))) (pick (X (Proc.devRef .tc main_v31_4)) (subi (subi (constantI S_ 32 4096#32) (X (Proc.devRef .tc main_v31_6))) (constantI S_ 32 1#32))) (pick (X (Proc.devRef .tc main_v31_5)) (subi (subi (constantI S_ 32 4096#32) (X (Proc.devRef .tc main_v31_6))) (constantI S_ 32 1#32))) := by
  simp only [afterL_cons, afterL_nil]
  rw [tail1_state, write1_keep _ main_while1b_v57 (by decide +kernel), core1_state, trip1_s, trip1_x1, trip1_x2, trip1_x3, trip1_x4, trip1_x5]

theorem trip1_out (X : Valuation τ sig (Elt F)) : afterL body1 (after cond1 X) (Proc.devRef .tc main_v31_8) = put (X (Proc.devRef .tc main_v31_8)) (along (step (X (Proc.devRef .tc main_v31_7)) (pick (X (Proc.devRef .tc main_v31_1)) (subi (subi (constantI S_ 32 4096#32) (X (Proc.devRef .tc main_v31_6))) (constantI S_ 32 1#32))) (pick (X (Proc.devRef .tc main_v31_2)) (subi (subi (constantI S_ 32 4096#32) (X (Proc.devRef .tc main_v31_6))) (constantI S_ 32 1#32))) (pick (X (Proc.devRef .tc main_v31_3)) (subi (subi (constantI S_ 32 4096#32) (X (Proc.devRef .tc main_v31_6))) (constantI S_ 32 1#32))) (pick (X (Proc.devRef .tc main_v31_4)) (subi (subi (constantI S_ 32 4096#32) (X (Proc.devRef .tc main_v31_6))) (constantI S_ 32 1#32))) (pick (X (Proc.devRef .tc main_v31_5)) (subi (subi (constantI S_ 32 4096#32) (X (Proc.devRef .tc main_v31_6))) (constantI S_ 32 1#32)))) (pick (X (Proc.devRef .tc main_v31_0)) (subi (subi (constantI S_ 32 4096#32) (X (Proc.devRef .tc main_v31_6))) (constantI S_ 32 1#32)))) (subi (subi (constantI S_ 32 4096#32) (X (Proc.devRef .tc main_v31_6))) (constantI S_ 32 1#32)) := by
  simp only [afterL_cons, afterL_nil]
  rw [tail1_out, write1_at, core1_keep _ main_v31_8 (by decide +kernel), read1_5_keep _ main_v31_8 (by decide +kernel), read1_4_keep _ main_v31_8 (by decide +kernel), read1_3_keep _ main_v31_8 (by decide +kernel), read1_2_keep _ main_v31_8 (by decide +kernel), read1_1_keep _ main_v31_8 (by decide +kernel), read1_0_keep _ main_v31_8 (by decide +kernel), head1_keep _ main_v31_8 (by decide +kernel), cond1_keep _ main_v31_8 (by decide +kernel), core1_out, trip1_s, trip1_x0, trip1_x1, trip1_x2, trip1_x3, trip1_x4, trip1_x5, core1_keep _ main_while1b_v35 (by decide +kernel), read1_5_keep _ main_while1b_v35 (by decide +kernel), read1_4_keep _ main_while1b_v35 (by decide +kernel), read1_3_keep _ main_while1b_v35 (by decide +kernel), read1_2_keep _ main_while1b_v35 (by decide +kernel), read1_1_keep _ main_while1b_v35 (by decide +kernel), read1_0_keep _ main_while1b_v35 (by decide +kernel), head1_at, cond1_keep _ main_v31_6 (by decide +kernel)]

theorem trip1_count (X : Valuation τ sig (Elt F)) : afterL body1 (after cond1 X) (Proc.devRef .tc main_v31_6) = addi (X (Proc.devRef .tc main_v31_6)) (constantI S_ 32 1#32) := by
  simp only [afterL_cons, afterL_nil]
  rw [tail1_count, write1_keep _ main_v31_6 (by decide +kernel), core1_keep _ main_v31_6 (by decide +kernel), read1_5_keep _ main_v31_6 (by decide +kernel), read1_4_keep _ main_v31_6 (by decide +kernel), read1_3_keep _ main_v31_6 (by decide +kernel), read1_2_keep _ main_v31_6 (by decide +kernel), read1_1_keep _ main_v31_6 (by decide +kernel), read1_0_keep _ main_v31_6 (by decide +kernel), head1_keep _ main_v31_6 (by decide +kernel), cond1_keep _ main_v31_6 (by decide +kernel)]

theorem body1_plain : Plain (body1 (F := F)) := .cons head1_sub (hf := List.forall_iff_forall_mem.mp head1_fresh) (.cons read1_0_sub (hf := List.forall_iff_forall_mem.mp read1_0_fresh) (.cons read1_1_sub (hf := List.forall_iff_forall_mem.mp read1_1_fresh) (.cons read1_2_sub (hf := List.forall_iff_forall_mem.mp read1_2_fresh) (.cons read1_3_sub (hf := List.forall_iff_forall_mem.mp read1_3_fresh) (.cons read1_4_sub (hf := List.forall_iff_forall_mem.mp read1_4_fresh) (.cons read1_5_sub (hf := List.forall_iff_forall_mem.mp read1_5_fresh) (.cons core1_sub (hf := List.forall_iff_forall_mem.mp core1_fresh) (.cons write1_sub (hf := List.forall_iff_forall_mem.mp write1_fresh) (.cons tail1_sub (hf := List.forall_iff_forall_mem.mp tail1_fresh) (.nil))))))))))

theorem body1_chain : main_while1_body (F := F) = (Pipeline.chain [StableHlo.seq head1, StableHlo.seq read1_0, StableHlo.seq read1_1, StableHlo.seq read1_2, StableHlo.seq read1_3, StableHlo.seq read1_4, StableHlo.seq read1_5, StableHlo.seq core1, StableHlo.seq write1, StableHlo.seq tail1] : Prog (TpuEff nD τ sig (Elt F) (HostLoop.Sig (Pipeline.Sig Λ₀ (Fin 0) fun p => (pcfgs (F := F) p).Adm) 2) .tc) PUnit) := by
  unfold main_while1_body
  rewrite [StableHlo.chain_seq_cons, Pipeline.chain_cons, Pipeline.chain_cons, Pipeline.chain_cons, Pipeline.chain_cons, Pipeline.chain_cons, Pipeline.chain_cons, StableHlo.chain_seq_cons, Pipeline.chain_cons, StableHlo.chain_seq_cons]
  chain_rfl

theorem pre_plain : Plain ([pre] : List (List (HloOp τ sig (Elt F)))) := .cons pre_sub (hf := List.forall_iff_forall_mem.mp pre_fresh) .nil

theorem mid_plain : Plain ([mid] : List (List (HloOp τ sig (Elt F)))) := .cons mid_sub (hf := List.forall_iff_forall_mem.mp mid_fresh) .nil

theorem post_plain : Plain ([post] : List (List (HloOp τ sig (Elt F)))) := .cons post_sub (hf := List.forall_iff_forall_mem.mp post_fresh) .nil

theorem main_chain (c : Dev nD) : main (F := F) c = (Pipeline.chain [StableHlo.seq pre, HostLoop.enter 0, StableHlo.seq mid, HostLoop.enter 1, StableHlo.seq post]
    : Prog (TpuEff nD τ sig (Elt F) (HostLoop.Sig (Pipeline.Sig Λ₀ (Fin 0) fun p => (pcfgs (F := F) p).Adm) 2) .tc) PUnit) := by
  unfold main
  rewrite [StableHlo.chain_seq_cons, Pipeline.chain_cons, StableHlo.chain_seq_cons, Pipeline.chain_cons, StableHlo.chain_seq_cons]
  chain_rfl

end Cert.Reference3Ideal.Scan

end
-- ==== Proof.RefRun.lean ====
/- The reference recurrence's run: both loops counted, and what the two results hold. -/
module

public import proofs.«01_k».proof.Proof.RefLoops

@[expose] public section

noncomputable section

namespace Cert.Reference3Ideal.Scan

open Cert.Reference3Ideal Cert.Reference3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg Ticket)

variable {F : FTy → Type} [FloatOps F]
variable (m : (ℓ : Loc nD τ sig) → Buf (Elt F) ℓ) (ρ : Dev nD → PrngReg)

/-! ## Both loops from their entries -/

/-- The buffers at the first loop's entry, -/
abbrev entry0 (c : Dev nD) : Valuation τ sig (Elt F) := after pre (launchContents m c)
/-- before the `k`-th test of the first loop, -/
abbrev at0 (k : ℕ) (c : Dev nD) : Valuation τ sig (Elt F) := atTrip cond0 body0 (entry0 m) k c
/-- after the first loop, -/
abbrev done0 (c : Dev nD) : Valuation τ sig (Elt F) := after cond0 (at0 m 4096 c)
/-- at the second loop's entry, -/
abbrev entry1 (c : Dev nD) : Valuation τ sig (Elt F) := after mid (done0 m c)
/-- before the `k`-th test of the second loop, -/
abbrev at1 (k : ℕ) (c : Dev nD) : Valuation τ sig (Elt F) := atTrip cond1 body1 (entry1 m) k c
/-- after the second loop, -/
abbrev done1 (c : Dev nD) : Valuation τ sig (Elt F) := after cond1 (at1 m 4096 c)
/-- and at the end. -/
abbrev final (c : Dev nD) : Valuation τ sig (Elt F) := after post (done1 m c)

theorem count0_entry (c : Dev nD) : entry0 m c (Proc.devRef .tc main_v14_6) = fun _ => (0#32 : BitVec 32) := by
  dsimp only [entry0]
  after_reads_simp
  all_goals rfl

theorem count0 (c : Dev nD) : ∀ k, at0 m k c (Proc.devRef .tc main_v14_6) = fun _ => Scf.iv 0#32 1#32 k
  | 0 => by rw [show at0 m 0 c = entry0 m c from rfl, count0_entry, Scf.iv_zero]
  | k + 1 => by
    rw [show at0 m (k + 1) c = afterL body0 (after cond0 (at0 m k c)) from rfl, trip0_count, count0 c k, Scf.iv_succ]
    rfl

set_option backward.isDefEq.respectTransparency.types false in
/-- The condition holds exactly below the trip count. -/
theorem cond0_spec (R : Dev nD → sProp (MT nD τ sig Unit (Elt F) ℕ (Option PUnit) ℕ)) :
    LoopCond (pcfgs (F := F)) defs₀ Variants.none loops R (main_while0_cond (F := F)) cond0 body0 (entry0 m) 4096 := by
  intro k hk c bd
  have hctr := count0 m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 m k c) main_v14_6 HostLoop.idx0)
        (HloOp.result _ (at0 m k c) main_while0c_c_12 HostLoop.idx0) = 1#1) (k < 4096)
    rw [nullary_result_ne _ _ _ _ (by decide), nullary_result, hctr]
    exact Scf.cmpi_slt_iv_ub_iff (lb := 0#32) (ub := 4096#32) (st := 1#32) (by decide) (show k ≤ Scf.trips 0#32 4096#32 1#32 from hk)
  isplitl [Hb]; · iexact Hb
  isplitl [Hh]
  · rw [after_cons, after_cons, after_nil]; iexact Hh
  iexact HR

theorem count1_entry (c : Dev nD) : entry1 m c (Proc.devRef .tc main_v31_6) = fun _ => (0#32 : BitVec 32) := by
  dsimp only [entry1]
  after_reads_simp
  all_goals rfl

theorem count1 (c : Dev nD) : ∀ k, at1 m k c (Proc.devRef .tc main_v31_6) = fun _ => Scf.iv 0#32 1#32 k
  | 0 => by rw [show at1 m 0 c = entry1 m c from rfl, count1_entry, Scf.iv_zero]
  | k + 1 => by
    rw [show at1 m (k + 1) c = afterL body1 (after cond1 (at1 m k c)) from rfl, trip1_count, count1 c k, Scf.iv_succ]
    rfl

set_option backward.isDefEq.respectTransparency.types false in
/-- The condition holds exactly below the trip count. -/
theorem cond1_spec (R : Dev nD → sProp (MT nD τ sig Unit (Elt F) ℕ (Option PUnit) ℕ)) :
    LoopCond (pcfgs (F := F)) defs₀ Variants.none loops R (main_while1_cond (F := F)) cond1 body1 (entry1 m) 4096 := by
  intro k hk c bd
  have hctr := count1 m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 m k c) main_v31_6 HostLoop.idx0)
        (HloOp.result _ (at1 m k c) main_while1c_c_12 HostLoop.idx0) = 1#1) (k < 4096)
    rw [nullary_result_ne _ _ _ _ (by decide), nullary_result, hctr]
    exact Scf.cmpi_slt_iv_ub_iff (lb := 0#32) (ub := 4096#32) (st := 1#32) (by decide) (show k ≤ Scf.trips 0#32 4096#32 1#32 from hk)
  isplitl [Hb]; · iexact Hb
  isplitl [Hh]
  · rw [after_cons, after_cons, after_nil]; iexact Hh
  iexact HR

/-! ## The run -/

section Run

local notation "𝕄" => MT nD τ sig Unit (Elt F) ℕ (Option PUnit) ℕ

private abbrev noAdm : (p : Fin 0) → (pcfgs (F := F) p).Adm := fun p => p.elim0
private abbrev noTk : Fin 0 → Ticket (Ix := Unit) (Name := ℕ) (U := Option PUnit) (Lvl := ℕ) (nD := nD) (τ := τ) (pcfgs (F := F)) noAdm := fun j => j.elim0
private abbrev noL : GSem nD τ sig → Finset Unit := fun _ => ∅
private abbrev noLv : GSem nD τ sig → Unit → ℕ := fun _ _ => 0

private theorem cells_injective : Function.Injective (Pipeline.cellOf (nD := nD) (τ := τ) (Pipeline.pin (pcfgs (F := F)) noAdm)) :=
  fun k => k.1.elim0

/-- What rides along unchanged. -/
private abbrev rest (c : Dev nD) : sProp 𝕄 := iprop(∃ W, owes (c : Thread nD τ) (0 : CellTallies nD τ sig Unit) W)

/-- The program's five parts. -/
private def parts : List (CSeg (pcfgs (F := F)) noAdm defs₀ Variants.none noL noLv loops noTk) :=
  segsOf _ _ _ _ _ _ _ _ rest [pre] pre_plain (launchContents m)
    ++ (loopSeg _ _ _ _ _ _ _ _ 0 main_while0_cond main_while0_body rfl cond0 body0 body0_plain (by rw [body0_chain]; rfl) 4096 (entry0 m) rest (cond0_spec m rest)
      :: (segsOf _ _ _ _ _ _ _ _ rest [mid] mid_plain (done0 m)
        ++ (loopSeg _ _ _ _ _ _ _ _ 1 main_while1_cond main_while1_body rfl cond1 body1 body1_plain (by rw [body1_chain]; rfl) 4096 (entry1 m) rest (cond1_spec m rest)
          :: segsOf _ _ _ _ _ _ _ _ rest [post] post_plain (done1 m))))

private theorem parts_prog : (parts m).map CSeg.prog
    = [StableHlo.seq pre, HostLoop.enter 0, StableHlo.seq mid, HostLoop.enter 1, StableHlo.seq post] := by
  unfold parts
  rw [List.map_append, List.map_cons, List.map_append, List.map_cons, segsOf_prog, segsOf_prog, segsOf_prog]
  rfl

private theorem parts_T : ∀ s ∈ parts m, s.T = ∅ := by
  intro s hs
  unfold parts at hs
  rcases List.mem_append.mp hs with h | h
  · exact (segsOf_M_T _ _ _ _ _ _ _ _ _ _ _ _ _ h).2
  rcases List.mem_cons.mp h with rfl | h
  · exact loopSeg_T _ _ _ _ _ _ _ _ _
  rcases List.mem_append.mp h with h | h
  · exact (segsOf_M_T _ _ _ _ _ _ _ _ _ _ _ _ _ h).2
  rcases List.mem_cons.mp h with rfl | h
  · exact loopSeg_T _ _ _ _ _ _ _ _ _
  · exact (segsOf_M_T _ _ _ _ _ _ _ _ _ _ _ _ _ h).2

private theorem parts_chain : CSeg.Chains (fun c => iprop(held (c : Thread nD τ) (ucRefs τ sig) (launchContents m c) ∗ rest c)) (parts m)
    (fun c => iprop(iprop(held (c : Thread nD τ) (ucRefs τ sig) (final m c)) ∗ ∃ W, owes (c : Thread nD τ) (0 : CellTallies nD τ sig Unit) W)) := by
  unfold parts
  exact CSeg.Chains.append (segsOf_chains _ _ _ _ _ _ _ _ rest [pre] pre_plain _)
    ⟨fun _ => .rfl, CSeg.Chains.append (segsOf_chains _ _ _ _ _ _ _ _ rest [mid] mid_plain _)
      ⟨fun _ => .rfl, segsOf_chains _ _ _ _ _ _ _ _ rest [post] post_plain _⟩⟩

set_option maxRecDepth 100000 in
/-- Every execution ends with every unscoped buffer at the fold of the five parts. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = final m c (Proc.devRef .tc b)) :=
  Pipeline.θ_run_regions_loop_kit (Ix := Unit) (Name := ℕ) (U := Option PUnit) (Lvl := ℕ) (J := Fin 0) (P := Fin 0) (Val := Elt F)
    (pcfgs (F := F)) noAdm cells_injective defs₀ Variants.none noL noLv loops noTk m ρ main (parts m)
    (fun c Q => by
      rw [main_chain c]
      show wp _ _ _ (Pipeline.chain ((parts m).map CSeg.prog)) Q ⊢ _
      rw [parts_prog])
    (CSeg.pairwise_disjoint_of_T_empty _ (parts_T m))
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ rest c))
    (Tₙ := fun c => iprop(held (c : Thread nD τ) (ucRefs τ sig) (final m c)))
    (hch := parts_chain m)
    (hinit := by
      refine Pipeline.initEach noL noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final m c b)
    (hfin := fun c s' => by
      unfold held
      iintro ⟨Hh, HSI⟩
      ihave Hr := (pointsTo_read_all (ucRefs τ sig) (fun b => ((c : Dev nD), b)) (fun b => final m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Run

/-! ## What the results hold -/

/-- The six sequences a scan reads. -/
structure Seqs (F : FTy → Type) where
  r : Vec F S4096x4x20x64 .f32
  w : Vec F S4096x4x20x64 .f32
  k : Vec F S4096x4x20x64 .f32
  v : Vec F S4096x4x20x64 .f32
  a : Vec F S4096x4x20x64 .f32
  b : Vec F S4096x4x20x64 .f32

/-- The state after `n` steps, the `n`-th reading the sequences at `ix n`. -/
def states (X : Seqs F) (ix : ℕ → Vec F S_ .i32) : ℕ → Vec F S4x20x64x64 .f32
  | 0 => broadcastInDim S4x20x64x64 ![] bcast_S_S4x20x64x64 (constant S_ .f32 0x00000000#32)
  | n + 1 => step (states X ix n) (pick X.w (ix n)) (pick X.k (ix n)) (pick X.v (ix n)) (pick X.a (ix n)) (pick X.b (ix n))

/-- The results collected after `n` steps. -/
def outs (X : Seqs F) (ix : ℕ → Vec F S_ .i32) : ℕ → Vec F S4096x4x20x64 .f32
  | 0 => broadcastInDim S4096x4x20x64 ![] bcast_S_S4096x4x20x64 (constant S_ .f32 0x00000000#32)
  | n + 1 => put (outs X ix n) (along (states X ix (n + 1)) (pick X.r (ix n))) (ix n)

/-- A sequence argument with its time axis first. -/
def seqOf (A : Vec F S4x81920x64 .f32) : Vec F S4096x4x20x64 .f32 :=
  transpose S4096x4x20x64 [2, 0, 1, 3] (shapeCast S4x20x4096x64 A shapeCasts_S4x81920x64_S4x20x4096x64) transposes_S4x20x4096x64_S4096x4x20x64_2_0_1_3

/-- Collected results in the kernel's layout. -/
def laid (Y : Vec F S4096x4x20x64 .f32) : Vec F S4096x64x80 .f32 :=
  shapeCast S4096x64x80 (transpose S4096x64x4x20 [0, 3, 1, 2] Y transposes_S4096x4x20x64_S4096x64x4x20_0_3_1_2) shapeCasts_S4096x64x4x20_S4096x64x80

/-- The forward scan's time index at a step, -/
def up (n : ℕ) : Vec F S_ .i32 := fun _ => Scf.iv 0#32 1#32 n
/-- and the backward scan's. -/
def down (n : ℕ) : Vec F S_ .i32 := subi (subi (constantI S_ 32 4096#32) (fun _ => Scf.iv 0#32 1#32 n)) (constantI S_ 32 1#32)

/-- The first scan's sequences. -/
def seqs0 (c : Dev nD) : Seqs F := ⟨seqOf (m ((c.tc : Thread nD τ).loc main_arg1)), seqOf (m ((c.tc : Thread nD τ).loc main_arg3)), seqOf (m ((c.tc : Thread nD τ).loc main_arg5)), seqOf (m ((c.tc : Thread nD τ).loc main_arg2)), seqOf (m ((c.tc : Thread nD τ).loc main_arg0)), seqOf (m ((c.tc : Thread nD τ).loc main_arg7))⟩
/-- The second scan's sequences. -/
def seqs1 (c : Dev nD) : Seqs F := ⟨seqOf (m ((c.tc : Thread nD τ).loc main_arg1)), seqOf (m ((c.tc : Thread nD τ).loc main_arg4)), seqOf (m ((c.tc : Thread nD τ).loc main_arg6)), seqOf (m ((c.tc : Thread nD τ).loc main_arg2)), seqOf (m ((c.tc : Thread nD τ).loc main_arg0)), seqOf (m ((c.tc : Thread nD τ).loc main_arg8))⟩

theorem arg0_0 (c : Dev nD) : ∀ k, at0 m k c (Proc.devRef .tc main_arg0) = m ((c.tc : Thread nD τ).loc main_arg0)
  | 0 => by rw [show at0 m 0 c = after pre (launchContents m c) from rfl, pre_keep _ main_arg0 (by decide +kernel)]
  | k + 1 => by rw [show at0 m (k + 1) c = afterL body0 (after cond0 (at0 m k c)) from rfl, body0_keep _ main_arg0 (by decide +kernel), arg0_0 c k]
theorem arg0_mid (c : Dev nD) : done0 m c (Proc.devRef .tc main_arg0) = m ((c.tc : Thread nD τ).loc main_arg0) := by
  dsimp only [done0]
  rw [cond0_keep _ main_arg0 (by decide +kernel), arg0_0]
theorem arg0_1 (c : Dev nD) : ∀ k, at1 m k c (Proc.devRef .tc main_arg0) = m ((c.tc : Thread nD τ).loc main_arg0)
  | 0 => by rw [show at1 m 0 c = after mid (done0 m c) from rfl, mid_keep _ main_arg0 (by decide +kernel), arg0_mid]
  | k + 1 => by rw [show at1 m (k + 1) c = afterL body1 (after cond1 (at1 m k c)) from rfl, body1_keep _ main_arg0 (by decide +kernel), arg0_1 c k]
theorem arg0_final (c : Dev nD) : final m c (Proc.devRef .tc main_arg0) = m ((c.tc : Thread nD τ).loc main_arg0) := by
  dsimp only [final, done1]
  rw [post_keep _ main_arg0 (by decide +kernel), cond1_keep _ main_arg0 (by decide +kernel), arg0_1]
theorem arg1_0 (c : Dev nD) : ∀ k, at0 m k c (Proc.devRef .tc main_arg1) = m ((c.tc : Thread nD τ).loc main_arg1)
  | 0 => by rw [show at0 m 0 c = after pre (launchContents m c) from rfl, pre_keep _ main_arg1 (by decide +kernel)]
  | k + 1 => by rw [show at0 m (k + 1) c = afterL body0 (after cond0 (at0 m k c)) from rfl, body0_keep _ main_arg1 (by decide +kernel), arg1_0 c k]
theorem arg1_mid (c : Dev nD) : done0 m c (Proc.devRef .tc main_arg1) = m ((c.tc : Thread nD τ).loc main_arg1) := by
  dsimp only [done0]
  rw [cond0_keep _ main_arg1 (by decide +kernel), arg1_0]
theorem arg1_1 (c : Dev nD) : ∀ k, at1 m k c (Proc.devRef .tc main_arg1) = m ((c.tc : Thread nD τ).loc main_arg1)
  | 0 => by rw [show at1 m 0 c = after mid (done0 m c) from rfl, mid_keep _ main_arg1 (by decide +kernel), arg1_mid]
  | k + 1 => by rw [show at1 m (k + 1) c = afterL body1 (after cond1 (at1 m k c)) from rfl, body1_keep _ main_arg1 (by decide +kernel), arg1_1 c k]
theorem arg1_final (c : Dev nD) : final m c (Proc.devRef .tc main_arg1) = m ((c.tc : Thread nD τ).loc main_arg1) := by
  dsimp only [final, done1]
  rw [post_keep _ main_arg1 (by decide +kernel), cond1_keep _ main_arg1 (by decide +kernel), arg1_1]
theorem arg2_0 (c : Dev nD) : ∀ k, at0 m k c (Proc.devRef .tc main_arg2) = m ((c.tc : Thread nD τ).loc main_arg2)
  | 0 => by rw [show at0 m 0 c = after pre (launchContents m c) from rfl, pre_keep _ main_arg2 (by decide +kernel)]
  | k + 1 => by rw [show at0 m (k + 1) c = afterL body0 (after cond0 (at0 m k c)) from rfl, body0_keep _ main_arg2 (by decide +kernel), arg2_0 c k]
theorem arg2_mid (c : Dev nD) : done0 m c (Proc.devRef .tc main_arg2) = m ((c.tc : Thread nD τ).loc main_arg2) := by
  dsimp only [done0]
  rw [cond0_keep _ main_arg2 (by decide +kernel), arg2_0]
theorem arg2_1 (c : Dev nD) : ∀ k, at1 m k c (Proc.devRef .tc main_arg2) = m ((c.tc : Thread nD τ).loc main_arg2)
  | 0 => by rw [show at1 m 0 c = after mid (done0 m c) from rfl, mid_keep _ main_arg2 (by decide +kernel), arg2_mid]
  | k + 1 => by rw [show at1 m (k + 1) c = afterL body1 (after cond1 (at1 m k c)) from rfl, body1_keep _ main_arg2 (by decide +kernel), arg2_1 c k]
theorem arg2_final (c : Dev nD) : final m c (Proc.devRef .tc main_arg2) = m ((c.tc : Thread nD τ).loc main_arg2) := by
  dsimp only [final, done1]
  rw [post_keep _ main_arg2 (by decide +kernel), cond1_keep _ main_arg2 (by decide +kernel), arg2_1]
theorem arg3_0 (c : Dev nD) : ∀ k, at0 m k c (Proc.devRef .tc main_arg3) = m ((c.tc : Thread nD τ).loc main_arg3)
  | 0 => by rw [show at0 m 0 c = after pre (launchContents m c) from rfl, pre_keep _ main_arg3 (by decide +kernel)]
  | k + 1 => by rw [show at0 m (k + 1) c = afterL body0 (after cond0 (at0 m k c)) from rfl, body0_keep _ main_arg3 (by decide +kernel), arg3_0 c k]
theorem arg3_mid (c : Dev nD) : done0 m c (Proc.devRef .tc main_arg3) = m ((c.tc : Thread nD τ).loc main_arg3) := by
  dsimp only [done0]
  rw [cond0_keep _ main_arg3 (by decide +kernel), arg3_0]
theorem arg3_1 (c : Dev nD) : ∀ k, at1 m k c (Proc.devRef .tc main_arg3) = m ((c.tc : Thread nD τ).loc main_arg3)
  | 0 => by rw [show at1 m 0 c = after mid (done0 m c) from rfl, mid_keep _ main_arg3 (by decide +kernel), arg3_mid]
  | k + 1 => by rw [show at1 m (k + 1) c = afterL body1 (after cond1 (at1 m k c)) from rfl, body1_keep _ main_arg3 (by decide +kernel), arg3_1 c k]
theorem arg3_final (c : Dev nD) : final m c (Proc.devRef .tc main_arg3) = m ((c.tc : Thread nD τ).loc main_arg3) := by
  dsimp only [final, done1]
  rw [post_keep _ main_arg3 (by decide +kernel), cond1_keep _ main_arg3 (by decide +kernel), arg3_1]
theorem arg4_0 (c : Dev nD) : ∀ k, at0 m k c (Proc.devRef .tc main_arg4) = m ((c.tc : Thread nD τ).loc main_arg4)
  | 0 => by rw [show at0 m 0 c = after pre (launchContents m c) from rfl, pre_keep _ main_arg4 (by decide +kernel)]
  | k + 1 => by rw [show at0 m (k + 1) c = afterL body0 (after cond0 (at0 m k c)) from rfl, body0_keep _ main_arg4 (by decide +kernel), arg4_0 c k]
theorem arg4_mid (c : Dev nD) : done0 m c (Proc.devRef .tc main_arg4) = m ((c.tc : Thread nD τ).loc main_arg4) := by
  dsimp only [done0]
  rw [cond0_keep _ main_arg4 (by decide +kernel), arg4_0]
theorem arg4_1 (c : Dev nD) : ∀ k, at1 m k c (Proc.devRef .tc main_arg4) = m ((c.tc : Thread nD τ).loc main_arg4)
  | 0 => by rw [show at1 m 0 c = after mid (done0 m c) from rfl, mid_keep _ main_arg4 (by decide +kernel), arg4_mid]
  | k + 1 => by rw [show at1 m (k + 1) c = afterL body1 (after cond1 (at1 m k c)) from rfl, body1_keep _ main_arg4 (by decide +kernel), arg4_1 c k]
theorem arg4_final (c : Dev nD) : final m c (Proc.devRef .tc main_arg4) = m ((c.tc : Thread nD τ).loc main_arg4) := by
  dsimp only [final, done1]
  rw [post_keep _ main_arg4 (by decide +kernel), cond1_keep _ main_arg4 (by decide +kernel), arg4_1]
theorem arg5_0 (c : Dev nD) : ∀ k, at0 m k c (Proc.devRef .tc main_arg5) = m ((c.tc : Thread nD τ).loc main_arg5)
  | 0 => by rw [show at0 m 0 c = after pre (launchContents m c) from rfl, pre_keep _ main_arg5 (by decide +kernel)]
  | k + 1 => by rw [show at0 m (k + 1) c = afterL body0 (after cond0 (at0 m k c)) from rfl, body0_keep _ main_arg5 (by decide +kernel), arg5_0 c k]
theorem arg5_mid (c : Dev nD) : done0 m c (Proc.devRef .tc main_arg5) = m ((c.tc : Thread nD τ).loc main_arg5) := by
  dsimp only [done0]
  rw [cond0_keep _ main_arg5 (by decide +kernel), arg5_0]
theorem arg5_1 (c : Dev nD) : ∀ k, at1 m k c (Proc.devRef .tc main_arg5) = m ((c.tc : Thread nD τ).loc main_arg5)
  | 0 => by rw [show at1 m 0 c = after mid (done0 m c) from rfl, mid_keep _ main_arg5 (by decide +kernel), arg5_mid]
  | k + 1 => by rw [show at1 m (k + 1) c = afterL body1 (after cond1 (at1 m k c)) from rfl, body1_keep _ main_arg5 (by decide +kernel), arg5_1 c k]
theorem arg5_final (c : Dev nD) : final m c (Proc.devRef .tc main_arg5) = m ((c.tc : Thread nD τ).loc main_arg5) := by
  dsimp only [final, done1]
  rw [post_keep _ main_arg5 (by decide +kernel), cond1_keep _ main_arg5 (by decide +kernel), arg5_1]
theorem arg6_0 (c : Dev nD) : ∀ k, at0 m k c (Proc.devRef .tc main_arg6) = m ((c.tc : Thread nD τ).loc main_arg6)
  | 0 => by rw [show at0 m 0 c = after pre (launchContents m c) from rfl, pre_keep _ main_arg6 (by decide +kernel)]
  | k + 1 => by rw [show at0 m (k + 1) c = afterL body0 (after cond0 (at0 m k c)) from rfl, body0_keep _ main_arg6 (by decide +kernel), arg6_0 c k]
theorem arg6_mid (c : Dev nD) : done0 m c (Proc.devRef .tc main_arg6) = m ((c.tc : Thread nD τ).loc main_arg6) := by
  dsimp only [done0]
  rw [cond0_keep _ main_arg6 (by decide +kernel), arg6_0]
theorem arg6_1 (c : Dev nD) : ∀ k, at1 m k c (Proc.devRef .tc main_arg6) = m ((c.tc : Thread nD τ).loc main_arg6)
  | 0 => by rw [show at1 m 0 c = after mid (done0 m c) from rfl, mid_keep _ main_arg6 (by decide +kernel), arg6_mid]
  | k + 1 => by rw [show at1 m (k + 1) c = afterL body1 (after cond1 (at1 m k c)) from rfl, body1_keep _ main_arg6 (by decide +kernel), arg6_1 c k]
theorem arg6_final (c : Dev nD) : final m c (Proc.devRef .tc main_arg6) = m ((c.tc : Thread nD τ).loc main_arg6) := by
  dsimp only [final, done1]
  rw [post_keep _ main_arg6 (by decide +kernel), cond1_keep _ main_arg6 (by decide +kernel), arg6_1]
theorem arg7_0 (c : Dev nD) : ∀ k, at0 m k c (Proc.devRef .tc main_arg7) = m ((c.tc : Thread nD τ).loc main_arg7)
  | 0 => by rw [show at0 m 0 c = after pre (launchContents m c) from rfl, pre_keep _ main_arg7 (by decide +kernel)]
  | k + 1 => by rw [show at0 m (k + 1) c = afterL body0 (after cond0 (at0 m k c)) from rfl, body0_keep _ main_arg7 (by decide +kernel), arg7_0 c k]
theorem arg7_mid (c : Dev nD) : done0 m c (Proc.devRef .tc main_arg7) = m ((c.tc : Thread nD τ).loc main_arg7) := by
  dsimp only [done0]
  rw [cond0_keep _ main_arg7 (by decide +kernel), arg7_0]
theorem arg7_1 (c : Dev nD) : ∀ k, at1 m k c (Proc.devRef .tc main_arg7) = m ((c.tc : Thread nD τ).loc main_arg7)
  | 0 => by rw [show at1 m 0 c = after mid (done0 m c) from rfl, mid_keep _ main_arg7 (by decide +kernel), arg7_mid]
  | k + 1 => by rw [show at1 m (k + 1) c = afterL body1 (after cond1 (at1 m k c)) from rfl, body1_keep _ main_arg7 (by decide +kernel), arg7_1 c k]
theorem arg7_final (c : Dev nD) : final m c (Proc.devRef .tc main_arg7) = m ((c.tc : Thread nD τ).loc main_arg7) := by
  dsimp only [final, done1]
  rw [post_keep _ main_arg7 (by decide +kernel), cond1_keep _ main_arg7 (by decide +kernel), arg7_1]
theorem arg8_0 (c : Dev nD) : ∀ k, at0 m k c (Proc.devRef .tc main_arg8) = m ((c.tc : Thread nD τ).loc main_arg8)
  | 0 => by rw [show at0 m 0 c = after pre (launchContents m c) from rfl, pre_keep _ main_arg8 (by decide +kernel)]
  | k + 1 => by rw [show at0 m (k + 1) c = afterL body0 (after cond0 (at0 m k c)) from rfl, body0_keep _ main_arg8 (by decide +kernel), arg8_0 c k]
theorem arg8_mid (c : Dev nD) : done0 m c (Proc.devRef .tc main_arg8) = m ((c.tc : Thread nD τ).loc main_arg8) := by
  dsimp only [done0]
  rw [cond0_keep _ main_arg8 (by decide +kernel), arg8_0]
theorem arg8_1 (c : Dev nD) : ∀ k, at1 m k c (Proc.devRef .tc main_arg8) = m ((c.tc : Thread nD τ).loc main_arg8)
  | 0 => by rw [show at1 m 0 c = after mid (done0 m c) from rfl, mid_keep _ main_arg8 (by decide +kernel), arg8_mid]
  | k + 1 => by rw [show at1 m (k + 1) c = afterL body1 (after cond1 (at1 m k c)) from rfl, body1_keep _ main_arg8 (by decide +kernel), arg8_1 c k]
theorem arg8_final (c : Dev nD) : final m c (Proc.devRef .tc main_arg8) = m ((c.tc : Thread nD τ).loc main_arg8) := by
  dsimp only [final, done1]
  rw [post_keep _ main_arg8 (by decide +kernel), cond1_keep _ main_arg8 (by decide +kernel), arg8_1]
theorem seq0_0 (c : Dev nD) : ∀ k, at0 m k c (Proc.devRef .tc main_v14_0) = (seqs0 m c).r
  | 0 => by
    rw [show at0 m 0 c = after pre (launchContents m c) from rfl]
    have h : (launchContents m c) (Proc.devRef .tc main_arg1) = m ((c.tc : Thread nD τ).loc main_arg1) := rfl
    dsimp only [seqs0]
    unfold seqOf
    rw [← h]
    generalize launchContents m c = X
    after_reads_simp
    all_goals rfl
  | k + 1 => by rw [show at0 m (k + 1) c = afterL body0 (after cond0 (at0 m k c)) from rfl, body0_keep _ main_v14_0 (by decide +kernel), seq0_0 c k]
theorem seq0_1 (c : Dev nD) : ∀ k, at0 m k c (Proc.devRef .tc main_v14_1) = (seqs0 m c).w
  | 0 => by
    rw [show at0 m 0 c = after pre (launchContents m c) from rfl]
    have h : (launchContents m c) (Proc.devRef .tc main_arg3) = m ((c.tc : Thread nD τ).loc main_arg3) := rfl
    dsimp only [seqs0]
    unfold seqOf
    rw [← h]
    generalize launchContents m c = X
    after_reads_simp
    all_goals rfl
  | k + 1 => by rw [show at0 m (k + 1) c = afterL body0 (after cond0 (at0 m k c)) from rfl, body0_keep _ main_v14_1 (by decide +kernel), seq0_1 c k]
theorem seq0_2 (c : Dev nD) : ∀ k, at0 m k c (Proc.devRef .tc main_v14_2) = (seqs0 m c).k
  | 0 => by
    rw [show at0 m 0 c = after pre (launchContents m c) from rfl]
    have h : (launchContents m c) (Proc.devRef .tc main_arg5) = m ((c.tc : Thread nD τ).loc main_arg5) := rfl
    dsimp only [seqs0]
    unfold seqOf
    rw [← h]
    generalize launchContents m c = X
    after_reads_simp
    all_goals rfl
  | k + 1 => by rw [show at0 m (k + 1) c = afterL body0 (after cond0 (at0 m k c)) from rfl, body0_keep _ main_v14_2 (by decide +kernel), seq0_2 c k]
theorem seq0_3 (c : Dev nD) : ∀ k, at0 m k c (Proc.devRef .tc main_v14_3) = (seqs0 m c).v
  | 0 => by
    rw [show at0 m 0 c = after pre (launchContents m c) from rfl]
    have h : (launchContents m c) (Proc.devRef .tc main_arg2) = m ((c.tc : Thread nD τ).loc main_arg2) := rfl
    dsimp only [seqs0]
    unfold seqOf
    rw [← h]
    generalize launchContents m c = X
    after_reads_simp
    all_goals rfl
  | k + 1 => by rw [show at0 m (k + 1) c = afterL body0 (after cond0 (at0 m k c)) from rfl, body0_keep _ main_v14_3 (by decide +kernel), seq0_3 c k]
theorem seq0_4 (c : Dev nD) : ∀ k, at0 m k c (Proc.devRef .tc main_v14_4) = (seqs0 m c).a
  | 0 => by
    rw [show at0 m 0 c = after pre (launchContents m c) from rfl]
    have h : (launchContents m c) (Proc.devRef .tc main_arg0) = m ((c.tc : Thread nD τ).loc main_arg0) := rfl
    dsimp only [seqs0]
    unfold seqOf
    rw [← h]
    generalize launchContents m c = X
    after_reads_simp
    all_goals rfl
  | k + 1 => by rw [show at0 m (k + 1) c = afterL body0 (after cond0 (at0 m k c)) from rfl, body0_keep _ main_v14_4 (by decide +kernel), seq0_4 c k]
theorem seq0_5 (c : Dev nD) : ∀ k, at0 m k c (Proc.devRef .tc main_v14_5) = (seqs0 m c).b
  | 0 => by
    rw [show at0 m 0 c = after pre (launchContents m c) from rfl]
    have h : (launchContents m c) (Proc.devRef .tc main_arg7) = m ((c.tc : Thread nD τ).loc main_arg7) := rfl
    dsimp only [seqs0]
    unfold seqOf
    rw [← h]
    generalize launchContents m c = X
    after_reads_simp
    all_goals rfl
  | k + 1 => by rw [show at0 m (k + 1) c = afterL body0 (after cond0 (at0 m k c)) from rfl, body0_keep _ main_v14_5 (by decide +kernel), seq0_5 c k]
theorem state0_at (c : Dev nD) : ∀ k, at0 m k c (Proc.devRef .tc main_v14_7) = states (seqs0 m c) up k
  | 0 => by
    rw [show at0 m 0 c = after pre (launchContents m c) from rfl]
    generalize launchContents m c = X
    unfold states
    after_reads_simp
    all_goals rfl
  | k + 1 => by
    rw [show at0 m (k + 1) c = afterL body0 (after cond0 (at0 m k c)) from rfl, trip0_state, count0, state0_at c k, seq0_1, seq0_2, seq0_3, seq0_4, seq0_5]
    rfl
theorem out0_at (c : Dev nD) : ∀ k, at0 m k c (Proc.devRef .tc main_v14_8) = outs (seqs0 m c) up k
  | 0 => by
    rw [show at0 m 0 c = after pre (launchContents m c) from rfl]
    generalize launchContents m c = X
    unfold outs
    after_reads_simp
    all_goals rfl
  | k + 1 => by
    rw [show at0 m (k + 1) c = afterL body0 (after cond0 (at0 m k c)) from rfl, trip0_out, count0, state0_at, out0_at c k, seq0_0, seq0_1, seq0_2, seq0_3, seq0_4, seq0_5]
    rfl
theorem seq1_0 (c : Dev nD) : ∀ k, at1 m k c (Proc.devRef .tc main_v31_0) = (seqs1 m c).r
  | 0 => by
    rw [show at1 m 0 c = after mid (done0 m c) from rfl]
    have h : (done0 m c) (Proc.devRef .tc main_arg1) = m ((c.tc : Thread nD τ).loc main_arg1) := arg1_mid m c
    dsimp only [seqs1]
    unfold seqOf
    rw [← h]
    generalize done0 m c = X
    after_reads_simp
    all_goals rfl
  | k + 1 => by rw [show at1 m (k + 1) c = afterL body1 (after cond1 (at1 m k c)) from rfl, body1_keep _ main_v31_0 (by decide +kernel), seq1_0 c k]
theorem seq1_1 (c : Dev nD) : ∀ k, at1 m k c (Proc.devRef .tc main_v31_1) = (seqs1 m c).w
  | 0 => by
    rw [show at1 m 0 c = after mid (done0 m c) from rfl]
    have h : (done0 m c) (Proc.devRef .tc main_arg4) = m ((c.tc : Thread nD τ).loc main_arg4) := arg4_mid m c
    dsimp only [seqs1]
    unfold seqOf
    rw [← h]
    generalize done0 m c = X
    after_reads_simp
    all_goals rfl
  | k + 1 => by rw [show at1 m (k + 1) c = afterL body1 (after cond1 (at1 m k c)) from rfl, body1_keep _ main_v31_1 (by decide +kernel), seq1_1 c k]
theorem seq1_2 (c : Dev nD) : ∀ k, at1 m k c (Proc.devRef .tc main_v31_2) = (seqs1 m c).k
  | 0 => by
    rw [show at1 m 0 c = after mid (done0 m c) from rfl]
    have h : (done0 m c) (Proc.devRef .tc main_arg6) = m ((c.tc : Thread nD τ).loc main_arg6) := arg6_mid m c
    dsimp only [seqs1]
    unfold seqOf
    rw [← h]
    generalize done0 m c = X
    after_reads_simp
    all_goals rfl
  | k + 1 => by rw [show at1 m (k + 1) c = afterL body1 (after cond1 (at1 m k c)) from rfl, body1_keep _ main_v31_2 (by decide +kernel), seq1_2 c k]
theorem seq1_3 (c : Dev nD) : ∀ k, at1 m k c (Proc.devRef .tc main_v31_3) = (seqs1 m c).v
  | 0 => by
    rw [show at1 m 0 c = after mid (done0 m c) from rfl]
    have h : (done0 m c) (Proc.devRef .tc main_arg2) = m ((c.tc : Thread nD τ).loc main_arg2) := arg2_mid m c
    dsimp only [seqs1]
    unfold seqOf
    rw [← h]
    generalize done0 m c = X
    after_reads_simp
    all_goals rfl
  | k + 1 => by rw [show at1 m (k + 1) c = afterL body1 (after cond1 (at1 m k c)) from rfl, body1_keep _ main_v31_3 (by decide +kernel), seq1_3 c k]
theorem seq1_4 (c : Dev nD) : ∀ k, at1 m k c (Proc.devRef .tc main_v31_4) = (seqs1 m c).a
  | 0 => by
    rw [show at1 m 0 c = after mid (done0 m c) from rfl]
    have h : (done0 m c) (Proc.devRef .tc main_arg0) = m ((c.tc : Thread nD τ).loc main_arg0) := arg0_mid m c
    dsimp only [seqs1]
    unfold seqOf
    rw [← h]
    generalize done0 m c = X
    after_reads_simp
    all_goals rfl
  | k + 1 => by rw [show at1 m (k + 1) c = afterL body1 (after cond1 (at1 m k c)) from rfl, body1_keep _ main_v31_4 (by decide +kernel), seq1_4 c k]
theorem seq1_5 (c : Dev nD) : ∀ k, at1 m k c (Proc.devRef .tc main_v31_5) = (seqs1 m c).b
  | 0 => by
    rw [show at1 m 0 c = after mid (done0 m c) from rfl]
    have h : (done0 m c) (Proc.devRef .tc main_arg8) = m ((c.tc : Thread nD τ).loc main_arg8) := arg8_mid m c
    dsimp only [seqs1]
    unfold seqOf
    rw [← h]
    generalize done0 m c = X
    after_reads_simp
    all_goals rfl
  | k + 1 => by rw [show at1 m (k + 1) c = afterL body1 (after cond1 (at1 m k c)) from rfl, body1_keep _ main_v31_5 (by decide +kernel), seq1_5 c k]
theorem state1_at (c : Dev nD) : ∀ k, at1 m k c (Proc.devRef .tc main_v31_7) = states (seqs1 m c) down k
  | 0 => by
    rw [show at1 m 0 c = after mid (done0 m c) from rfl]
    generalize done0 m c = X
    unfold states
    after_reads_simp
    all_goals rfl
  | k + 1 => by
    rw [show at1 m (k + 1) c = afterL body1 (after cond1 (at1 m k c)) from rfl, trip1_state, count1, state1_at c k, seq1_1, seq1_2, seq1_3, seq1_4, seq1_5]
    rfl
theorem out1_at (c : Dev nD) : ∀ k, at1 m k c (Proc.devRef .tc main_v31_8) = outs (seqs1 m c) down k
  | 0 => by
    rw [show at1 m 0 c = after mid (done0 m c) from rfl]
    generalize done0 m c = X
    unfold outs
    after_reads_simp
    all_goals rfl
  | k + 1 => by
    rw [show at1 m (k + 1) c = afterL body1 (after cond1 (at1 m k c)) from rfl, trip1_out, count1, state1_at, out1_at c k, seq1_0, seq1_1, seq1_2, seq1_3, seq1_4, seq1_5]
    rfl
theorem forward_1 (c : Dev nD) : ∀ k, at1 m k c (Proc.devRef .tc main_v16) = laid (outs (seqs0 m c) up 4096)
  | 0 => by
    have h : done0 m c (Proc.devRef .tc main_v14_8) = outs (seqs0 m c) up 4096 := by
      dsimp only [done0]
      rw [cond0_keep _ main_v14_8 (by decide +kernel), out0_at]
    rw [show at1 m 0 c = after mid (done0 m c) from rfl, ← h]
    generalize done0 m c = X
    unfold laid
    after_reads_simp
    all_goals rfl
  | k + 1 => by rw [show at1 m (k + 1) c = afterL body1 (after cond1 (at1 m k c)) from rfl, body1_keep _ main_v16 (by decide +kernel), forward_1 c k]

theorem forward_final (c : Dev nD) : final m c (Proc.devRef .tc main_v16) = laid (outs (seqs0 m c) up 4096) := by
  dsimp only [final, done1]
  rw [post_keep _ main_v16 (by decide +kernel), cond1_keep _ main_v16 (by decide +kernel), forward_1]

theorem backward_final (c : Dev nD) : final m c (Proc.devRef .tc main_v33) = laid (outs (seqs1 m c) down 4096) := by
  have h : done1 m c (Proc.devRef .tc main_v31_8) = outs (seqs1 m c) down 4096 := by
    dsimp only [done1]
    rw [cond1_keep _ main_v31_8 (by decide +kernel), out1_at]
  dsimp only [final]
  rw [← h]
  generalize done1 m c = X
  unfold laid
  after_reads_simp
  all_goals rfl

/-- The run: the two results, and the arguments unchanged. -/
theorem run : θ_run (defs (F := F)) (onTc (τ := τ) (main (F := F))) ⟨m, fun _ => 0, ρ⟩ fun r => ∀ c : Dev nD,
    r.2.mem ((c.tc : Thread nD τ).loc main_v16) = laid (outs (seqs0 m c) up 4096)
    ∧ r.2.mem ((c.tc : Thread nD τ).loc main_v33) = laid (outs (seqs1 m c) down 4096)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  (θ_run defs _ _).mono (fun r h c =>
    ⟨(h c main_v16 rfl).trans (forward_final m c), (h c main_v33 rfl).trans (backward_final m c),
      (h c main_arg0 rfl).trans (arg0_final m c), (h c main_arg1 rfl).trans (arg1_final m c), (h c main_arg2 rfl).trans (arg2_final m c), (h c main_arg3 rfl).trans (arg3_final m c), (h c main_arg4 rfl).trans (arg4_final m c), (h c main_arg5 rfl).trans (arg5_final m c), (h c main_arg6 rfl).trans (arg6_final m c), (h c main_arg7 rfl).trans (arg7_final m c), (h c main_arg8 rfl).trans (arg8_final m c)⟩) (run_fold m ρ)

/-- The arguments end unchanged and no counter is left raised. -/
theorem frame : Cert.quiescent_Reference3Ideal := fun m ρ _ =>
  (θ_run defs _ _).mono (fun r h => ⟨fun c => (h c).2.2, Idealize.ShloMosaic.sem_eq_zero_of_no_sems (by decide) r.2⟩) (run (F := Ideal) m ρ)

end Cert.Reference3Ideal.Scan

end
-- ==== Proof.ScanSpec.lean ====
/- The reference recurrence read index by index: what its rows, its step and its results hold. -/
module

public import proofs.«01_k».proof.Defs
public import proofs.«01_k».proof.Proof.RefRun
public import Idealize.ShloMosaic.Lib.Pipeline.ValueKit
public import Idealize.ShloMosaic.Lib.Pointwise
public import Idealize.ShloMosaic.Lib.DynamicIndex

@[expose] public section

noncomputable section

namespace Cert.Reference3Ideal.Scan

open Cert.Reference3Ideal Cert.Reference3Ideal.Gen
open Idealize.ShloMosaic Idealize.ShloMosaic.TcCoe Idealize.ShloMosaic.Pipeline

/-! ## Rows of a sequence -/

theorem seqOf_at (A : FVec Ideal S4x81920x64 .f32) (t : Fin 4096) (h : Fin 4) (b : Fin 20) (j : Fin 64) :
    seqOf (F := Ideal) A (ix4 t h b j) = A (ix3 h ⟨b.val * 4096 + t.val, by omega⟩ j) := by
  pointwise [seqOf]

theorem laid_at (Y : FVec Ideal S4096x4x20x64 .f32) (t : Fin 4096) (i : Fin 64) (l : Fin 80) :
    laid (F := Ideal) Y (ix3 t i l) = Y (ix4 t ⟨l.val / 20, by omega⟩ ⟨l.val % 20, by omega⟩ i) := by
  pointwise [laid]

theorem pick_at (A : FVec Ideal S4096x4x20x64 .f32) (i : IVec S_ 32) (k : Fin 4096) (hi : (i (Shape.Idx.first h_S_)).toInt = k.val)
    (h : Fin 4) (b : Fin 20) (j : Fin 64) : pick (F := Ideal) A i (ix3 h b j) = A (ix4 k h b j) := by
  have hs : S4096x4x20x64.Slices ![k.val, 0, 0, 0] S1x4x20x64 := ⟨rfl, fun a => by
    fin_cases a
    · show k.val + 1 ≤ 4096
      omega
    · exact Nat.le_refl 4
    · exact Nat.le_refl 20
    · exact Nat.le_refl 64⟩
  unfold pick
  rw [Host.dynamicSlice_eq_extractStridedSlice S1x4x20x64 A _ ![k.val, 0, 0, 0] _ hs (fun a => by
    fin_cases a
    · exact hi
    all_goals rfl)]
  pointwise

/-- Where a row's update starts. -/
theorem start_at (i : IVec S_ 32) (k : Fin 4096) (hi : (i (Shape.Idx.first h_S_)).toInt = k.val) (hr : S1x4x20x64.rank = S4096x4x20x64.rank) (a : Fin 4) :
    Host.clampedStart S4096x4x20x64 S1x4x20x64 hr
      (fun k => ((![i, constantI S_ 32 0#32, constantI S_ 32 0#32, constantI S_ 32 0#32] : Fin 4 → IVec S_ 32) k (Shape.Idx.first h_S_)).toInt) a
      = (![k.val, 0, 0, 0] : Fin 4 → ℕ) a := by
  refine Host.clampedStart_of_le hr _ a _ ?_ ?_
  · fin_cases a
    · exact hi
    all_goals rfl
  · fin_cases a
    · show k.val + 1 ≤ 4096
      omega
    · exact Nat.le_refl 4
    · exact Nat.le_refl 20
    · exact Nat.le_refl 64

theorem put_same (A : FVec Ideal S4096x4x20x64 .f32) (u : FVec Ideal S4x20x64 .f32) (i : IVec S_ 32) (k : Fin 4096)
    (hi : (i (Shape.Idx.first h_S_)).toInt = k.val) (h : Fin 4) (b : Fin 20) (j : Fin 64) :
    put (F := Ideal) A u i (ix4 k h b j) = u (ix3 h b j) := by
  have e : (broadcastInDim S1x4x20x64 ![1, 2, 3] bcast_S4x20x64_S1x4x20x64_1_2_3 u) (ix4 0 h b j) = u (ix3 h b j) := by pointwise
  unfold put
  rw [Host.dynamicUpdateSlice_apply, dif_pos, ← e]
  · refine congrArg _ (funext fun a => Fin.ext ?_)
    show _ - Host.clampedStart _ _ _ _ _ = _
    rw [start_at i k hi]
    fin_cases a
    · exact Nat.sub_self _
    all_goals rfl
  · intro a
    rw [start_at i k hi]
    fin_cases a
    · exact ⟨Nat.le_refl _, Nat.lt_succ_self _⟩
    · exact ⟨Nat.zero_le _, by show h.val < 0 + 4; omega⟩
    · exact ⟨Nat.zero_le _, by show b.val < 0 + 20; omega⟩
    · exact ⟨Nat.zero_le _, by show j.val < 0 + 64; omega⟩

theorem put_other (A : FVec Ideal S4096x4x20x64 .f32) (u : FVec Ideal S4x20x64 .f32) (i : IVec S_ 32) (k t : Fin 4096)
    (hi : (i (Shape.Idx.first h_S_)).toInt = k.val) (ht : t ≠ k) (h : Fin 4) (b : Fin 20) (j : Fin 64) :
    put (F := Ideal) A u i (ix4 t h b j) = A (ix4 t h b j) := by
  unfold put
  rw [Host.dynamicUpdateSlice_apply, dif_neg]
  intro hin
  have h0 := hin 0
  rw [start_at i k hi] at h0
  have h1 : k.val ≤ t.val ∧ t.val < k.val + 1 := h0
  exact ht (Fin.ext (by omega))

theorem up_at (k : Fin 4096) : (up (F := Ideal) k.val (Shape.Idx.first h_S_)).toInt = k.val := by
  show (0#32 + BitVec.ofNat 32 k.val * 1#32).toInt = _
  rw [BitVec.zero_add, BitVec.mul_one, toInt_ofNat_of_lt (by omega)]

theorem down_at (k : Fin 4096) : (down (F := Ideal) (4095 - k.val) (Shape.Idx.first h_S_)).toInt = k.val := by
  show ((4096#32 - (0#32 + BitVec.ofNat 32 (4095 - k.val) * 1#32)) - 1#32).toInt = _
  have e : (4096#32 - (0#32 + BitVec.ofNat 32 (4095 - k.val) * 1#32)) - 1#32 = BitVec.ofNat 32 k.val := by
    rw [BitVec.zero_add, BitVec.mul_one]
    apply BitVec.eq_of_toNat_eq
    simp only [BitVec.toNat_sub, BitVec.toNat_ofNat]
    omega
  rw [e, toInt_ofNat_of_lt (by omega)]

/-! ## One step -/

theorem along_at (S : FVec Ideal S4x20x64x64 .f32) (x : FVec Ideal S4x20x64 .f32) (h : Fin 4) (b : Fin 20) (i : Fin 64) :
    Scan.along (F := Ideal) S x (ix3 h b i) = ∑ j : Fin 64, S (ix4 h b i j) * x (ix3 h b j) := by
  pointwise [Scan.along]

theorem step_at (S : FVec Ideal S4x20x64x64 .f32) (w k v a b : FVec Ideal S4x20x64 .f32) (h : Fin 4) (n : Fin 20) (i j : Fin 64) :
    step (F := Ideal) S w k v a b (ix4 h n i j) = S (ix4 h n i j) * w (ix3 h n j) + (∑ q : Fin 64, S (ix4 h n i q) * a (ix3 h n q)) * b (ix3 h n j)
      + v (ix3 h n i) * k (ix3 h n j) := by
  rw [← along_at]
  pointwise [step, overKeys, overVals]

/-! ## The recurrence at a time

`p n` is the time the scan's step `n` reads and writes. -/

section Times

variable (X : Seqs Ideal) (ix : ℕ → IVec S_ 32) (p : Fin 4096 → Fin 4096) (hp : ∀ n : Fin 4096, (ix n.val (Shape.Idx.first h_S_)).toInt = (p n).val)

theorem states_zero_at (h : Fin 4) (b : Fin 20) (i j : Fin 64) : states X ix 0 (ix4 h b i j) = Ideal.ofBits .f32 0x00000000#32 := by
  show (broadcastInDim S4x20x64x64 ![] bcast_S_S4x20x64x64 (constant S_ .f32 0x00000000#32) : FVec Ideal S4x20x64x64 .f32) (ix4 h b i j) = _
  pointwise

include hp in
theorem states_succ_at (n : Fin 4096) (h : Fin 4) (b : Fin 20) (i j : Fin 64) :
    states X ix (n.val + 1) (ix4 h b i j) = states X ix n.val (ix4 h b i j) * X.w (ix4 (p n) h b j)
      + (∑ q : Fin 64, states X ix n.val (ix4 h b i q) * X.a (ix4 (p n) h b q)) * X.b (ix4 (p n) h b j)
      + X.v (ix4 (p n) h b i) * X.k (ix4 (p n) h b j) := by
  rw [states, step_at]
  simp only [pick_at _ _ _ (hp n)]

include hp in
theorem outs_until (inj : Function.Injective p) (n : Fin 4096) (h : Fin 4) (b : Fin 20) (i : Fin 64) : ∀ N, n.val < N → N ≤ 4096 →
    outs X ix N (ix4 (p n) h b i) = ∑ j : Fin 64, states X ix (n.val + 1) (ix4 h b i j) * X.r (ix4 (p n) h b j)
  | 0, h0, _ => absurd h0 (Nat.not_lt_zero _)
  | N + 1, h0, h1 => by
    rw [outs]
    by_cases e : n.val = N
    · subst e
      rw [put_same _ _ _ _ (hp n), along_at]
      simp only [pick_at _ _ _ (hp n)]
    · rw [put_other _ _ _ _ _ (hp ⟨N, h1⟩) (fun q => e (congrArg Fin.val (inj q)))]
      exact outs_until inj n h b i N (by omega) (by omega)

include hp in
theorem outs_at (inj : Function.Injective p) (n : Fin 4096) (h : Fin 4) (b : Fin 20) (i : Fin 64) :
    outs X ix 4096 (ix4 (p n) h b i) = ∑ j : Fin 64, states X ix (n.val + 1) (ix4 h b i j) * X.r (ix4 (p n) h b j) :=
  outs_until X ix p hp inj n h b i 4096 n.isLt (Nat.le_refl _)

end Times

end Cert.Reference3Ideal.Scan

end
-- ==== Proof.ScanValue.lean ====
/- The recurrence call's results: the kernel's running state holds the reference's states chain by chain, and its
   result blocks the reference's results. -/
module

public import proofs.«01_k».proof.Defs
public import proofs.«01_k».proof.Proof.ScanRun
public import proofs.«01_k».proof.Proof.ScanSpec
public import Idealize.ShloMosaic.Lib.Pipeline.ValueKit
public import Idealize.ShloMosaic.Lib.Pipeline.Value
public import Idealize.ShloMosaic.Lib.Pointwise

@[expose] public section

noncomputable section

namespace Cert.Kernel3Ideal.Scan

open Idealize.ShloMosaic Idealize.ShloMosaic.TpuEff Idealize.SL Idealize.SL.Sem Idealize.ShloMosaic.StableHlo
open Idealize.ShloMosaic.Pipeline Cert.Kernel3Ideal Cert.Kernel3Ideal.Gen
open Cert.Reference3Ideal.Scan (Seqs states outs seqOf laid up down)

/-! ## The body's arithmetic at an index -/

theorem pay3_at (P : FVec Ideal S64x80 .f32) (s : FVec Ideal S1x1x64x80 .f32) (a : FVec Ideal S1x1x80 .f32) (i : Fin 64) (l : Fin 80) :
    k0_pay3 P s a (ix2 i l) = P (ix2 i l) + s (ix4 0 0 i l) * a (ix3 0 0 l) := by
  pointwise [k0_pay3]

theorem pay5_at (v : FVec Ideal S1x64x80 .f32) (P : FVec Ideal S64x80 .f32) (s : FVec Ideal S1x1x64x80 .f32) (w b k : FVec Ideal S1x1x80 .f32)
    (i : Fin 64) (l : Fin 80) :
    k0_pay5 v P s w b k (ix2 i l) = s (ix4 0 0 i l) * w (ix3 0 0 l) + P (ix2 i l) * b (ix3 0 0 l) + v (ix3 0 i l) * k (ix3 0 0 l) := by
  pointwise [k0_pay5]

theorem pay7_at (v : FVec Ideal S1x64x80 .f32) (P Q : FVec Ideal S64x80 .f32) (s : FVec Ideal S1x1x64x80 .f32) (w b k r : FVec Ideal S1x1x80 .f32)
    (i : Fin 64) (l : Fin 80) :
    k0_pay7 v P Q s w b k r (ix2 i l) = Q (ix2 i l) + k0_pay5 v P s w b k (ix2 i l) * r (ix3 0 0 l) := by
  rw [pay5_at]
  pointwise [k0_pay7, k0_pay5]

variable (h : Fin 2) (r : Fin 16) (S : FVec Ideal S2x64x64x80 .f32) (X : Ops Ideal)

theorem dot_until (A : FVec Ideal S16x64x80 .f32) (i : Fin 64) (l : Fin 80) (n : ℕ) :
    dot h r S A n (ix2 i l) = ∑ q ∈ Finset.range n, S (ix4 h (Fin.ofNat 64 q) i l) * A (ix3 r (Fin.ofNat 64 q) l) := by
  induction n with
  | zero =>
    rw [Finset.sum_range_zero]
    exact Ideal.ofBits_zero_f32
  | succ n ih =>
    rw [dot, pay3_at, ih, Finset.sum_range_succ]
    rfl

theorem key_eq (q : Fin 64) : Fin.ofNat 64 q.val = q := Fin.ext (Nat.mod_eq_of_lt q.isLt)

theorem dot_at (A : FVec Ideal S16x64x80 .f32) (i : Fin 64) (l : Fin 80) :
    dot h r S A 64 (ix2 i l) = ∑ q : Fin 64, S (ix4 h q i l) * A (ix3 r q l) := by
  rw [dot_until, Finset.sum_range]
  simp only [key_eq]

theorem fresh_at (q i : Fin 64) (l : Fin 80) :
    fresh h r S X q (ix2 i l) = S (ix4 h q i l) * X.w (ix3 r q l) + (∑ p : Fin 64, S (ix4 h p i l) * X.a (ix3 r p l)) * X.b (ix3 r q l)
      + X.v (ix3 r i l) * X.k (ix3 r q l) := by
  rw [fresh, pay5_at, dot_at]
  rfl

theorem out_until (i : Fin 64) (l : Fin 80) (n : ℕ) :
    out h r S X n (ix2 i l) = ∑ q ∈ Finset.range n, fresh h r S X (Fin.ofNat 64 q) (ix2 i l) * X.r (ix3 r (Fin.ofNat 64 q) l) := by
  induction n with
  | zero =>
    rw [Finset.sum_range_zero]
    exact Ideal.ofBits_zero_f32
  | succ n ih =>
    rw [out, pay7_at, ih, Finset.sum_range_succ]
    rfl

theorem out_at (i : Fin 64) (l : Fin 80) :
    out h r S X 64 (ix2 i l) = ∑ q : Fin 64, fresh h r S X q (ix2 i l) * X.r (ix3 r q l) := by
  rw [out_until, Finset.sum_range]
  simp only [key_eq]

/-! ## The state against the reference's -/

/-- The head of a chain, -/
def head (l : Fin 80) : Fin 4 := ⟨l.val / 20, by omega⟩
/-- and its sequence. -/
def seq (l : Fin 80) : Fin 20 := ⟨l.val % 20, by omega⟩

/-- Row `r` of a direction's blocks holds the reference's sequences at time `t`. -/
structure Reads (Y : Seqs Ideal) (t : Fin 4096) : Prop where
  a : ∀ q l, X.a (ix3 r q l) = Y.a (ix4 t (head l) (seq l) q)
  w : ∀ q l, X.w (ix3 r q l) = Y.w (ix4 t (head l) (seq l) q)
  b : ∀ q l, X.b (ix3 r q l) = Y.b (ix4 t (head l) (seq l) q)
  k : ∀ q l, X.k (ix3 r q l) = Y.k (ix4 t (head l) (seq l) q)
  v : ∀ q l, X.v (ix3 r q l) = Y.v (ix4 t (head l) (seq l) q)
  r : ∀ q l, X.r (ix3 r q l) = Y.r (ix4 t (head l) (seq l) q)

/-- Half `h` of the kernel's state is a reference state. -/
def Holds (R : FVec Ideal Cert.Reference3Ideal.S4x20x64x64 .f32) : Prop :=
  ∀ q i l, S (ix4 h q i l) = R (ix4 (head l) (seq l) i q)

section Step

variable {h r S X}
variable {Y : Seqs Ideal} {ix : ℕ → IVec Cert.Reference3Ideal.S_ 32} {p : Fin 4096 → Fin 4096}
  (hp : ∀ n : Fin 4096, (ix n.val (Shape.Idx.first Cert.Reference3Ideal.Gen.h_S_)).toInt = (p n).val)
  {n : Fin 4096} (hS : Holds h S (states Y ix n.val)) (hX : Reads r X Y (p n))

include hp hS hX in
theorem fresh_eq (q i : Fin 64) (l : Fin 80) : fresh h r S X q (ix2 i l) = states Y ix (n.val + 1) (ix4 (head l) (seq l) i q) := by
  rw [fresh_at, Cert.Reference3Ideal.Scan.states_succ_at Y ix p hp, hS, hX.w, hX.b, hX.v, hX.k]
  simp only [hX.a]
  congr 3
  exact Finset.sum_congr rfl fun q _ => by rw [hS]

include hp hS hX in
theorem upd_holds : Holds h (upd h r S X 64) (states Y ix (n.val + 1)) := fun q i l =>
  (if_pos ⟨rfl, q.isLt⟩ : upd h r S X 64 (ix4 h q i l) = fresh h r S X q (ix2 i l)).trans (fresh_eq hp hS hX q i l)

include hp hS hX in
theorem out_eq (inj : Function.Injective p) (i : Fin 64) (l : Fin 80) :
    out h r S X 64 (ix2 i l) = outs Y ix 4096 (ix4 (p n) (head l) (seq l) i) := by
  rw [out_at, Cert.Reference3Ideal.Scan.outs_at Y ix p hp inj]
  exact Finset.sum_congr rfl fun q _ => by rw [fresh_eq hp hS hX, hX.r]

theorem upd_other {h' : Fin 2} (hh : h' ≠ h) {R} (hR : Holds h' S R) : Holds h' (upd h r S X 64) R := fun q i l =>
  (if_neg (fun e => hh (Fin.ext e.1)) : upd h r S X 64 (ix4 h' q i l) = S (ix4 h' q i l)).trans (hR q i l)

end Step

end Cert.Kernel3Ideal.Scan

end
-- ==== Proof.ScanFinal.lean ====
/- The recurrence call's result arrays: the blocks its points read, the state it carries from point to point, and the
   arrays it leaves, set beside the reference. -/
module

public import proofs.«01_k».proof.Defs
public import proofs.«01_k».proof.Proof.ScanValue
public import Idealize.ShloMosaic.Lib.Pipeline.ValueKit
public import Idealize.ShloMosaic.Lib.Pipeline.Value
public import Idealize.ShloMosaic.Lib.Pointwise

@[expose] public section

noncomputable section

namespace Cert.Kernel3Ideal.Scan

open Idealize.ShloMosaic Idealize.ShloMosaic.TpuEff Idealize.SL Idealize.SL.Sem Idealize.ShloMosaic.StableHlo
open Idealize.ShloMosaic.Pipeline Cert.Kernel3Ideal Cert.Kernel3Ideal.Gen
open Cert.Reference3Ideal.Scan (Seqs states outs seqOf laid up down)

/-! ## The arrays the call reads -/

/-- An argument in the call's layout: time, then key or value, then chain. -/
def chains (A : FVec Ideal S4x81920x64 .f32) : FVec Ideal S4096x64x80 .f32 :=
  shapeCast S4096x64x80 (transpose S4096x64x4x20 [2, 3, 0, 1] (shapeCast S4x20x4096x64 A shapeCasts_S4x81920x64_S4x20x4096x64)
    transposes_S4x20x4096x64_S4096x64x4x20_2_3_0_1) shapeCasts_S4096x64x4x20_S4096x64x80

theorem chains_at (A : FVec Ideal S4x81920x64 .f32) (t : Fin 4096) (q : Fin 64) (l : Fin 80) :
    chains A (ix3 t q l) = seqOf (F := Ideal) A (ix4 t (head l) (seq l) q) := by
  rw [Cert.Reference3Ideal.Scan.seqOf_at]
  pointwise [chains, head, seq]

variable (m : (ℓ : Loc nD τ sig) → Buf (Elt Ideal) ℓ)

theorem V_v2 (c : Dev nD) : V m c main_v2 = chains (m ((c.tc : Thread nD τ).loc main_arg0)) := by
  dsimp only [V]
  after_results <;> rfl

theorem V_v5 (c : Dev nD) : V m c main_v5 = chains (m ((c.tc : Thread nD τ).loc main_arg1)) := by
  dsimp only [V]
  after_results <;> rfl

theorem V_v8 (c : Dev nD) : V m c main_v8 = chains (m ((c.tc : Thread nD τ).loc main_arg2)) := by
  dsimp only [V]
  after_results <;> rfl

theorem V_v11 (c : Dev nD) : V m c main_v11 = chains (m ((c.tc : Thread nD τ).loc main_arg3)) := by
  dsimp only [V]
  after_results <;> rfl

theorem V_v14 (c : Dev nD) : V m c main_v14 = chains (m ((c.tc : Thread nD τ).loc main_arg7)) := by
  dsimp only [V]
  after_results <;> rfl

theorem V_v17 (c : Dev nD) : V m c main_v17 = chains (m ((c.tc : Thread nD τ).loc main_arg5)) := by
  dsimp only [V]
  after_results <;> rfl

theorem V_v20 (c : Dev nD) : V m c main_v20 = chains (m ((c.tc : Thread nD τ).loc main_arg4)) := by
  dsimp only [V]
  after_results <;> rfl

theorem V_v23 (c : Dev nD) : V m c main_v23 = chains (m ((c.tc : Thread nD τ).loc main_arg8)) := by
  dsimp only [V]
  after_results <;> rfl

theorem V_v26 (c : Dev nD) : V m c main_v26 = chains (m ((c.tc : Thread nD τ).loc main_arg6)) := by
  dsimp only [V]
  after_results <;> rfl

theorem points (t : Fin cfg0.N) : t.val < 256 := lt_of_lt_of_eq t.isLt (by decide : cfg0.N = 256)

theorem index_0 : ∀ t : Fin cfg0.N, win0_0.index t = ![t.val, 0, 0] := (by decide +kernel : ∀ t : Fin grid0.N, _)
theorem index_1 : ∀ t : Fin cfg0.N, win0_1.index t = ![t.val, 0, 0] := (by decide +kernel : ∀ t : Fin grid0.N, _)
theorem index_2 : ∀ t : Fin cfg0.N, win0_2.index t = ![t.val, 0, 0] := (by decide +kernel : ∀ t : Fin grid0.N, _)
theorem index_3 : ∀ t : Fin cfg0.N, win0_3.index t = ![t.val, 0, 0] := (by decide +kernel : ∀ t : Fin grid0.N, _)
theorem index_4 : ∀ t : Fin cfg0.N, win0_4.index t = ![t.val, 0, 0] := (by decide +kernel : ∀ t : Fin grid0.N, _)
theorem index_5 : ∀ t : Fin cfg0.N, win0_5.index t = ![t.val, 0, 0] := (by decide +kernel : ∀ t : Fin grid0.N, _)
theorem index_6 : ∀ t : Fin cfg0.N, win0_6.index t = ![255 - t.val, 0, 0] := (by decide +kernel : ∀ t : Fin grid0.N, _)
theorem index_7 : ∀ t : Fin cfg0.N, win0_7.index t = ![255 - t.val, 0, 0] := (by decide +kernel : ∀ t : Fin grid0.N, _)
theorem index_8 : ∀ t : Fin cfg0.N, win0_8.index t = ![255 - t.val, 0, 0] := (by decide +kernel : ∀ t : Fin grid0.N, _)
theorem index_9 : ∀ t : Fin cfg0.N, win0_9.index t = ![255 - t.val, 0, 0] := (by decide +kernel : ∀ t : Fin grid0.N, _)
theorem index_10 : ∀ t : Fin cfg0.N, win0_10.index t = ![255 - t.val, 0, 0] := (by decide +kernel : ∀ t : Fin grid0.N, _)
theorem index_11 : ∀ t : Fin cfg0.N, win0_11.index t = ![255 - t.val, 0, 0] := (by decide +kernel : ∀ t : Fin grid0.N, _)
theorem index_12 : ∀ t : Fin cfg0.N, win0_12.index t = ![t.val, 0, 0] := (by decide +kernel : ∀ t : Fin grid0.N, _)
theorem index_13 : ∀ t : Fin cfg0.N, win0_13.index t = ![255 - t.val, 0, 0] := (by decide +kernel : ∀ t : Fin grid0.N, _)

/-- The time a forward block's row stands for, -/
def timeF (t : Fin cfg0.N) (r : Fin 16) : Fin 4096 := ⟨t.val * 16 + r.val, by have := points t; omega⟩
/-- and a backward block's. -/
def timeB (t : Fin cfg0.N) (r : Fin 16) : Fin 4096 := ⟨(255 - t.val) * 16 + r.val, by omega⟩

theorem blk_0 (c : Dev nD) (t : Fin cfg0.N) (r : Fin 16) (q : Fin 64) (l : Fin 80) :
    iblk m c 0 t (ix3 r q l) = seqOf (F := Ideal) (m ((c.tc : Thread nD τ).loc main_arg0)) (ix4 (timeF t r) (head l) (seq l) q) := by
  have e : (win0_0.blk t).view.emb (ix3 r q l) = ix3 (timeF t r) q l := by
    blk_ext [index_0, timeF]
  show V m c main_v2 ((win0_0.blk t).view.emb (ix3 r q l)) = _
  rw [e, V_v2, chains_at]

theorem blk_1 (c : Dev nD) (t : Fin cfg0.N) (r : Fin 16) (q : Fin 64) (l : Fin 80) :
    iblk m c 1 t (ix3 r q l) = seqOf (F := Ideal) (m ((c.tc : Thread nD τ).loc main_arg3)) (ix4 (timeF t r) (head l) (seq l) q) := by
  have e : (win0_1.blk t).view.emb (ix3 r q l) = ix3 (timeF t r) q l := by
    blk_ext [index_1, timeF]
  show V m c main_v11 ((win0_1.blk t).view.emb (ix3 r q l)) = _
  rw [e, V_v11, chains_at]

theorem blk_2 (c : Dev nD) (t : Fin cfg0.N) (r : Fin 16) (q : Fin 64) (l : Fin 80) :
    iblk m c 2 t (ix3 r q l) = seqOf (F := Ideal) (m ((c.tc : Thread nD τ).loc main_arg7)) (ix4 (timeF t r) (head l) (seq l) q) := by
  have e : (win0_2.blk t).view.emb (ix3 r q l) = ix3 (timeF t r) q l := by
    blk_ext [index_2, timeF]
  show V m c main_v14 ((win0_2.blk t).view.emb (ix3 r q l)) = _
  rw [e, V_v14, chains_at]

theorem blk_3 (c : Dev nD) (t : Fin cfg0.N) (r : Fin 16) (q : Fin 64) (l : Fin 80) :
    iblk m c 3 t (ix3 r q l) = seqOf (F := Ideal) (m ((c.tc : Thread nD τ).loc main_arg5)) (ix4 (timeF t r) (head l) (seq l) q) := by
  have e : (win0_3.blk t).view.emb (ix3 r q l) = ix3 (timeF t r) q l := by
    blk_ext [index_3, timeF]
  show V m c main_v17 ((win0_3.blk t).view.emb (ix3 r q l)) = _
  rw [e, V_v17, chains_at]

theorem blk_4 (c : Dev nD) (t : Fin cfg0.N) (r : Fin 16) (q : Fin 64) (l : Fin 80) :
    iblk m c 4 t (ix3 r q l) = seqOf (F := Ideal) (m ((c.tc : Thread nD τ).loc main_arg1)) (ix4 (timeF t r) (head l) (seq l) q) := by
  have e : (win0_4.blk t).view.emb (ix3 r q l) = ix3 (timeF t r) q l := by
    blk_ext [index_4, timeF]
  show V m c main_v5 ((win0_4.blk t).view.emb (ix3 r q l)) = _
  rw [e, V_v5, chains_at]

theorem blk_5 (c : Dev nD) (t : Fin cfg0.N) (r : Fin 16) (q : Fin 64) (l : Fin 80) :
    iblk m c 5 t (ix3 r q l) = seqOf (F := Ideal) (m ((c.tc : Thread nD τ).loc main_arg2)) (ix4 (timeF t r) (head l) (seq l) q) := by
  have e : (win0_5.blk t).view.emb (ix3 r q l) = ix3 (timeF t r) q l := by
    blk_ext [index_5, timeF]
  show V m c main_v8 ((win0_5.blk t).view.emb (ix3 r q l)) = _
  rw [e, V_v8, chains_at]

theorem blk_6 (c : Dev nD) (t : Fin cfg0.N) (r : Fin 16) (q : Fin 64) (l : Fin 80) :
    iblk m c 6 t (ix3 r q l) = seqOf (F := Ideal) (m ((c.tc : Thread nD τ).loc main_arg0)) (ix4 (timeB t r) (head l) (seq l) q) := by
  have e : (win0_6.blk t).view.emb (ix3 r q l) = ix3 (timeB t r) q l := by
    blk_ext [index_6, timeB]
  show V m c main_v2 ((win0_6.blk t).view.emb (ix3 r q l)) = _
  rw [e, V_v2, chains_at]

theorem blk_7 (c : Dev nD) (t : Fin cfg0.N) (r : Fin 16) (q : Fin 64) (l : Fin 80) :
    iblk m c 7 t (ix3 r q l) = seqOf (F := Ideal) (m ((c.tc : Thread nD τ).loc main_arg4)) (ix4 (timeB t r) (head l) (seq l) q) := by
  have e : (win0_7.blk t).view.emb (ix3 r q l) = ix3 (timeB t r) q l := by
    blk_ext [index_7, timeB]
  show V m c main_v20 ((win0_7.blk t).view.emb (ix3 r q l)) = _
  rw [e, V_v20, chains_at]

theorem blk_8 (c : Dev nD) (t : Fin cfg0.N) (r : Fin 16) (q : Fin 64) (l : Fin 80) :
    iblk m c 8 t (ix3 r q l) = seqOf (F := Ideal) (m ((c.tc : Thread nD τ).loc main_arg8)) (ix4 (timeB t r) (head l) (seq l) q) := by
  have e : (win0_8.blk t).view.emb (ix3 r q l) = ix3 (timeB t r) q l := by
    blk_ext [index_8, timeB]
  show V m c main_v23 ((win0_8.blk t).view.emb (ix3 r q l)) = _
  rw [e, V_v23, chains_at]

theorem blk_9 (c : Dev nD) (t : Fin cfg0.N) (r : Fin 16) (q : Fin 64) (l : Fin 80) :
    iblk m c 9 t (ix3 r q l) = seqOf (F := Ideal) (m ((c.tc : Thread nD τ).loc main_arg6)) (ix4 (timeB t r) (head l) (seq l) q) := by
  have e : (win0_9.blk t).view.emb (ix3 r q l) = ix3 (timeB t r) q l := by
    blk_ext [index_9, timeB]
  show V m c main_v26 ((win0_9.blk t).view.emb (ix3 r q l)) = _
  rw [e, V_v26, chains_at]

theorem blk_10 (c : Dev nD) (t : Fin cfg0.N) (r : Fin 16) (q : Fin 64) (l : Fin 80) :
    iblk m c 10 t (ix3 r q l) = seqOf (F := Ideal) (m ((c.tc : Thread nD τ).loc main_arg1)) (ix4 (timeB t r) (head l) (seq l) q) := by
  have e : (win0_10.blk t).view.emb (ix3 r q l) = ix3 (timeB t r) q l := by
    blk_ext [index_10, timeB]
  show V m c main_v5 ((win0_10.blk t).view.emb (ix3 r q l)) = _
  rw [e, V_v5, chains_at]

theorem blk_11 (c : Dev nD) (t : Fin cfg0.N) (r : Fin 16) (q : Fin 64) (l : Fin 80) :
    iblk m c 11 t (ix3 r q l) = seqOf (F := Ideal) (m ((c.tc : Thread nD τ).loc main_arg2)) (ix4 (timeB t r) (head l) (seq l) q) := by
  have e : (win0_11.blk t).view.emb (ix3 r q l) = ix3 (timeB t r) q l := by
    blk_ext [index_11, timeB]
  show V m c main_v8 ((win0_11.blk t).view.emb (ix3 r q l)) = _
  rw [e, V_v8, chains_at]

/-- The forward scan's sequences, -/
def seqsF (c : Dev nD) : Seqs Ideal :=
  ⟨seqOf (F := Ideal) (m ((c.tc : Thread nD τ).loc main_arg1)),
   seqOf (F := Ideal) (m ((c.tc : Thread nD τ).loc main_arg3)),
   seqOf (F := Ideal) (m ((c.tc : Thread nD τ).loc main_arg5)),
   seqOf (F := Ideal) (m ((c.tc : Thread nD τ).loc main_arg2)),
   seqOf (F := Ideal) (m ((c.tc : Thread nD τ).loc main_arg0)),
   seqOf (F := Ideal) (m ((c.tc : Thread nD τ).loc main_arg7))⟩

/-- and the backward scan's. -/
def seqsB (c : Dev nD) : Seqs Ideal :=
  ⟨seqOf (F := Ideal) (m ((c.tc : Thread nD τ).loc main_arg1)),
   seqOf (F := Ideal) (m ((c.tc : Thread nD τ).loc main_arg4)),
   seqOf (F := Ideal) (m ((c.tc : Thread nD τ).loc main_arg6)),
   seqOf (F := Ideal) (m ((c.tc : Thread nD τ).loc main_arg2)),
   seqOf (F := Ideal) (m ((c.tc : Thread nD τ).loc main_arg0)),
   seqOf (F := Ideal) (m ((c.tc : Thread nD τ).loc main_arg8))⟩

theorem reads_fwd (c : Dev nD) (t : Fin cfg0.N) (r : Fin 16) : Reads r (fwd m c t) (seqsF m c) (timeF t r) :=
  ⟨blk_0 m c t r, blk_1 m c t r, blk_2 m c t r, blk_3 m c t r, blk_5 m c t r, blk_4 m c t r⟩

theorem reads_bwd (c : Dev nD) (t : Fin cfg0.N) (r : Fin 16) : Reads r (bwd m c t) (seqsB m c) (timeB t r) :=
  ⟨blk_6 m c t r, blk_7 m c t r, blk_8 m c t r, blk_9 m c t r, blk_11 m c t r, blk_10 m c t r⟩

/-! ## The carried state -/

theorem up_time (n : Fin 4096) : (up (F := Ideal) n.val (Shape.Idx.first Cert.Reference3Ideal.Gen.h_S_)).toInt = (id n : Fin 4096).val :=
  Cert.Reference3Ideal.Scan.up_at n

theorem down_time (n : Fin 4096) : (down (F := Ideal) n.val (Shape.Idx.first Cert.Reference3Ideal.Gen.h_S_)).toInt = (Fin.rev n).val := by
  have e := Cert.Reference3Ideal.Scan.down_at (Fin.rev n)
  rwa [show 4095 - (Fin.rev n).val = n.val by rw [Fin.val_rev]; omega] at e

/-- The forward scan's step for row `n` of point `t`, and the backward scan's `n`th step there. -/
def stepAt (t : Fin cfg0.N) (n : ℕ) (hn : n < 16) : Fin 4096 := ⟨t.val * 16 + n, by have := points t; omega⟩

theorem reads_up (c : Dev nD) (t : Fin cfg0.N) (n : ℕ) (hn : n < 16) :
    Reads (Fin.ofNat 16 n) (fwd m c t) (seqsF m c) (id (stepAt t n hn)) := by
  have e : id (stepAt t n hn) = timeF t (Fin.ofNat 16 n) := Fin.ext (by
    show t.val * 16 + n = t.val * 16 + n % 16
    omega)
  rw [e]
  exact reads_fwd m c t _

theorem reads_down (c : Dev nD) (t : Fin cfg0.N) (n : ℕ) (hn : n < 16) :
    Reads (Fin.ofNat 16 (15 - n)) (bwd m c t) (seqsB m c) (Fin.rev (stepAt t n hn)) := by
  have e : Fin.rev (stepAt t n hn) = timeB t (Fin.ofNat 16 (15 - n)) := Fin.ext (by
    rw [Fin.val_rev]
    show 4096 - (t.val * 16 + n + 1) = (255 - t.val) * 16 + (15 - n) % 16
    have := points t
    omega)
  rw [e]
  exact reads_bwd m c t _

/-- Both halves of a state hold both scans' states after `n` steps. -/
def Both (c : Dev nD) (S : FVec Ideal S2x64x64x80 .f32) (n : ℕ) : Prop :=
  Holds 0 S (states (seqsF m c) up n) ∧ Holds 1 S (states (seqsB m c) down n)

theorem along_both (c : Dev nD) (t : Fin cfg0.N) (S : FVec Ideal S2x64x64x80 .f32) (hS : Both m c S (t.val * 16)) :
    ∀ n, n ≤ 16 → Both m c (along (fwd m c t) (bwd m c t) S n) (t.val * 16 + n)
  | 0, _ => hS
  | n + 1, hn => by
    obtain ⟨h0, h1⟩ := along_both c t S hS n (by omega)
    exact ⟨upd_other (by decide) (upd_holds (n := stepAt t n hn) up_time h0 (reads_up m c t n hn)),
      upd_holds (n := stepAt t n hn) down_time (upd_other (by decide) h1) (reads_down m c t n hn)⟩

theorem state_both (c : Dev nD) : ∀ N, N ≤ cfg0.N → Both m c (state m c N) (N * 16)
  | 0, _ => by
    refine ⟨fun q i l => ?_, fun q i l => ?_⟩
    · rw [Nat.zero_mul, Cert.Reference3Ideal.Scan.states_zero_at]
      rfl
    · rw [Nat.zero_mul, Cert.Reference3Ideal.Scan.states_zero_at]
      rfl
  | N + 1, hN => by
    have e := state_succ m c ⟨N, hN⟩
    dsimp only at e
    rw [e, Nat.succ_mul]
    exact along_both m c ⟨N, hN⟩ _ (state_both c N (Nat.le_of_succ_le hN)) 16 (Nat.le_refl _)

/-! ## The result arrays -/

theorem outF_at (c : Dev nD) (t : Fin cfg0.N) (r : Fin 16) (i : Fin 64) (l : Fin 80) :
    outF (fwd m c t) (bwd m c t) (state m c t.val) (ix3 r i l) = outs (seqsF m c) up 4096 (ix4 (timeF t r) (head l) (seq l) i) := by
  have hS := along_both m c t _ (state_both m c t.val (Nat.le_of_lt t.isLt)) r.val (Nat.le_of_lt r.isLt)
  exact out_eq (n := stepAt t r.val r.isLt) up_time hS.1 (reads_fwd m c t r) Function.injective_id i l

theorem outB_at (c : Dev nD) (t : Fin cfg0.N) (r : Fin 16) (i : Fin 64) (l : Fin 80) :
    outB (fwd m c t) (bwd m c t) (state m c t.val) (ix3 r i l) = outs (seqsB m c) down 4096 (ix4 (timeB t r) (head l) (seq l) i) := by
  have hS := along_both m c t _ (state_both m c t.val (Nat.le_of_lt t.isLt)) (15 - r.val) (by omega)
  have e : Fin.rev (stepAt t (15 - r.val) (by omega)) = timeB t r := Fin.ext (by
    rw [Fin.val_rev]
    show 4096 - (t.val * 16 + (15 - r.val) + 1) = (255 - t.val) * 16 + r.val
    have := points t
    omega)
  have hX := reads_bwd m c t r
  rw [← e] at hX ⊢
  exact out_eq (n := stepAt t (15 - r.val) (by omega)) down_time (upd_other (by decide) hS.2) hX Fin.rev_injective i l

theorem final_fwd (c : Dev nD) : (dats m 0 c).arrAt 12 cfg0.N = laid (outs (seqsF m c) up 4096) := by
  refine (dats m 0 c).arrAt_eq_of_covers 12 _ (by decide +kernel) fun t hf y => ?_
  blk_simp
  revert y
  intro (y : S16x64x80.Idx)
  idx_vars y
  have e : (win0_12.blk t).view.emb (ix3 y0 y1 y2) = ix3 (timeF t y0) y1 y2 := by
    blk_ext [index_12, timeF]
  rw [after0_12, e, Cert.Reference3Ideal.Scan.laid_at]
  exact outF_at m c t y0 y1 y2

theorem final_bwd (c : Dev nD) : (dats m 0 c).arrAt 13 cfg0.N = laid (outs (seqsB m c) down 4096) := by
  refine (dats m 0 c).arrAt_eq_of_covers 13 _ (by decide +kernel) fun t hf y => ?_
  blk_simp
  revert y
  intro (y : S16x64x80.Idx)
  idx_vars y
  have e : (win0_13.blk t).view.emb (ix3 y0 y1 y2) = ix3 (timeB t y0) y1 y2 := by
    blk_ext [index_13, timeB]
  rw [after0_13, e, Cert.Reference3Ideal.Scan.laid_at]
  exact outB_at m c t y0 y1 y2

/-- The run with both result arrays named. -/
theorem run_blocks (ρ : Dev nD → PrngReg) : θ_run defs (onTc (τ := τ) (main (F := Ideal))) ⟨m, fun _ => 0, ρ⟩ fun r => ∀ c : Dev nD,
    r.2.mem ((c.tc : Thread nD τ).loc main_v27_0) = (dats m 0 c).arrAt 12 cfg0.N
    ∧ r.2.mem ((c.tc : Thread nD τ).loc main_v27_1) = (dats m 0 c).arrAt 13 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) :=
  (θ_run defs _ _).mono (fun r h c => ⟨(h c).1 12, (h c).1 13,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩)
    (run_main m ρ)

/-- From memories that agree on the arguments, both results are the reference's. -/
theorem results : Cert.algebraic_Kernel3Ideal_Reference3Ideal := by
  intro m g m' g' _ hm
  refine ⟨fun c => (dats m 0 c).arrAt 12 cfg0.N, fun c => (dats m 0 c).arrAt 13 cfg0.N, run_blocks m g, ?_⟩
  refine (θ_run Cert.Reference3Ideal.defs _ _).mono (fun r h c => ?_) (Cert.Reference3Ideal.Scan.run (F := Ideal) m' g')
  obtain ⟨h0, h1, ha⟩ := h c
  obtain ⟨e0, e1, e2, e3, e4, e5, e6, e7, e8⟩ := hm c
  have s0 : Cert.Reference3Ideal.Scan.seqs0 m' c = seqsF m c := by
    unfold Cert.Reference3Ideal.Scan.seqs0 seqsF
    rw [e0, e1, e2, e3, e5, e7]
  have s1 : Cert.Reference3Ideal.Scan.seqs1 m' c = seqsB m c := by
    unfold Cert.Reference3Ideal.Scan.seqs1 seqsB
    rw [e0, e1, e2, e4, e6, e8]
  rw [s0] at h0
  rw [s1] at h1
  exact ⟨h0.trans (final_fwd m c).symm, h1.trans (final_bwd m c).symm, ha⟩

end Cert.Kernel3Ideal.Scan

end
-- ==== Proof.InProj.lean ====
/- The six results of the input projection, read off the kernel's blocks and set beside the reference. -/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

@[expose] public section

noncomputable section

namespace Cert.Kernel2Ideal.Value

open Idealize.ShloMosaic Idealize.ShloMosaic.TpuEff Idealize.SL Idealize.SL.Sem Idealize.ShloMosaic.StableHlo
open Idealize.ShloMosaic.Pipeline Cert.Kernel2Ideal Cert.Kernel2Ideal.Gen

/-- The projected rows as the reference writes them: each token's row scaled to unit root mean square, times the gain,
    times the weight matrix. -/
abbrev proj (x : FVec Ideal Cert.Reference2Ideal.S20x4096x1024 .f32) (g : FVec Ideal Cert.Reference2Ideal.S1024 .f32)
    (w : FVec Ideal Cert.Reference2Ideal.S1024x2816 .f32) : FVec Ideal Cert.Reference2Ideal.S20x4096x2816 .f32 :=
  Host.dotGeneral Cert.Reference2Ideal.dot_S20x4096x1024_S1024x2816_S20x4096x2816_2_0_01_1_n_n none (mulf (mulf x (broadcastInDim Cert.Reference2Ideal.S20x4096x1024 ![0, 1, 2] Cert.Reference2Ideal.Gen.bcast_S20x4096x1_S20x4096x1024_0_1_2 (Host.rsqrt (addf (Host.divf (broadcastInDim Cert.Reference2Ideal.S20x4096x1 ![0, 1] Cert.Reference2Ideal.Gen.bcast_S20x4096_S20x4096x1_0_1 (Host.reduceAdd (mulf x x) (constant Cert.Reference2Ideal.S_ .f32 0x00000000#32) Cert.Reference2Ideal.Gen.reducesTo_S20x4096x1024_S20x4096_d2 Cert.Reference2Ideal.Gen.h_S_)) (broadcastInDim Cert.Reference2Ideal.S20x4096x1 ![] Cert.Reference2Ideal.Gen.bcast_S_S20x4096x1 (constant Cert.Reference2Ideal.S_ .f32 0x44800000#32))) (broadcastInDim Cert.Reference2Ideal.S20x4096x1 ![] Cert.Reference2Ideal.Gen.bcast_S_S20x4096x1 (constant Cert.Reference2Ideal.S_ .f32 0x358637BD#32)))))) (broadcastInDim Cert.Reference2Ideal.S20x4096x1024 ![0, 1, 2] Cert.Reference2Ideal.Gen.bcast_S1x1x1024_S20x4096x1024_0_1_2 (broadcastInDim Cert.Reference2Ideal.S1x1x1024 ![2] Cert.Reference2Ideal.Gen.bcast_S1024_S1x1x1024_2 g))) w

variable (m : (ℓ : Loc nD τ sig) → Buf (Elt Ideal) ℓ)

theorem V_v0 (c : Dev nD) : V m c main_v0 = shapeCast _ (m ((c.tc : Thread nD τ).loc main_arg0)) Gen.shapeCasts_S20x4096x1024_S81920x1024 := by
  dsimp only [V]
  after_results <;> rfl

theorem V_v1 (c : Dev nD) : V m c main_v1 = (m ((c.tc : Thread nD τ).loc main_arg2) : FVec Ideal S1024x2816 .f32) := by
  dsimp only [V]
  after_results <;> rfl

theorem V_v2 (c : Dev nD) : V m c main_v2 = shapeCast _ (m ((c.tc : Thread nD τ).loc main_arg1)) Gen.shapeCasts_S1024_S1x1024 := by
  dsimp only [V]
  after_results <;> rfl

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![t.val, 0] := (by decide +kernel : ∀ t : Fin grid0.N, _)

theorem points (t : Fin cfg0.N) : t.val < 160 := lt_of_lt_of_eq t.isLt (by decide : cfg0.N = 160)

/-- The tokens flattened: token `i` is at sequence `i / 4096`, place `i % 4096`. -/
theorem cast_rows (x : FVec Ideal S20x4096x1024 .f32) (i : Fin 81920) (k : Fin 1024) :
    shapeCast S81920x1024 x Gen.shapeCasts_S20x4096x1024_S81920x1024 (ix2 i k)
      = x (ix3 ⟨i.val / 4096, by omega⟩ ⟨i.val % 4096, Nat.mod_lt _ (by decide)⟩ k) := by
  pointwise

/-- Row `r` of the block of tokens at point `t` is token `512 t + r`, read at its sequence and place. -/
theorem xblk (c : Dev nD) (t : Fin cfg0.N) (r : Fin 512) (k : Fin 1024) :
    iblk m c 0 t (ix2 r k) = m ((c.tc : Thread nD τ).loc main_arg0)
      (ix3 ⟨(t.val * 512 + r.val) / 4096, by have := points t; omega⟩ ⟨(t.val * 512 + r.val) % 4096, Nat.mod_lt _ (by decide)⟩ k) := by
  have e : (win0_0.blk t).view.emb (ix2 r k) = ix2 ⟨t.val * 512 + r.val, by have := points t; omega⟩ k := by
    blk_ext [index_0]
  show V m c main_v0 ((win0_0.blk t).view.emb (ix2 r k)) = _
  rw [e, V_v0]
  exact cast_rows _ _ _

/-- The gain's row at a point is the gain. -/
theorem gblk (c : Dev nD) (t : Fin cfg0.N) (k : Fin 1024) :
    iblk m c 1 t (ix2 0 k) = m ((c.tc : Thread nD τ).loc main_arg1) (ix1 k) := by
  have e : (win0_1.blk t).view.emb (ix2 0 k) = ix2 0 k := by
    blk_ext [index_1]
  show V m c main_v2 ((win0_1.blk t).view.emb (ix2 0 k)) = _
  rw [e, V_v2]
  pointwise

/-- The weight's block at a point is the weight. -/
theorem wblk (c : Dev nD) (t : Fin cfg0.N) (k : Fin 1024) (j : Fin 2816) :
    iblk m c 2 t (ix2 k j) = m ((c.tc : Thread nD τ).loc main_arg2) (ix2 k j) := by
  have e : (win0_2.blk t).view.emb (ix2 k j) = ix2 k j := by
    blk_ext [index_2]
  show V m c main_v1 ((win0_2.blk t).view.emb (ix2 k j)) = _
  rw [e, V_v1]

set_option maxRecDepth 16384 in
theorem final3 (c : Dev nD) : (dats m 0 c).arrAt 3 cfg0.N
    = shapeCast _ (extractStridedSlice Cert.Reference2Ideal.S20x4096x256 ![0, 0, 0]
        (proj (m ((c.tc : Thread nD τ).loc main_arg0)) (m ((c.tc : Thread nD τ).loc main_arg1)) (m ((c.tc : Thread nD τ).loc main_arg2)))
        Cert.Reference2Ideal.Gen.slices_S20x4096x2816_S20x4096x256_0_0_0)
        Cert.Reference2Ideal.Gen.shapeCasts_S20x4096x256_S81920x256 := by
  refine (dats m 0 c).arrAt_eq_of_covers 3 _ (by decide +kernel) fun t hf y => ?_
  blk_simp
  revert y
  intro (y : S512x256.Idx)
  idx_vars y
  have hi := (by decide +kernel : ∀ t : Fin grid0.N, win0_3.index t = ![t.val, 0]) t
  have e : (win0_3.blk t).view.emb (ix2 y0 y1) = ix2 ⟨t.val * 512 + y0.val, by have := points t; omega⟩ y1 := by
    blk_ext [hi]
  rw [after0_3, e]
  frame_out
  pointwise [k0_pay5, k0_pay4, proj]
  simp only [xblk, gblk, wblk, ← Nat.add_assoc, Nat.reduceAdd]

set_option maxRecDepth 16384 in
theorem final4 (c : Dev nD) : (dats m 0 c).arrAt 4 cfg0.N
    = shapeCast _ (extractStridedSlice Cert.Reference2Ideal.S20x4096x768 ![0, 0, 256]
        (proj (m ((c.tc : Thread nD τ).loc main_arg0)) (m ((c.tc : Thread nD τ).loc main_arg1)) (m ((c.tc : Thread nD τ).loc main_arg2)))
        Cert.Reference2Ideal.Gen.slices_S20x4096x2816_S20x4096x768_0_0_256)
        Cert.Reference2Ideal.Gen.shapeCasts_S20x4096x768_S81920x768 := by
  refine (dats m 0 c).arrAt_eq_of_covers 4 _ (by decide +kernel) fun t hf y => ?_
  blk_simp
  revert y
  intro (y : S512x768.Idx)
  idx_vars y
  have hi := (by decide +kernel : ∀ t : Fin grid0.N, win0_4.index t = ![t.val, 0]) t
  have e : (win0_4.blk t).view.emb (ix2 y0 y1) = ix2 ⟨t.val * 512 + y0.val, by have := points t; omega⟩ y1 := by
    blk_ext [hi]
  rw [after0_4, e]
  frame_out
  pointwise [k0_pay6, k0_pay4, proj]
  simp only [xblk, gblk, wblk, ← Nat.add_assoc, Nat.reduceAdd]

set_option maxRecDepth 16384 in
theorem final5 (c : Dev nD) : (dats m 0 c).arrAt 5 cfg0.N
    = shapeCast _ (extractStridedSlice Cert.Reference2Ideal.S20x4096x1024 ![0, 0, 1024]
        (proj (m ((c.tc : Thread nD τ).loc main_arg0)) (m ((c.tc : Thread nD τ).loc main_arg1)) (m ((c.tc : Thread nD τ).loc main_arg2)))
        Cert.Reference2Ideal.Gen.slices_S20x4096x2816_S20x4096x1024_0_0_1024)
        Cert.Reference2Ideal.Gen.shapeCasts_S20x4096x1024_S81920x1024 := by
  refine (dats m 0 c).arrAt_eq_of_covers 5 _ (by decide +kernel) fun t hf y => ?_
  blk_simp
  revert y
  intro (y : S512x1024.Idx)
  idx_vars y
  have hi := (by decide +kernel : ∀ t : Fin grid0.N, win0_5.index t = ![t.val, 0]) t
  have e : (win0_5.blk t).view.emb (ix2 y0 y1) = ix2 ⟨t.val * 512 + y0.val, by have := points t; omega⟩ y1 := by
    blk_ext [hi]
  rw [after0_5, e]
  frame_out
  pointwise [k0_pay7, k0_pay4, proj]
  simp only [xblk, gblk, wblk, ← Nat.add_assoc, Nat.reduceAdd]

set_option maxRecDepth 16384 in
theorem final6 (c : Dev nD) : (dats m 0 c).arrAt 6 cfg0.N
    = shapeCast _ (extractStridedSlice Cert.Reference2Ideal.S20x4096x256 ![0, 0, 0] (extractStridedSlice Cert.Reference2Ideal.S20x4096x768 ![0, 0, 2048]
        (proj (m ((c.tc : Thread nD τ).loc main_arg0)) (m ((c.tc : Thread nD τ).loc main_arg1)) (m ((c.tc : Thread nD τ).loc main_arg2)))
        Cert.Reference2Ideal.Gen.slices_S20x4096x2816_S20x4096x768_0_0_2048) Cert.Reference2Ideal.Gen.slices_S20x4096x768_S20x4096x256_0_0_0)
        Cert.Reference2Ideal.Gen.shapeCasts_S20x4096x256_S81920x256 := by
  refine (dats m 0 c).arrAt_eq_of_covers 6 _ (by decide +kernel) fun t hf y => ?_
  blk_simp
  revert y
  intro (y : S512x256.Idx)
  idx_vars y
  have hi := (by decide +kernel : ∀ t : Fin grid0.N, win0_6.index t = ![t.val, 0]) t
  have e : (win0_6.blk t).view.emb (ix2 y0 y1) = ix2 ⟨t.val * 512 + y0.val, by have := points t; omega⟩ y1 := by
    blk_ext [hi]
  rw [after0_6, e]
  frame_out
  pointwise [k0_pay1, k0_pay8, k0_pay9, k0_pay4, proj]
  simp only [xblk, gblk, wblk, ← Nat.add_assoc, Nat.reduceAdd]

set_option maxRecDepth 16384 in
theorem final7 (c : Dev nD) : (dats m 0 c).arrAt 7 cfg0.N
    = shapeCast _ (extractStridedSlice Cert.Reference2Ideal.S20x4096x256 ![0, 0, 256] (extractStridedSlice Cert.Reference2Ideal.S20x4096x768 ![0, 0, 2048]
        (proj (m ((c.tc : Thread nD τ).loc main_arg0)) (m ((c.tc : Thread nD τ).loc main_arg1)) (m ((c.tc : Thread nD τ).loc main_arg2)))
        Cert.Reference2Ideal.Gen.slices_S20x4096x2816_S20x4096x768_0_0_2048) Cert.Reference2Ideal.Gen.slices_S20x4096x768_S20x4096x256_0_0_256)
        Cert.Reference2Ideal.Gen.shapeCasts_S20x4096x256_S81920x256 := by
  refine (dats m 0 c).arrAt_eq_of_covers 7 _ (by decide +kernel) fun t hf y => ?_
  blk_simp
  revert y
  intro (y : S512x256.Idx)
  idx_vars y
  have hi := (by decide +kernel : ∀ t : Fin grid0.N, win0_7.index t = ![t.val, 0]) t
  have e : (win0_7.blk t).view.emb (ix2 y0 y1) = ix2 ⟨t.val * 512 + y0.val, by have := points t; omega⟩ y1 := by
    blk_ext [hi]
  rw [after0_7, e]
  frame_out
  pointwise [k0_pay2, k0_pay9, k0_pay4, proj]
  simp only [xblk, gblk, wblk, ← Nat.add_assoc, Nat.reduceAdd]

set_option maxRecDepth 16384 in
theorem final8 (c : Dev nD) : (dats m 0 c).arrAt 8 cfg0.N
    = shapeCast _ (extractStridedSlice Cert.Reference2Ideal.S20x4096x256 ![0, 0, 512] (extractStridedSlice Cert.Reference2Ideal.S20x4096x768 ![0, 0, 2048]
        (proj (m ((c.tc : Thread nD τ).loc main_arg0)) (m ((c.tc : Thread nD τ).loc main_arg1)) (m ((c.tc : Thread nD τ).loc main_arg2)))
        Cert.Reference2Ideal.Gen.slices_S20x4096x2816_S20x4096x768_0_0_2048) Cert.Reference2Ideal.Gen.slices_S20x4096x768_S20x4096x256_0_0_512)
        Cert.Reference2Ideal.Gen.shapeCasts_S20x4096x256_S81920x256 := by
  refine (dats m 0 c).arrAt_eq_of_covers 8 _ (by decide +kernel) fun t hf y => ?_
  blk_simp
  revert y
  intro (y : S512x256.Idx)
  idx_vars y
  have hi := (by decide +kernel : ∀ t : Fin grid0.N, win0_8.index t = ![t.val, 0]) t
  have e : (win0_8.blk t).view.emb (ix2 y0 y1) = ix2 ⟨t.val * 512 + y0.val, by have := points t; omega⟩ y1 := by
    blk_ext [hi]
  rw [after0_8, e]
  frame_out
  pointwise [k0_pay3, k0_pay9, k0_pay4, proj]
  simp only [xblk, gblk, wblk, ← Nat.add_assoc, Nat.reduceAdd]

/-- From memories that agree on the arguments, the kernel's six results are the reference's. -/
theorem results : Cert.algebraic_Kernel2Ideal_Reference2Ideal := by
  intro m g m' g' _ hm
  refine ⟨fun c => (dats m 0 c).arrAt 3 cfg0.N, fun c => (dats m 0 c).arrAt 4 cfg0.N, fun c => (dats m 0 c).arrAt 5 cfg0.N,
    fun c => (dats m 0 c).arrAt 6 cfg0.N, fun c => (dats m 0 c).arrAt 7 cfg0.N, fun c => (dats m 0 c).arrAt 8 cfg0.N,
    run_blocks m g, ?_⟩
  refine (θ_run Cert.Reference2Ideal.defs _ _).mono (fun r h c => ?_) (Cert.Reference2Ideal.Value.run (F := Ideal) m' g')
  obtain ⟨h0, h1, h2, h3, h4, h5, ha⟩ := h c
  obtain ⟨e0, e1, e2⟩ := hm c
  rw [e0, e1, e2] at h0 h1 h2 h3 h4 h5
  exact ⟨h0.trans (final3 m c).symm, h1.trans (final4 m c).symm, h2.trans (final5 m c).symm, h3.trans (final6 m c).symm,
    h4.trans (final7 m c).symm, h5.trans (final8 m c).symm, ha⟩

end Cert.Kernel2Ideal.Value

end
-- ==== Proof.MlpSpec.lean ====
/- The output projection and feed-forward layer of one token, entry by entry, and the reference's term read as it. -/
module

public import proofs.«01_k».proof.Defs
public import proofs.«01_k».proof.Proof.Gen.ReferenceIdeal.Run
public import Idealize.ShloMosaic.Lib.Pipeline.ValueKit
public import Idealize.ShloMosaic.Lib.Pointwise

@[expose] public section

noncomputable section

namespace Cert.ReferenceIdeal.Value

open Idealize.ShloMosaic Idealize.ShloMosaic.TpuEff Idealize.SL Idealize.SL.Sem Idealize.ShloMosaic.StableHlo
open Cert.ReferenceIdeal Cert.ReferenceIdeal.Gen

/-- A sum over four stretches of equal length, stretch by stretch. -/
theorem sum_quarters (n : ℕ) {N : ℕ} [h : Fact (N = n + n + n + n)] (f : Fin N → EReal) :
    ∑ k, f k = (∑ k : Fin n, f ⟨k.val, by have := h.out; omega⟩) + (∑ k : Fin n, f ⟨n + k.val, by have := h.out; omega⟩)
      + (∑ k : Fin n, f ⟨n + n + k.val, by have := h.out; omega⟩) + (∑ k : Fin n, f ⟨n + n + n + k.val, by have := h.out; omega⟩) := by
  obtain ⟨rfl⟩ := h
  rw [Fin.sum_univ_add, Fin.sum_univ_add, Fin.sum_univ_add]
  rfl

instance : Fact (1024 = 256 + 256 + 256 + 256) := ⟨rfl⟩
instance : Fact (4096 = 1024 + 1024 + 1024 + 1024) := ⟨rfl⟩

/-- Entry `k` of a mixer's output for one token, scaled to unit root mean square over its group, times the gain's row. -/
def nrm (Y : FVec Ideal S20x4096x256 .f32) (G : FVec Ideal S4x256 .f32) (i : Fin 4) (b : Fin 20) (s : Fin 4096) (k : Fin 256) : EReal :=
  Y (ix3 b s k) * Ideal.rsqrt (Ideal.div (∑ k, Y (ix3 b s k) * Y (ix3 b s k)) (Ideal.ofBits .f32 0x43800000#32)
    + Ideal.ofBits .f32 0x358637BD#32) * G (ix2 i k)

variable (X : FVec Ideal S20x4096x1024 .f32) (Y0 Y1 Y2 Y3 : FVec Ideal S20x4096x256 .f32) (G : FVec Ideal S4x256 .f32)
  (Wo : FVec Ideal S1024x1024 .f32) (g : FVec Ideal S1024 .f32) (W1 : FVec Ideal S1024x4096 .f32) (W2 : FVec Ideal S4096x1024 .f32)

/-- The token after the mixers: the residual plus the four groups' projections. -/
def mix (b : Fin 20) (s : Fin 4096) (d : Fin 1024) : EReal :=
  X (ix3 b s d) + (∑ k : Fin 256, nrm Y0 G 0 b s k * Wo (ix2 ⟨k.val, by omega⟩ d))
    + (∑ k : Fin 256, nrm Y1 G 1 b s k * Wo (ix2 ⟨256 + k.val, by omega⟩ d))
    + (∑ k : Fin 256, nrm Y2 G 2 b s k * Wo (ix2 ⟨512 + k.val, by omega⟩ d))
    + (∑ k : Fin 256, nrm Y3 G 3 b s k * Wo (ix2 ⟨768 + k.val, by omega⟩ d))

/-- A row scaled to unit root mean square over the 1024 entries, times the gain. -/
def rms (x : Fin 1024 → EReal) (d : Fin 1024) : EReal :=
  x d * Ideal.rsqrt (Ideal.div (∑ k, x k * x k) (Ideal.ofBits .f32 0x44800000#32) + Ideal.ofBits .f32 0x358637BD#32) * g (ix1 d)

/-- One hidden unit's contribution to entry `e`: the squared positive part of its pre-activation times its weight. -/
def unit (h : Fin 1024 → EReal) (f : Fin 4096) (e : Fin 1024) : EReal :=
  max (∑ d, h d * W1 (ix2 d f)) 0 * max (∑ d, h d * W1 (ix2 d f)) 0 * W2 (ix2 f e)

/-- The reference's scaled group. -/
def refN (Y : FVec Ideal S20x4096x256 .f32) (r : FVec Ideal S1x256 .f32) : FVec Ideal S20x4096x256 .f32 :=
  mulf (mulf Y (broadcastInDim S20x4096x256 ![0, 1, 2] bcast_S20x4096x1_S20x4096x256_0_1_2 (Host.rsqrt (addf (Host.divf (broadcastInDim S20x4096x1 ![0, 1] bcast_S20x4096_S20x4096x1_0_1 (Host.reduceAdd (mulf Y Y) (constant S_ .f32 0x00000000#32) reducesTo_S20x4096x256_S20x4096_d2 h_S_)) (broadcastInDim S20x4096x1 ![] bcast_S_S20x4096x1 (constant S_ .f32 0x43800000#32))) (broadcastInDim S20x4096x1 ![] bcast_S_S20x4096x1 (constant S_ .f32 0x358637BD#32)))))) (broadcastInDim S20x4096x256 ![0, 1, 2] bcast_S1x1x256_S20x4096x256_0_1_2 (broadcastInDim S1x1x256 ![2] bcast_S256_S1x1x256_2 (shapeCast S256 r shapeCasts_S1x256_S256)))

/-- The reference's token after the mixers. -/
def refX : FVec Ideal S20x4096x1024 .f32 :=
  addf X (Host.dotGeneral dot_S20x4096x1024_S1024x1024_S20x4096x1024_2_0_01_1_n_n none (concatenate S20x4096x1024 2
    [⟨S20x4096x256, refN Y0 (extractStridedSlice S1x256 ![0, 0] G slices_S4x256_S1x256_0_0)⟩,
     ⟨S20x4096x256, refN Y1 (extractStridedSlice S1x256 ![1, 0] G slices_S4x256_S1x256_1_0)⟩,
     ⟨S20x4096x256, refN Y2 (extractStridedSlice S1x256 ![2, 0] G slices_S4x256_S1x256_2_0)⟩,
     ⟨S20x4096x256, refN Y3 (extractStridedSlice S1x256 ![3, 0] G slices_S4x256_S1x256_3_0)⟩]
    concatenates_S20x4096x256_S20x4096x256_S20x4096x256_S20x4096x256_S20x4096x1024_d2) Wo)

/-- The reference's scaled token. -/
def refH (x : FVec Ideal S20x4096x1024 .f32) : FVec Ideal S20x4096x1024 .f32 :=
  mulf (mulf x (broadcastInDim S20x4096x1024 ![0, 1, 2] bcast_S20x4096x1_S20x4096x1024_0_1_2 (Host.rsqrt (addf (Host.divf (broadcastInDim S20x4096x1 ![0, 1] bcast_S20x4096_S20x4096x1_0_1 (Host.reduceAdd (mulf x x) (constant S_ .f32 0x00000000#32) reducesTo_S20x4096x1024_S20x4096_d2 h_S_)) (broadcastInDim S20x4096x1 ![] bcast_S_S20x4096x1 (constant S_ .f32 0x44800000#32))) (broadcastInDim S20x4096x1 ![] bcast_S_S20x4096x1 (constant S_ .f32 0x358637BD#32)))))) (broadcastInDim S20x4096x1024 ![0, 1, 2] bcast_S1x1x1024_S20x4096x1024_0_1_2 (broadcastInDim S1x1x1024 ![2] bcast_S1024_S1x1x1024_2 g))

/-- The reference's hidden units before squaring. -/
def refA (h : FVec Ideal S20x4096x1024 .f32) : FVec Ideal S20x4096x4096 .f32 :=
  maximumf (Host.dotGeneral dot_S20x4096x1024_S1024x4096_S20x4096x4096_2_0_01_1_n_n none h W1)
    (broadcastInDim S20x4096x4096 ![] bcast_S_S20x4096x4096 (constant S_ .f32 0x00000000#32))

/-- The reference's result. -/
def refO (x : FVec Ideal S20x4096x1024 .f32) : FVec Ideal S81920x1024 .f32 :=
  shapeCast S81920x1024 (addf x (Host.dotGeneral dot_S20x4096x4096_S4096x1024_S20x4096x1024_2_0_01_1_n_n none
    (mulf (refA W1 (refH g x)) (refA W1 (refH g x))) W2)) shapeCasts_S20x4096x1024_S81920x1024

theorem refN_at (Y : FVec Ideal S20x4096x256 .f32) (r : FVec Ideal S1x256 .f32) (b : Fin 20) (s : Fin 4096) (k : Fin 256) :
    refN Y r (ix3 b s k) = Y (ix3 b s k) * Ideal.rsqrt (Ideal.div (∑ k, Y (ix3 b s k) * Y (ix3 b s k)) (Ideal.ofBits .f32 0x43800000#32)
    + Ideal.ofBits .f32 0x358637BD#32) * r (ix2 0 k) := by
  pointwise [refN]

set_option maxRecDepth 16384 in
theorem refX_at (b : Fin 20) (s : Fin 4096) (d : Fin 1024) :
    refX X Y0 Y1 Y2 Y3 G Wo (ix3 b s d) = mix X Y0 Y1 Y2 Y3 G Wo b s d := by
  unfold mix nrm
  pointwise [refX, refN_at]
  rw [sum_quarters 256]
  simp only [add_assoc]
  congr 1

theorem refH_at (x : FVec Ideal S20x4096x1024 .f32) (b : Fin 20) (s : Fin 4096) (d : Fin 1024) :
    refH g x (ix3 b s d) = rms g (fun d => x (ix3 b s d)) d := by
  pointwise [refH, rms]

theorem refA_at (h : FVec Ideal S20x4096x1024 .f32) (b : Fin 20) (s : Fin 4096) (f : Fin 4096) :
    refA W1 h (ix3 b s f) = max (∑ d, h (ix3 b s d) * W1 (ix2 d f)) 0 := by
  pointwise [refA]

theorem refO_at (x : FVec Ideal S20x4096x1024 .f32) (i : Fin 81920) (e : Fin 1024) :
    refO g W1 W2 x (ix2 i e) = x (ix3 ⟨i.val / 4096, by omega⟩ ⟨i.val % 4096, Nat.mod_lt _ (by decide)⟩ e)
      + ∑ f, unit W1 W2 (rms g fun d => x (ix3 ⟨i.val / 4096, by omega⟩ ⟨i.val % 4096, Nat.mod_lt _ (by decide)⟩ d)) f e := by
  pointwise [refO, refA_at, refH_at, unit]

/-- The reference's composed term is the layer written step by step. -/
theorem res_eq (m : (ℓ : Loc nD τ sig) → Buf (Elt Ideal) ℓ) (c : Dev nD) :
    res_main_v81 m c = refO (m ((c.tc : Thread nD τ).loc main_arg7)) (m ((c.tc : Thread nD τ).loc main_arg8)) (m ((c.tc : Thread nD τ).loc main_arg9))
      (refX (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6))) := rfl

end Cert.ReferenceIdeal.Value

end
-- ==== Proof.MlpBody.lean ====
/- The result of the output projection and feed-forward call, read off the kernel's blocks and set beside the reference. -/
module

public import proofs.«01_k».proof.Defs
public import proofs.«01_k».proof.Proof.Gen.KernelIdeal.Value
public import proofs.«01_k».proof.Proof.MlpSpec
public import Idealize.ShloMosaic.Lib.Pipeline.ValueKit
public import Idealize.ShloMosaic.Lib.Pointwise

@[expose] public section

noncomputable section

namespace Cert.KernelIdeal.Value

open Idealize.ShloMosaic Idealize.ShloMosaic.TpuEff Idealize.SL Idealize.SL.Sem Idealize.ShloMosaic.StableHlo
open Idealize.ShloMosaic.Pipeline Cert.KernelIdeal Cert.KernelIdeal.Gen

variable (m : (ℓ : Loc nD τ sig) → Buf (Elt Ideal) ℓ)

theorem V_v0 (c : Dev nD) : V m c main_v0 = shapeCast S81920x256 (m ((c.tc : Thread nD τ).loc main_arg1) : FVec Ideal S20x4096x256 .f32) Gen.shapeCasts_S20x4096x256_S81920x256 := by
  dsimp only [V]
  after_results <;> rfl

theorem V_v1 (c : Dev nD) : V m c main_v1 = shapeCast S81920x256 (m ((c.tc : Thread nD τ).loc main_arg2) : FVec Ideal S20x4096x256 .f32) Gen.shapeCasts_S20x4096x256_S81920x256 := by
  dsimp only [V]
  after_results <;> rfl

theorem V_v2 (c : Dev nD) : V m c main_v2 = shapeCast S81920x256 (m ((c.tc : Thread nD τ).loc main_arg3) : FVec Ideal S20x4096x256 .f32) Gen.shapeCasts_S20x4096x256_S81920x256 := by
  dsimp only [V]
  after_results <;> rfl

theorem V_v3 (c : Dev nD) : V m c main_v3 = shapeCast S81920x256 (m ((c.tc : Thread nD τ).loc main_arg4) : FVec Ideal S20x4096x256 .f32) Gen.shapeCasts_S20x4096x256_S81920x256 := by
  dsimp only [V]
  after_results <;> rfl

theorem V_v4 (c : Dev nD) : V m c main_v4 = shapeCast S81920x1024 (m ((c.tc : Thread nD τ).loc main_arg0) : FVec Ideal S20x4096x1024 .f32) Gen.shapeCasts_S20x4096x1024_S81920x1024 := by
  dsimp only [V]
  after_results <;> rfl

theorem V_v5 (c : Dev nD) : V m c main_v5 = (m ((c.tc : Thread nD τ).loc main_arg6) : FVec Ideal S1024x1024 .f32) := by
  dsimp only [V]
  after_results <;> rfl

theorem V_v6 (c : Dev nD) : V m c main_v6 = (m ((c.tc : Thread nD τ).loc main_arg8) : FVec Ideal S1024x4096 .f32) := by
  dsimp only [V]
  after_results <;> rfl

theorem V_v7 (c : Dev nD) : V m c main_v7 = (m ((c.tc : Thread nD τ).loc main_arg9) : FVec Ideal S4096x1024 .f32) := by
  dsimp only [V]
  after_results <;> rfl

theorem V_v8 (c : Dev nD) : V m c main_v8 = shapeCast S1x1024 (m ((c.tc : Thread nD τ).loc main_arg7) : FVec Ideal S1024 .f32) Gen.shapeCasts_S1024_S1x1024 := by
  dsimp only [V]
  after_results <;> rfl

theorem points (t : Fin cfg0.N) : t.val < 320 := lt_of_lt_of_eq t.isLt (by decide : cfg0.N = 320)

/-- The sequence of row `r` of the row block of point `t`. -/
abbrev sq (t : Fin cfg0.N) (r : Fin 1024) : Fin 20 := ⟨(t.val / 4 * 1024 + r.val) / 4096, by have := points t; omega⟩

/-- The place in its sequence of row `r` of the row block of point `t`. -/
abbrev pl (t : Fin cfg0.N) (r : Fin 1024) : Fin 4096 := ⟨(t.val / 4 * 1024 + r.val) % 4096, Nat.mod_lt _ (by decide)⟩

theorem cast_wide (x : FVec Ideal S20x4096x1024 .f32) (i : Fin 81920) (k : Fin 1024) :
    shapeCast S81920x1024 x Gen.shapeCasts_S20x4096x1024_S81920x1024 (ix2 i k)
      = x (ix3 ⟨i.val / 4096, by omega⟩ ⟨i.val % 4096, Nat.mod_lt _ (by decide)⟩ k) := by
  pointwise

theorem cast_group (x : FVec Ideal S20x4096x256 .f32) (i : Fin 81920) (k : Fin 256) :
    shapeCast S81920x256 x Gen.shapeCasts_S20x4096x256_S81920x256 (ix2 i k)
      = x (ix3 ⟨i.val / 4096, by omega⟩ ⟨i.val % 4096, Nat.mod_lt _ (by decide)⟩ k) := by
  pointwise

theorem cast_gain (x : FVec Ideal S1024 .f32) (k : Fin 1024) :
    shapeCast S1x1024 x Gen.shapeCasts_S1024_S1x1024 (ix2 0 k) = x (ix1 k) := by
  pointwise

theorem xblk (c : Dev nD) (t : Fin cfg0.N) (r : Fin 1024) (k : Fin 1024) :
    iblk m c 0 t (ix2 r k) = m ((c.tc : Thread nD τ).loc main_arg0) (ix3 (sq t r) (pl t r) k) := by
  have hi := (by decide +kernel : ∀ t : Fin grid0.N, win0_0.index t = ![t.val / 4, 0]) t
  have e : (win0_0.blk t).view.emb (ix2 r k) = ix2 ⟨t.val / 4 * 1024 + r.val, by have := points t; omega⟩ k := by
    blk_ext [hi]
  show V m c main_v4 ((win0_0.blk t).view.emb (ix2 r k)) = _
  rw [e, V_v4]
  exact cast_wide _ _ _

theorem yblk0 (c : Dev nD) (t : Fin cfg0.N) (r : Fin 1024) (k : Fin 256) :
    iblk m c 1 t (ix2 r k) = m ((c.tc : Thread nD τ).loc main_arg1) (ix3 (sq t r) (pl t r) k) := by
  have hi := (by decide +kernel : ∀ t : Fin grid0.N, win0_1.index t = ![t.val / 4, 0]) t
  have e : (win0_1.blk t).view.emb (ix2 r k) = ix2 ⟨t.val / 4 * 1024 + r.val, by have := points t; omega⟩ k := by
    blk_ext [hi]
  show V m c main_v0 ((win0_1.blk t).view.emb (ix2 r k)) = _
  rw [e, V_v0]
  exact cast_group _ _ _

theorem yblk1 (c : Dev nD) (t : Fin cfg0.N) (r : Fin 1024) (k : Fin 256) :
    iblk m c 2 t (ix2 r k) = m ((c.tc : Thread nD τ).loc main_arg2) (ix3 (sq t r) (pl t r) k) := by
  have hi := (by decide +kernel : ∀ t : Fin grid0.N, win0_2.index t = ![t.val / 4, 0]) t
  have e : (win0_2.blk t).view.emb (ix2 r k) = ix2 ⟨t.val / 4 * 1024 + r.val, by have := points t; omega⟩ k := by
    blk_ext [hi]
  show V m c main_v1 ((win0_2.blk t).view.emb (ix2 r k)) = _
  rw [e, V_v1]
  exact cast_group _ _ _

theorem yblk2 (c : Dev nD) (t : Fin cfg0.N) (r : Fin 1024) (k : Fin 256) :
    iblk m c 3 t (ix2 r k) = m ((c.tc : Thread nD τ).loc main_arg3) (ix3 (sq t r) (pl t r) k) := by
  have hi := (by decide +kernel : ∀ t : Fin grid0.N, win0_3.index t = ![t.val / 4, 0]) t
  have e : (win0_3.blk t).view.emb (ix2 r k) = ix2 ⟨t.val / 4 * 1024 + r.val, by have := points t; omega⟩ k := by
    blk_ext [hi]
  show V m c main_v2 ((win0_3.blk t).view.emb (ix2 r k)) = _
  rw [e, V_v2]
  exact cast_group _ _ _

theorem yblk3 (c : Dev nD) (t : Fin cfg0.N) (r : Fin 1024) (k : Fin 256) :
    iblk m c 4 t (ix2 r k) = m ((c.tc : Thread nD τ).loc main_arg4) (ix3 (sq t r) (pl t r) k) := by
  have hi := (by decide +kernel : ∀ t : Fin grid0.N, win0_4.index t = ![t.val / 4, 0]) t
  have e : (win0_4.blk t).view.emb (ix2 r k) = ix2 ⟨t.val / 4 * 1024 + r.val, by have := points t; omega⟩ k := by
    blk_ext [hi]
  show V m c main_v3 ((win0_4.blk t).view.emb (ix2 r k)) = _
  rw [e, V_v3]
  exact cast_group _ _ _

theorem ggblk (c : Dev nD) (t : Fin cfg0.N) (i : Fin 4) (k : Fin 256) :
    iblk m c 5 t (ix2 i k) = m ((c.tc : Thread nD τ).loc main_arg5) (ix2 i k) := by
  have hi := (by decide +kernel : ∀ t : Fin grid0.N, win0_5.index t = ![0, 0]) t
  have e : (win0_5.blk t).view.emb (ix2 i k) = ix2 i k := by
    blk_ext [hi]
  show V m c main_arg5 ((win0_5.blk t).view.emb (ix2 i k)) = _
  rw [e, V_main_arg5]

theorem woblk (c : Dev nD) (t : Fin cfg0.N) (i k : Fin 1024) :
    iblk m c 6 t (ix2 i k) = m ((c.tc : Thread nD τ).loc main_arg6) (ix2 i k) := by
  have hi := (by decide +kernel : ∀ t : Fin grid0.N, win0_6.index t = ![0, 0]) t
  have e : (win0_6.blk t).view.emb (ix2 i k) = ix2 i k := by
    blk_ext [hi]
  show V m c main_v5 ((win0_6.blk t).view.emb (ix2 i k)) = _
  rw [e, V_v5]

theorem gblk (c : Dev nD) (t : Fin cfg0.N) (k : Fin 1024) :
    iblk m c 7 t (ix2 0 k) = m ((c.tc : Thread nD τ).loc main_arg7) (ix1 k) := by
  have hi := (by decide +kernel : ∀ t : Fin grid0.N, win0_7.index t = ![0, 0]) t
  have e : (win0_7.blk t).view.emb (ix2 0 k) = ix2 0 k := by
    blk_ext [hi]
  show V m c main_v8 ((win0_7.blk t).view.emb (ix2 0 k)) = _
  rw [e, V_v8]
  exact cast_gain _ _

/-- Hidden unit `f` of the tile of point `t`. -/
abbrev hid (t : Fin cfg0.N) (f : Fin 1024) : Fin 4096 := ⟨t.val % 4 * 1024 + f.val, by have := Nat.mod_lt t.val (show 0 < 4 by decide); omega⟩

theorem w1blk (c : Dev nD) (t : Fin cfg0.N) (d f : Fin 1024) :
    iblk m c 8 t (ix2 d f) = m ((c.tc : Thread nD τ).loc main_arg8) (ix2 d (hid t f)) := by
  have hi := (by decide +kernel : ∀ t : Fin grid0.N, win0_8.index t = ![0, t.val % 4]) t
  have e : (win0_8.blk t).view.emb (ix2 d f) = ix2 d (hid t f) := by
    blk_ext [hi]
  show V m c main_v6 ((win0_8.blk t).view.emb (ix2 d f)) = _
  rw [e, V_v6]

theorem w2blk (c : Dev nD) (t : Fin cfg0.N) (f e : Fin 1024) :
    iblk m c 9 t (ix2 f e) = m ((c.tc : Thread nD τ).loc main_arg9) (ix2 (hid t f) e) := by
  have hi := (by decide +kernel : ∀ t : Fin grid0.N, win0_9.index t = ![t.val % 4, 0]) t
  have h : (win0_9.blk t).view.emb (ix2 f e) = ix2 (hid t f) e := by
    blk_ext [hi]
  show V m c main_v7 ((win0_9.blk t).view.emb (ix2 f e)) = _
  rw [h, V_v7]

/-! ## The body's arithmetic at an index -/

theorem pay1_at (v : FVec Ideal S1024x1024 .f32) (n : FVec Ideal S1024x256 .bf16) (w : FVec Ideal S256x1024 .bf16) (r d : Fin 1024) :
    k0_pay1 v n w (ix2 r d) = v (ix2 r d) + ∑ k : Fin 256, n (ix2 r k) * w (ix2 k d) := by
  pointwise [k0_pay1]

theorem pay2_at (v : FVec Ideal S1024x1024 .f32) (n : FVec Ideal S1024x256 .bf16) (w : FVec Ideal S256x1024 .bf16) (g : FVec Ideal S1x1024 .f32) (r d : Fin 1024) :
    k0_pay2 v n w g (ix2 r d) = k0_pay1 v n w (ix2 r d) * Ideal.rsqrt (Ideal.div (∑ k, k0_pay1 v n w (ix2 r k) * k0_pay1 v n w (ix2 r k))
      (Ideal.ofBits .f32 0x44800000#32) + Ideal.ofBits .f32 0x358637BD#32) * g (ix2 0 d) := by
  pointwise [k0_pay2]

theorem pay3_at (h : FVec Ideal S1024x1024 .bf16) (w1 : FVec Ideal S1024x1024 .bf16) (o : FVec Ideal S1024x1024 .f32) (w2 : FVec Ideal S1024x1024 .bf16) (r e : Fin 1024) :
    k0_pay3 h w1 o w2 (ix2 r e) = o (ix2 r e) + ∑ f : Fin 1024, max (∑ d, h (ix2 r d) * w1 (ix2 d f)) 0 * max (∑ d, h (ix2 r d) * w1 (ix2 d f)) 0 * w2 (ix2 f e) := by
  pointwise [k0_pay3]

theorem pay4_at (x : FVec Ideal S1024x1024 .f32) (y : FVec Ideal S1024x256 .f32) (g : FVec Ideal S1x256 .f32) (w : FVec Ideal S256x1024 .bf16) (r d : Fin 1024) :
    k0_pay4 x y g w (ix2 r d) = x (ix2 r d) + ∑ k : Fin 256, (y (ix2 r k) * Ideal.rsqrt (Ideal.div (∑ k, y (ix2 r k) * y (ix2 r k))
      (Ideal.ofBits .f32 0x43800000#32) + Ideal.ofBits .f32 0x358637BD#32) * g (ix2 0 k)) * w (ix2 k d) := by
  pointwise [k0_pay4]

theorem pay5_at (y : FVec Ideal S1024x256 .f32) (g : FVec Ideal S1x256 .f32) (r : Fin 1024) (k : Fin 256) :
    (k0_pay5 (F := Ideal) y g (ix2 r k) : EReal) = (y (ix2 r k) : EReal) * Ideal.rsqrt (Ideal.div (∑ k, y (ix2 r k) * y (ix2 r k))
      (Ideal.ofBits .f32 0x43800000#32) + Ideal.ofBits .f32 0x358637BD#32) * g (ix2 0 k) := by
  pointwise [k0_pay5]

theorem pay7_at (y : FVec Ideal S1024x256 .f32) (g : FVec Ideal S1x256 .f32) (r : Fin 1024) (k : Fin 256) :
    (k0_pay7 (F := Ideal) y g (ix2 r k) : EReal) = (y (ix2 r k) : EReal) * Ideal.rsqrt (Ideal.div (∑ k, y (ix2 r k) * y (ix2 r k))
      (Ideal.ofBits .f32 0x43800000#32) + Ideal.ofBits .f32 0x358637BD#32) * g (ix2 0 k) := by
  pointwise [k0_pay7]

theorem pay6_at (x : FVec Ideal S1024x1024 .f32) (n : FVec Ideal S1024x256 .bf16) (w : FVec Ideal S256x1024 .bf16) (y : FVec Ideal S1024x256 .f32) (g : FVec Ideal S1x256 .f32) (w' : FVec Ideal S256x1024 .bf16) (r d : Fin 1024) :
    k0_pay6 x n w y g w' (ix2 r d) = x (ix2 r d) + (∑ k : Fin 256, n (ix2 r k) * w (ix2 k d))
      + ∑ k : Fin 256, (y (ix2 r k) * Ideal.rsqrt (Ideal.div (∑ k, y (ix2 r k) * y (ix2 r k))
      (Ideal.ofBits .f32 0x43800000#32) + Ideal.ofBits .f32 0x358637BD#32) * g (ix2 0 k)) * w' (ix2 k d) := by
  pointwise [k0_pay6]

/-! ## What the buffers hold after each point -/

/-- The token after the mixers, of row `r` of point `t`'s row block. -/
abbrev mixAt (c : Dev nD) (t : Fin cfg0.N) (r d : Fin 1024) : EReal :=
  Cert.ReferenceIdeal.Value.mix (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (sq t r) (pl t r) d

/-- The scaled token of row `r` of point `t`'s row block. -/
abbrev rmsAt (c : Dev nD) (t : Fin cfg0.N) (r d : Fin 1024) : EReal :=
  Cert.ReferenceIdeal.Value.rms (m ((c.tc : Thread nD τ).loc main_arg7)) (mixAt m c t r) d

/-- What the hidden tile of point `t` adds to entry `e` of row `r`. -/
abbrev tileAt (c : Dev nD) (t : Fin cfg0.N) (r e : Fin 1024) : EReal :=
  ∑ f : Fin 1024, Cert.ReferenceIdeal.Value.unit (m ((c.tc : Thread nD τ).loc main_arg8)) (m ((c.tc : Thread nD τ).loc main_arg9))
    (rmsAt m c t r) (hid t f) e

set_option maxRecDepth 16384 in
/-- The first point's mixed token. -/
theorem mixed (c : Dev nD) (t : Fin cfg0.N) (r d : Fin 1024) :
    k0_pay1
        (k0_pay6
          (k0_pay4 (iblk m c 0 t) (iblk m c 1 t)
            (View.ld (iblk m c 5 t) (Rect.unit ![0, 0] ![1, 256] inb_S4x256_S1x256_0_0))
            (View.ld (iblk m c 6 t) (Rect.unit ![0, 0] ![256, 1024] inb_S1024x1024_S256x1024_0_0)))
          (k0_pay5 (iblk m c 2 t) (View.ld (iblk m c 5 t) (Rect.unit ![1, 0] ![1, 256] inb_S4x256_S1x256_1_0)))
          (View.ld (iblk m c 6 t) (Rect.unit ![256, 0] ![256, 1024] inb_S1024x1024_S256x1024_256_0)) (iblk m c 3 t)
          (View.ld (iblk m c 5 t) (Rect.unit ![2, 0] ![1, 256] inb_S4x256_S1x256_2_0))
          (View.ld (iblk m c 6 t) (Rect.unit ![512, 0] ![256, 1024] inb_S1024x1024_S256x1024_512_0)))
        (k0_pay7 (iblk m c 4 t) (View.ld (iblk m c 5 t) (Rect.unit ![3, 0] ![1, 256] inb_S4x256_S1x256_3_0)))
        (View.ld (iblk m c 6 t) (Rect.unit ![768, 0] ![256, 1024] inb_S1024x1024_S256x1024_768_0)) (ix2 r d)
      = mixAt m c t r d := by
  unfold mixAt Cert.ReferenceIdeal.Value.mix Cert.ReferenceIdeal.Value.nrm
  rw [pay1_at, pay6_at, pay4_at]
  simp only [pay5_at, pay7_at]
  pointwise
  simp only [xblk, yblk0, yblk1, yblk2, yblk3, ggblk, woblk]

theorem pay2_eq (v : FVec Ideal S1024x1024 .f32) (n : FVec Ideal S1024x256 .bf16) (w : FVec Ideal S256x1024 .bf16) (g : FVec Ideal S1x1024 .f32) (r : Fin 1024)
    (x : Fin 1024 → EReal) (hx : ∀ d, k0_pay1 v n w (ix2 r d) = x d) (gg : FVec Ideal S1024 .f32) (hg : ∀ d, g (ix2 0 d) = gg (ix1 d)) (d : Fin 1024) :
    k0_pay2 v n w g (ix2 r d) = Cert.ReferenceIdeal.Value.rms gg x d := by
  rw [pay2_at]
  simp only [hx, hg]
  rfl

theorem pay3_eq (h : FVec Ideal S1024x1024 .bf16) (w1 : FVec Ideal S1024x1024 .bf16) (o : FVec Ideal S1024x1024 .f32) (w2 : FVec Ideal S1024x1024 .bf16)
    (r e : Fin 1024) (O : EReal) (ho : o (ix2 r e) = O) (H : Fin 1024 → EReal) (hh : ∀ d, (h (ix2 r d) : EReal) = H d)
    (W1 : FVec Ideal S1024x4096 .f32) (W2 : FVec Ideal S4096x1024 .f32) (q : Fin 1024 → Fin 4096)
    (hw1 : ∀ d f, (w1 (ix2 d f) : EReal) = W1 (ix2 d (q f))) (hw2 : ∀ f e, (w2 (ix2 f e) : EReal) = W2 (ix2 (q f) e)) :
    (k0_pay3 (F := Ideal) h w1 o w2 (ix2 r e) : EReal) = O + ∑ f : Fin 1024, Cert.ReferenceIdeal.Value.unit W1 W2 H (q f) e := by
  rw [pay3_at, ho]
  simp only [hh, hw1, hw2]
  rfl

end Cert.KernelIdeal.Value

end
-- ==== Proof.Mlp.lean ====
/- The result of the output projection and feed-forward call, read off the kernel's blocks and set beside the reference. -/
module

public import proofs.«01_k».proof.Defs
public import proofs.«01_k».proof.Proof.Gen.KernelIdeal.Value
public import proofs.«01_k».proof.Proof.MlpBody
public import Idealize.ShloMosaic.Lib.Pipeline.ValueKit
public import Idealize.ShloMosaic.Lib.Pointwise

@[expose] public section

noncomputable section

namespace Cert.KernelIdeal.Value

open Idealize.ShloMosaic Idealize.ShloMosaic.TpuEff Idealize.SL Idealize.SL.Sem Idealize.ShloMosaic.StableHlo
open Idealize.ShloMosaic.Pipeline Cert.KernelIdeal Cert.KernelIdeal.Gen

variable (m : (ℓ : Loc nD τ sig) → Buf (Elt Ideal) ℓ)

theorem first_h (c : Dev nD) (t : Fin cfg0.N) (h0 : t.val % 4 = 0) (r d : Fin 1024) :
    (outsAt0 m c t.val t.isLt).2 (ix2 r d) = rmsAt m c t r d := by
  rw [outsAt0_A m c t h0]
  frame_out
  exact pay2_eq _ _ _ _ r _ (mixed m c t r) _ (gblk m c t) d

theorem first_o (c : Dev nD) (t : Fin cfg0.N) (h0 : t.val % 4 = 0) (r e : Fin 1024) :
    (outsAt0 m c t.val t.isLt).1 (ix2 r e) = mixAt m c t r e + tileAt m c t r e := by
  rw [outsAt0_A m c t h0]
  frame_out
  exact pay3_eq _ _ _ _ r e _ (mixed m c t r e) _ (pay2_eq _ _ _ _ r _ (mixed m c t r) _ (gblk m c t)) _ _ (hid t) (w1blk m c t) (w2blk m c t)

theorem later_h (c : Dev nD) (t : Fin cfg0.N) (h0 : ¬ t.val % 4 = 0) :
    (outsAt0 m c t.val t.isLt).2 = (outsAt0 m c (t.val - 1) (Nat.lt_of_le_of_lt (Nat.sub_le _ _) t.isLt)).2 := by
  rw [outsAt0_B m c t h0]
  rfl

theorem later_o (c : Dev nD) (t : Fin cfg0.N) (h0 : ¬ t.val % 4 = 0) (r e : Fin 1024)
    (hh : ∀ d, (outsAt0 m c (t.val - 1) (Nat.lt_of_le_of_lt (Nat.sub_le _ _) t.isLt)).2 (ix2 r d) = rmsAt m c t r d) :
    (outsAt0 m c t.val t.isLt).1 (ix2 r e) = (outsAt0 m c (t.val - 1) (Nat.lt_of_le_of_lt (Nat.sub_le _ _) t.isLt)).1 (ix2 r e) + tileAt m c t r e := by
  rw [outsAt0_B m c t h0]
  frame_out
  exact pay3_eq _ _ _ _ r e _ rfl _ (fun d => (congrFun (Memref.IsWhole.read_unread _ _) _).trans (hh d)) _ _ (hid t) (w1blk m c t) (w2blk m c t)

/-- Points of one row block see the same mixed tokens. -/
theorem mixAt_congr (c : Dev nD) (r : Fin 1024) {t t' : Fin cfg0.N} (h : t.val / 4 = t'.val / 4) : mixAt m c t r = mixAt m c t' r := by
  funext d
  simp only [mixAt, sq, pl, h]

theorem rmsAt_congr (c : Dev nD) (r : Fin 1024) {t t' : Fin cfg0.N} (h : t.val / 4 = t'.val / 4) : rmsAt m c t r = rmsAt m c t' r :=
  funext fun d => congrArg (fun f => Cert.ReferenceIdeal.Value.rms _ f d) (mixAt_congr m c r h)

/-- Every point finds or leaves the scaled token in the scratch buffer. -/
theorem held_h (c : Dev nD) (r d : Fin 1024) : ∀ (n : ℕ) (hn : n < cfg0.N), (outsAt0 m c n hn).2 (ix2 r d) = rmsAt m c ⟨n, hn⟩ r d := by
  intro n
  induction n with
  | zero => exact fun hn => first_h m c ⟨0, hn⟩ rfl r d
  | succ n ih =>
    intro hn
    by_cases h0 : (n + 1) % 4 = 0
    · exact first_h m c ⟨n + 1, hn⟩ h0 r d
    · have e := congrFun (later_h m c ⟨n + 1, hn⟩ h0) (ix2 r d)
      refine (e.trans (ih (Nat.lt_of_succ_lt hn))).trans ?_
      have hq : (n + 1) / 4 = n / 4 := by omega
      exact congrFun (rmsAt_congr m c r hq.symm) d

/-- After the last tile of a row block the buffer holds the mixed token plus all four tiles' contributions. -/
theorem held_o (c : Dev nD) (t : Fin cfg0.N) (h3 : t.val % 4 = 3) (r e : Fin 1024) :
    (outsAt0 m c t.val t.isLt).1 (ix2 r e) = mixAt m c t r e + ∑ f : Fin 4096, Cert.ReferenceIdeal.Value.unit
      (m ((c.tc : Thread nD τ).loc main_arg8)) (m ((c.tc : Thread nD τ).loc main_arg9)) (rmsAt m c t r) f e := by
  have hN := points t
  have lt (k : ℕ) (hk : k ≤ t.val) : k < cfg0.N := lt_of_le_of_lt hk t.isLt
  have step (n : ℕ) (hn : n + 1 ≤ t.val) (h0 : ¬ (n + 1) % 4 = 0) :
      (outsAt0 m c (n + 1) (lt _ hn)).1 (ix2 r e) = (outsAt0 m c n (lt _ (by omega))).1 (ix2 r e) + tileAt m c ⟨n + 1, lt _ hn⟩ r e :=
    later_o m c ⟨n + 1, lt _ hn⟩ h0 r e fun d => by
      have hq : (n + 1) / 4 = n / 4 := by omega
      refine (held_h m c r d n _).trans ?_
      exact congrFun (rmsAt_congr m c r hq.symm) d
  obtain ⟨n, hn⟩ : ∃ n, t.val = n + 1 + 1 + 1 := ⟨t.val - 3, by omega⟩
  obtain ⟨_, ht⟩ := t
  subst hn
  dsimp only at h3 hN lt step ⊢
  rw [step (n + 1 + 1) (by omega) (by omega), step (n + 1) (by omega) (by omega), step n (by omega) (by omega), first_o m c ⟨n, lt _ (by omega)⟩ (by dsimp only; omega),
    Cert.ReferenceIdeal.Value.sum_quarters 1024]
  have q0 := mixAt_congr m c r (t := ⟨n, lt _ (by omega)⟩) (t' := ⟨n + 1 + 1 + 1, ht⟩) (by dsimp only; omega)
  have p0 := rmsAt_congr m c r (t := ⟨n, lt _ (by omega)⟩) (t' := ⟨n + 1 + 1 + 1, ht⟩) (by dsimp only; omega)
  have p1 := rmsAt_congr m c r (t := ⟨n + 1, lt _ (by omega)⟩) (t' := ⟨n + 1 + 1 + 1, ht⟩) (by dsimp only; omega)
  have p2 := rmsAt_congr m c r (t := ⟨n + 1 + 1, lt _ (by omega)⟩) (t' := ⟨n + 1 + 1 + 1, ht⟩) (by dsimp only; omega)
  have m0 : n % 4 = 0 := by omega
  have m1 : (n + 1) % 4 = 1 := by omega
  have m2 : (n + 1 + 1) % 4 = 2 := by omega
  rw [q0]
  simp only [tileAt]
  rw [p0, p1, p2]
  simp only [hid, m0, m1, m2, h3, Nat.zero_mul, Nat.zero_add, Nat.one_mul, Nat.reduceMul, Nat.reduceAdd, add_assoc]

/-- The kernel's result array is the reference's. -/
theorem final (c : Dev nD) : (dats m 0 c).arrAt 10 cfg0.N
    = Cert.ReferenceIdeal.Value.refO (m ((c.tc : Thread nD τ).loc main_arg7)) (m ((c.tc : Thread nD τ).loc main_arg8)) (m ((c.tc : Thread nD τ).loc main_arg9))
        (Cert.ReferenceIdeal.Value.refX (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6))) := by
  refine (dats m 0 c).arrAt_eq_of_covers 10 _ (by decide +kernel) fun t hf y => ?_
  blk_simp
  revert y
  intro (y : S1024x1024.Idx)
  idx_vars y
  have h3 : t.val % 4 = 3 := (flush0_10 t).mp hf
  have hi := (by decide +kernel : ∀ t : Fin grid0.N, win0_10.index t = ![t.val / 4, 0]) t
  have e : (win0_10.blk t).view.emb (ix2 y0 y1) = ix2 ⟨t.val / 4 * 1024 + y0.val, by have := points t; omega⟩ y1 := by
    blk_ext [hi]
  rw [after0_10, e]
  refine (held_o m c t h3 y0 y1).trans ?_
  rw [Cert.ReferenceIdeal.Value.refO_at]
  simp only [Cert.ReferenceIdeal.Value.refX_at]

/-- From memories that agree on the arguments, the kernel's result is the reference's. -/
theorem results : Cert.algebraic_KernelIdeal_ReferenceIdeal := by
  intro m g m' g' _ hm
  refine ⟨fun c => (dats m 0 c).arrAt 10 cfg0.N, run_blocks m g, ?_⟩
  refine (θ_run Cert.ReferenceIdeal.defs _ _).mono (fun r h c => ?_) (Cert.ReferenceIdeal.Value.run (F := Ideal) m' g')
  obtain ⟨h0, ha⟩ := h c
  obtain ⟨e0, e1, e2, e3, e4, e5, e6, e7, e8, e9⟩ := hm c
  rw [Cert.ReferenceIdeal.Value.res_eq, e0, e1, e2, e3, e4, e5, e6, e7, e8, e9] at h0
  exact ⟨h0.trans (final m c).symm, ha⟩

end Cert.KernelIdeal.Value

end
-- ==== Proof.RwkvPost.lean ====
/- The end of RWKV-7's mixer: the two directions' sum, normalised over each head, scaled, with the bonus and the gate, read
   off the kernel's blocks and set beside the reference. -/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

noncomputable section

namespace Cert.Kernel5Ideal.Post

open Idealize.ShloMosaic Idealize.ShloMosaic.TpuEff Idealize.SL Idealize.SL.Sem Idealize.ShloMosaic.StableHlo
open Idealize.ShloMosaic.Pipeline Cert.Kernel5Ideal Cert.Kernel5Ideal.Gen Cert.Kernel5Ideal.Value

/-- The mean of a head's channels. -/
def mean (f : Fin 4 → Fin 64 → EReal) (h : Fin 4) : EReal := Ideal.div (∑ n, f h n) (Ideal.ofBits .f32 0x42800000#32)

/-- A channel less its head's mean. -/
def cen (f : Fin 4 → Fin 64 → EReal) (h : Fin 4) (n : Fin 64) : EReal := f h n - mean f h

/-- A channel normalised over its head. -/
def norm (f : Fin 4 → Fin 64 → EReal) (h : Fin 4) (n : Fin 64) : EReal :=
  cen f h n * Ideal.rsqrt (mean (fun h n => cen f h n * cen f h n) h + Ideal.ofBits .f32 0x3A27C5AC#32)

variable (yf yb : FVec Ideal S4096x64x80 .f32) (bo g : FVec Ideal S81920x256 .f32) (w b : FVec Ideal S256 .f32)

/-- The two directions' sum at a token, head and channel. -/
def both (i : Fin 81920) (h : Fin 4) (n : Fin 64) : EReal :=
  yf (ix3 ⟨i.val % 4096, by omega⟩ n ⟨h.val * 20 + i.val / 4096, by omega⟩)
    + yb (ix3 ⟨i.val % 4096, by omega⟩ n ⟨h.val * 20 + i.val / 4096, by omega⟩)

/-- The result at one token and channel. -/
def spec (i : Fin 81920) (k : Fin 256) : EReal :=
  (norm (both yf yb i) ⟨k.val / 64, by omega⟩ ⟨k.val % 64, by omega⟩ * w (ix1 k) + b (ix1 k) + bo (ix2 i k)) * g (ix2 i k)

/-! ## Sums over a head -/

/-- The column's head, as the body computes it. -/
def colW : IVec S256x256 32 := select k0_pay9 (subi k0_pay8 (broadcast S256x256 1#32)) k0_pay8

/-- One where row and column are of one head. -/
def maskF : FVec Ideal S256x256 .f32 := sitofp .f32 (extui 32 (cmpi .eq k0_pay7 colW) natLt_1_32)

/-- The product with the mask. -/
def headSum (v : FVec Ideal S1024x256 .f32) : FVec Ideal S1024x256 .f32 :=
  matmul dot_S1024x256_S256x256_S1024x256_1_0_0_1_n_n (some .fp32) v maskF (constant S1024x256 .f32 0x00000000#32)

theorem row_word : ∀ l : Fin 256, k0_pay7 (ix2 l 0) = BitVec.ofNat 32 (l.val / 64) := by decide +kernel

theorem col_word : ∀ k : Fin 256, colW (ix2 0 k) = BitVec.ofNat 32 (k.val / 64) := by decide +kernel

theorem maskF_at (l k : Fin 256) : maskF (ix2 l k) = if l.val / 64 = k.val / 64 then (1 : EReal) else 0 := by
  have e1 : k0_pay7 (ix2 l k) = BitVec.ofNat 32 (l.val / 64) := (show k0_pay7 (ix2 l k) = k0_pay7 (ix2 l 0) from rfl).trans (row_word l)
  have e2 : colW (ix2 l k) = BitVec.ofNat 32 (k.val / 64) := (show colW (ix2 l k) = colW (ix2 0 k) from rfl).trans (col_word k)
  show (((IntOp.cmpi .eq (k0_pay7 (ix2 l k)) (colW (ix2 l k))).setWidth 32).toInt : ℝ) = ((if l.val / 64 = k.val / 64 then (1 : EReal) else 0) : EReal)
  rw [e1, e2]
  by_cases h : l.val / 64 = k.val / 64
  · rw [h, if_pos rfl]
    simp [IntOp.cmpi]
  · have h' : ¬ BitVec.ofNat 32 (l.val / 64) = BitVec.ofNat 32 (k.val / 64) := by
      intro q
      have := congrArg BitVec.toNat q
      simp only [BitVec.toNat_ofNat] at this
      omega
    rw [if_neg h]
    simp [IntOp.cmpi, beq_eq_false_iff_ne.2 h']

/-- A sum over the lanes of one head. -/
theorem sum_head (v : Fin 256 → EReal) (k : Fin 256) :
    (∑ l : Fin 256, v l * (if l.val / 64 = k.val / 64 then (1 : EReal) else 0))
      = ∑ n : Fin 64, v ⟨k.val / 64 * 64 + n.val, by omega⟩ := by
  simp only [mul_ite, mul_one, mul_zero]
  rw [← Finset.sum_filter]
  symm
  refine Finset.sum_bij (fun n _ => (⟨k.val / 64 * 64 + n.val, by omega⟩ : Fin 256)) ?_ ?_ ?_ ?_
  · intro n _
    simp only [Finset.mem_filter, Finset.mem_univ, true_and]
    omega
  · intro n _ n' _ q
    have := congrArg Fin.val q
    simp only at this
    exact Fin.ext (by omega)
  · intro l hl
    simp only [Finset.mem_filter, Finset.mem_univ, true_and] at hl
    exact ⟨⟨l.val % 64, Nat.mod_lt _ (by decide)⟩, Finset.mem_univ _, Fin.ext (by show k.val / 64 * 64 + l.val % 64 = l.val; omega)⟩
  · intro n _
    rfl

theorem headSum_at (v : FVec Ideal S1024x256 .f32) (r : Fin 1024) (k : Fin 256) :
    headSum v (ix2 r k) = ∑ n : Fin 64, v (ix2 r ⟨k.val / 64 * 64 + n.val, by omega⟩) := by
  have e : headSum v (ix2 r k) = ∑ l : Fin 256, v (ix2 r l) * maskF (ix2 l k) := by
    pointwise [headSum]
  rw [e]
  simp only [maskF_at]
  exact sum_head (fun l => v (ix2 r l)) k

/-- The same of lanes that are given by head and channel. -/
theorem headSum_of (v : FVec Ideal S1024x256 .f32) (f : Fin 4 → Fin 64 → EReal) (r : Fin 1024)
    (hv : ∀ k : Fin 256, v (ix2 r k) = f ⟨k.val / 64, by omega⟩ ⟨k.val % 64, by omega⟩) (k : Fin 256) :
    headSum v (ix2 r k) = ∑ n, f ⟨k.val / 64, by omega⟩ n := by
  rw [headSum_at]
  refine Finset.sum_congr rfl fun n _ => ?_
  rw [hv]
  congr 1
  · refine Fin.ext ?_
    show (k.val / 64 * 64 + n.val) / 64 = k.val / 64
    omega
  · exact Fin.ext (show (k.val / 64 * 64 + n.val) % 64 = n.val by omega)

/-- Times a sixty-fourth is divided by sixty-four. -/
theorem mul_inv64 (x : EReal) : x * Ideal.ofBits .f32 0x3C800000#32 = Ideal.div x (Ideal.ofBits .f32 0x42800000#32) := by
  have h1 : Ideal.ofBits .f32 0x3C800000#32 = ((1 / 64 : ℝ) : EReal) := by
    simp [Ideal.ofBits, Ideal.ieee, -EReal.coe_mul]
    norm_num
  have h2 : Ideal.ofBits .f32 0x42800000#32 = ((64 : ℝ) : EReal) := by
    simp [Ideal.ofBits, Ideal.ieee, -EReal.coe_mul]
    norm_num
  have h3 : ((64 : ℝ) : EReal) ≠ 0 := by
    intro q
    have : (64 : ℝ) = 0 := by exact_mod_cast q
    norm_num at this
  rw [h1, h2, Ideal.div, if_neg h3, ← EReal.coe_inv]
  norm_num

/-! ## The body's pieces -/

/-- The heads' columns side by side. -/
theorem pay2_at (a0 b0 a1 b1 a2 b2 a3 b3 : FVec Ideal S1x1024x64 .f32) (F G : Fin 4 → Fin 64 → EReal) (r : Fin 1024)
    (p0 : ∀ n, a0 (ix3 0 r n) = F 0 n) (q0 : ∀ n, b0 (ix3 0 r n) = G 0 n) (p1 : ∀ n, a1 (ix3 0 r n) = F 1 n)
    (q1 : ∀ n, b1 (ix3 0 r n) = G 1 n) (p2 : ∀ n, a2 (ix3 0 r n) = F 2 n) (q2 : ∀ n, b2 (ix3 0 r n) = G 2 n)
    (p3 : ∀ n, a3 (ix3 0 r n) = F 3 n) (q3 : ∀ n, b3 (ix3 0 r n) = G 3 n) (k : Fin 256) :
    k0_pay2 (F := Ideal) a0 b0 a1 b1 a2 b2 a3 b3 (ix2 r k)
      = F ⟨k.val / 64, by omega⟩ ⟨k.val % 64, by omega⟩ + G ⟨k.val / 64, by omega⟩ ⟨k.val % 64, by omega⟩ := by
  pointwise [k0_pay2]
  simp only [p0, q0, p1, q1, p2, q2, p3, q3]
  have key : ∀ (h : Fin 4) (n : Fin 64), k.val = h.val * 64 + n.val →
      F h n + G h n = F ⟨k.val / 64, by omega⟩ ⟨k.val % 64, by omega⟩ + G ⟨k.val / 64, by omega⟩ ⟨k.val % 64, by omega⟩ := by
    intro h n q
    have e1 : (⟨k.val / 64, by omega⟩ : Fin 4) = h := Fin.ext (by show k.val / 64 = h.val; omega)
    have e2 : (⟨k.val % 64, by omega⟩ : Fin 64) = n := Fin.ext (by show k.val % 64 = n.val; omega)
    rw [e1, e2]
  split_ifs
  all_goals exact key _ _ (by simp only [Fin.val_zero, Fin.val_one, Fin.val_two]; omega)

theorem pay5_eq (v : FVec Ideal S1024x256 .f32) :
    k0_pay5 (F := Ideal) v (iota .tc S256x256 32 [0] iota_S256x256_d0_w32) 64#32 k0_pay3 k0_pay4 0#32
      = subf v (mulf (headSum v) (broadcast S1024x256 (Scalar.ofBits .f32 0x3C800000#32))) := rfl

/-- The centred channels. -/
theorem pay5_at (v : FVec Ideal S1024x256 .f32) (f : Fin 4 → Fin 64 → EReal) (r : Fin 1024)
    (hv : ∀ k : Fin 256, v (ix2 r k) = f ⟨k.val / 64, by omega⟩ ⟨k.val % 64, by omega⟩) (k : Fin 256) :
    k0_pay5 (F := Ideal) v (iota .tc S256x256 32 [0] iota_S256x256_d0_w32) 64#32 k0_pay3 k0_pay4 0#32 (ix2 r k)
      = cen f ⟨k.val / 64, by omega⟩ ⟨k.val % 64, by omega⟩ := by
  have e : k0_pay5 (F := Ideal) v (iota .tc S256x256 32 [0] iota_S256x256_d0_w32) 64#32 k0_pay3 k0_pay4 0#32 (ix2 r k)
      = v (ix2 r k) - headSum v (ix2 r k) * Ideal.ofBits .f32 0x3C800000#32 := by
    rw [pay5_eq]
    rfl
  rw [e, headSum_of v f r hv, hv, mul_inv64]
  rfl

theorem pay1_eq (c s : FVec Ideal S1024x256 .f32) (w b : FVec Ideal S1x256 .f32) (bo g : FVec Ideal S1024x256 .f32) :
    k0_pay1 (F := Ideal) c s k0_pay7 k0_pay8 k0_pay9 w b bo g
      = mulf (addf (addf (mulf (mulf c (rsqrt (addf (mulf (headSum s) (broadcast S1024x256 (Scalar.ofBits .f32 0x3C800000#32))) (broadcast S1024x256 (Scalar.ofBits .f32 0x3A27C5AC#32)))))
          (broadcastTo S1024x256 (shapeCast S1x256 w shapeCasts_S1x256_S1x256) broadcasts_S1x256_S1024x256))
          (broadcastTo S1024x256 (shapeCast S1x256 b shapeCasts_S1x256_S1x256) broadcasts_S1x256_S1024x256)) bo) g := rfl

/-- The body's result from the centred channels. -/
theorem pay1_at (c s : FVec Ideal S1024x256 .f32) (w b : FVec Ideal S1x256 .f32) (bo g : FVec Ideal S1024x256 .f32)
    (f : Fin 4 → Fin 64 → EReal) (r : Fin 1024)
    (hc : ∀ k : Fin 256, c (ix2 r k) = cen f ⟨k.val / 64, by omega⟩ ⟨k.val % 64, by omega⟩)
    (hs : ∀ k : Fin 256, s (ix2 r k) = cen f ⟨k.val / 64, by omega⟩ ⟨k.val % 64, by omega⟩ * cen f ⟨k.val / 64, by omega⟩ ⟨k.val % 64, by omega⟩)
    (k : Fin 256) :
    k0_pay1 (F := Ideal) c s k0_pay7 k0_pay8 k0_pay9 w b bo g (ix2 r k)
      = (norm f ⟨k.val / 64, by omega⟩ ⟨k.val % 64, by omega⟩ * w (ix2 0 k) + b (ix2 0 k) + bo (ix2 r k)) * g (ix2 r k) := by
  have e : k0_pay1 (F := Ideal) c s k0_pay7 k0_pay8 k0_pay9 w b bo g (ix2 r k)
      = (c (ix2 r k) * Ideal.rsqrt (headSum s (ix2 r k) * Ideal.ofBits .f32 0x3C800000#32 + Ideal.ofBits .f32 0x3A27C5AC#32) * w (ix2 0 k)
          + b (ix2 0 k) + bo (ix2 r k)) * g (ix2 r k) := by
    rw [pay1_eq]
    pointwise
  rw [e, hc, headSum_of s (fun h n => cen f h n * cen f h n) r hs, mul_inv64]
  rfl

variable (m : (ℓ : Loc nD τ sig) → Buf (Elt Ideal) ℓ)

/-- The scan's output with heads first and tokens in rows. -/
def tokens (y : FVec Ideal S4096x64x80 .f32) : FVec Ideal S4x81920x64 .f32 :=
  shapeCast _ (transpose S4x20x4096x64 [2, 3, 0, 1] (shapeCast S4096x64x4x20 y Gen.shapeCasts_S4096x64x80_S4096x64x4x20)
    Gen.transposes_S4096x64x4x20_S4x20x4096x64_2_3_0_1) Gen.shapeCasts_S4x20x4096x64_S4x81920x64

theorem tokens_at (y : FVec Ideal S4096x64x80 .f32) (h : Fin 4) (i : Fin 81920) (n : Fin 64) :
    tokens y (ix3 h i n) = y (ix3 ⟨i.val % 4096, by omega⟩ n ⟨h.val * 20 + i.val / 4096, by omega⟩) := by
  pointwise [tokens]

theorem V_arg2 (c : Dev nD) : V m c main_arg2 = m ((c.tc : Thread nD τ).loc main_arg2) := by
  dsimp only [V]
  after_results <;> rfl

theorem V_arg3 (c : Dev nD) : V m c main_arg3 = m ((c.tc : Thread nD τ).loc main_arg3) := by
  dsimp only [V]
  after_results <;> rfl

theorem V_v2 (c : Dev nD) : V m c main_v2 = tokens (m ((c.tc : Thread nD τ).loc main_arg0)) := by
  dsimp only [V]
  after_results <;> rfl

theorem V_v5 (c : Dev nD) : V m c main_v5 = tokens (m ((c.tc : Thread nD τ).loc main_arg1)) := by
  dsimp only [V]
  after_results <;> rfl

theorem V_v6 (c : Dev nD) : V m c main_v6 = shapeCast _ (m ((c.tc : Thread nD τ).loc main_arg4)) Gen.shapeCasts_S256_S1x256 := by
  dsimp only [V]
  after_results <;> rfl

theorem V_v7 (c : Dev nD) : V m c main_v7 = shapeCast _ (m ((c.tc : Thread nD τ).loc main_arg5)) Gen.shapeCasts_S256_S1x256 := by
  dsimp only [V]
  after_results <;> rfl

theorem index_0 : ∀ t : Fin cfg0.N, win0_0.index t = ![0, t.val, 0] := (by decide +kernel : ∀ t : Fin grid0.N, _)
theorem index_1 : ∀ t : Fin cfg0.N, win0_1.index t = ![0, t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![t.val, 0] := (by decide +kernel : ∀ t : Fin grid0.N, _)

theorem points (t : Fin cfg0.N) : t.val < 80 := lt_of_lt_of_eq t.isLt (by decide : cfg0.N = 80)

/-- Token `r` of the block at point `t`. -/
def tok (t : Fin cfg0.N) (r : Fin 1024) : Fin 81920 := ⟨t.val * 1024 + r.val, by have := points t; omega⟩

theorem blk_0 (c : Dev nD) (t : Fin cfg0.N) (h : Fin 4) (r : Fin 1024) (n : Fin 64) :
    iblk m c 0 t (ix3 h r n) = m ((c.tc : Thread nD τ).loc main_arg0)
      (ix3 ⟨(tok t r).val % 4096, by omega⟩ n ⟨h.val * 20 + (tok t r).val / 4096, by omega⟩) := by
  have e : (win0_0.blk t).view.emb (ix3 h r n) = ix3 h (tok t r) n := by
    blk_ext [index_0, tok]
  show V m c main_v2 ((win0_0.blk t).view.emb (ix3 h r n)) = _
  rw [e, V_v2]
  exact tokens_at _ _ _ _

theorem blk_1 (c : Dev nD) (t : Fin cfg0.N) (h : Fin 4) (r : Fin 1024) (n : Fin 64) :
    iblk m c 1 t (ix3 h r n) = m ((c.tc : Thread nD τ).loc main_arg1)
      (ix3 ⟨(tok t r).val % 4096, by omega⟩ n ⟨h.val * 20 + (tok t r).val / 4096, by omega⟩) := by
  have e : (win0_1.blk t).view.emb (ix3 h r n) = ix3 h (tok t r) n := by
    blk_ext [index_1, tok]
  show V m c main_v5 ((win0_1.blk t).view.emb (ix3 h r n)) = _
  rw [e, V_v5]
  exact tokens_at _ _ _ _

theorem blk_2 (c : Dev nD) (t : Fin cfg0.N) (r : Fin 1024) (k : Fin 256) :
    iblk m c 2 t (ix2 r k) = m ((c.tc : Thread nD τ).loc main_arg2) (ix2 (tok t r) k) := by
  have e : (win0_2.blk t).view.emb (ix2 r k) = ix2 (tok t r) k := by
    blk_ext [index_2, tok]
  show V m c main_arg2 ((win0_2.blk t).view.emb (ix2 r k)) = _
  rw [e, V_arg2]

theorem blk_3 (c : Dev nD) (t : Fin cfg0.N) (r : Fin 1024) (k : Fin 256) :
    iblk m c 3 t (ix2 r k) = m ((c.tc : Thread nD τ).loc main_arg3) (ix2 (tok t r) k) := by
  have e : (win0_3.blk t).view.emb (ix2 r k) = ix2 (tok t r) k := by
    blk_ext [index_3, tok]
  show V m c main_arg3 ((win0_3.blk t).view.emb (ix2 r k)) = _
  rw [e, V_arg3]

theorem blk_4 (c : Dev nD) (t : Fin cfg0.N) (k : Fin 256) :
    iblk m c 4 t (ix2 0 k) = m ((c.tc : Thread nD τ).loc main_arg4) (ix1 k) := by
  have e : (win0_4.blk t).view.emb (ix2 0 k) = ix2 0 k := by
    blk_ext [index_4]
  show V m c main_v6 ((win0_4.blk t).view.emb (ix2 0 k)) = _
  rw [e, V_v6]
  pointwise

theorem blk_5 (c : Dev nD) (t : Fin cfg0.N) (k : Fin 256) :
    iblk m c 5 t (ix2 0 k) = m ((c.tc : Thread nD τ).loc main_arg5) (ix1 k) := by
  have e : (win0_5.blk t).view.emb (ix2 0 k) = ix2 0 k := by
    blk_ext [index_5]
  show V m c main_v7 ((win0_5.blk t).view.emb (ix2 0 k)) = _
  rw [e, V_v7]
  pointwise

/-- A head's rows of a block, as the body loads them. -/
theorem ld_0 (X : Vec Ideal S4x1024x64 .f32) (r : Fin 1024) (n : Fin 64) : View.ld (Val := Elt Ideal) X r0_0 (ix3 0 r n) = X (ix3 0 r n) := by
  unfold r0_0
  pointwise

theorem ld_1 (X : Vec Ideal S4x1024x64 .f32) (r : Fin 1024) (n : Fin 64) : View.ld (Val := Elt Ideal) X r0_1 (ix3 0 r n) = X (ix3 1 r n) := by
  unfold r0_1
  pointwise

theorem ld_2 (X : Vec Ideal S4x1024x64 .f32) (r : Fin 1024) (n : Fin 64) : View.ld (Val := Elt Ideal) X r0_2 (ix3 0 r n) = X (ix3 2 r n) := by
  unfold r0_2
  pointwise

theorem ld_3 (X : Vec Ideal S4x1024x64 .f32) (r : Fin 1024) (n : Fin 64) : View.ld (Val := Elt Ideal) X r0_3 (ix3 0 r n) = X (ix3 3 r n) := by
  unfold r0_3
  pointwise

/-- The sum of the two directions' heads, side by side, as the body forms it from two blocks. -/
def sumV (X Y : FVec Ideal S4x1024x64 .f32) : FVec Ideal S1024x256 .f32 :=
  k0_pay2 (F := Ideal) (View.ld X r0_0) (View.ld Y r0_0) (View.ld X r0_1) (View.ld Y r0_1) (View.ld X r0_2) (View.ld Y r0_2) (View.ld X r0_3) (View.ld Y r0_3)

theorem sumV_at (X Y : FVec Ideal S4x1024x64 .f32) (r : Fin 1024) (k : Fin 256) :
    sumV X Y (ix2 r k) = X (ix3 ⟨k.val / 64, by omega⟩ r ⟨k.val % 64, by omega⟩) + Y (ix3 ⟨k.val / 64, by omega⟩ r ⟨k.val % 64, by omega⟩) :=
  pay2_at _ _ _ _ _ _ _ _ (fun h n => X (ix3 h r n)) (fun h n => Y (ix3 h r n)) r
    (fun n => ld_0 X r n) (fun n => ld_0 Y r n) (fun n => ld_1 X r n) (fun n => ld_1 Y r n)
    (fun n => ld_2 X r n) (fun n => ld_2 Y r n) (fun n => ld_3 X r n) (fun n => ld_3 Y r n) k

/-- The centred channels, as the body forms them from two blocks. -/
def cenB (X Y : FVec Ideal S4x1024x64 .f32) : FVec Ideal S1024x256 .f32 :=
  k0_pay5 (F := Ideal) (sumV X Y) (iota .tc S256x256 32 [0] iota_S256x256_d0_w32) 64#32 k0_pay3 k0_pay4 0#32

theorem final_at (c : Dev nD) (t : Fin cfg0.N) (r : Fin 1024) (k : Fin 256) :
    k0_pay1 (F := Ideal) (cenB (iblk m c 0 t) (iblk m c 1 t)) (mulf (cenB (iblk m c 0 t) (iblk m c 1 t)) (cenB (iblk m c 0 t) (iblk m c 1 t)))
        k0_pay7 k0_pay8 k0_pay9 (iblk m c 4 t) (iblk m c 5 t) (iblk m c 2 t) (iblk m c 3 t) (ix2 r k)
      = spec (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (tok t r) k := by
  have hv : ∀ k : Fin 256, sumV (iblk m c 0 t) (iblk m c 1 t) (ix2 r k)
      = both (m ((c.tc : Thread nD τ).loc main_arg0)) (m ((c.tc : Thread nD τ).loc main_arg1)) (tok t r) ⟨k.val / 64, by omega⟩ ⟨k.val % 64, by omega⟩ := by
    intro k
    refine (sumV_at _ _ r k).trans ?_
    exact congrArg₂ (· + ·) (blk_0 m c t _ r _) (blk_1 m c t _ r _)
  have hc : ∀ k : Fin 256, cenB (iblk m c 0 t) (iblk m c 1 t) (ix2 r k)
      = cen (both (m ((c.tc : Thread nD τ).loc main_arg0)) (m ((c.tc : Thread nD τ).loc main_arg1)) (tok t r)) ⟨k.val / 64, by omega⟩ ⟨k.val % 64, by omega⟩ :=
    fun k => pay5_at _ _ r hv k
  refine (pay1_at _ _ _ _ _ _ _ r hc (fun k => congrArg₂ (· * ·) (hc k) (hc k)) k).trans ?_
  exact congrArg₂ (· * ·) (congrArg₂ (· + ·) (congrArg₂ (· + ·) (congrArg₂ (· * ·) rfl (blk_4 m c t k)) (blk_5 m c t k)) (blk_2 m c t r k)) (blk_3 m c t r k)

/-- The body's centred channels are those of the sum of its two blocks. -/
theorem body_cen (x0 x1 : Vec Ideal S4x1024x64 .f32) (x2 x3 : Vec Ideal S1024x256 .f32) (x4 x5 : Vec Ideal S1x256 .f32) :
    k0_pay5 (F := Ideal) (k0_pay11 x0 x1 x2 x3 x4 x5) (k0_pay10 x0 x1 x2 x3 x4 x5) 64#32 (k0_pay12 x0 x1 x2 x3 x4 x5) (k0_pay13 x0 x1 x2 x3 x4 x5) 0#32
      = cenB x0 x1 := by
  unfold k0_pay13 k0_pay12 k0_pay11 k0_pay10 cenB sumV
  rfl

theorem body_sq (x0 x1 : Vec Ideal S4x1024x64 .f32) (x2 x3 : Vec Ideal S1024x256 .f32) (x4 x5 : Vec Ideal S1x256 .f32) :
    k0_pay6 (F := Ideal) (k0_pay11 x0 x1 x2 x3 x4 x5) (k0_pay10 x0 x1 x2 x3 x4 x5) 64#32 (k0_pay12 x0 x1 x2 x3 x4 x5) (k0_pay13 x0 x1 x2 x3 x4 x5) 0#32
      = mulf (cenB x0 x1) (cenB x0 x1) := by
  unfold k0_pay6
  rw [body_cen]

/-! ## The reference -/

/-- The reference's sum of the two directions. -/
def bothV : FVec Ideal Cert.Reference5Ideal.S20x4096x4x64 .f32 :=
  addf (transpose Cert.Reference5Ideal.S20x4096x4x64 [3, 0, 2, 1] (shapeCast Cert.Reference5Ideal.S4096x64x4x20 yf Cert.Reference5Ideal.Gen.shapeCasts_S4096x64x80_S4096x64x4x20) Cert.Reference5Ideal.Gen.transposes_S4096x64x4x20_S20x4096x4x64_3_0_2_1)
    (transpose Cert.Reference5Ideal.S20x4096x4x64 [3, 0, 2, 1] (shapeCast Cert.Reference5Ideal.S4096x64x4x20 yb Cert.Reference5Ideal.Gen.shapeCasts_S4096x64x80_S4096x64x4x20) Cert.Reference5Ideal.Gen.transposes_S4096x64x4x20_S20x4096x4x64_3_0_2_1)

/-- The reference's mean over a head. -/
def meanV (Y : FVec Ideal Cert.Reference5Ideal.S20x4096x4x64 .f32) : FVec Ideal Cert.Reference5Ideal.S20x4096x4x1 .f32 :=
  Host.divf (broadcastInDim Cert.Reference5Ideal.S20x4096x4x1 ![0, 1, 2] Cert.Reference5Ideal.Gen.bcast_S20x4096x4_S20x4096x4x1_0_1_2 (Host.reduceAdd Y (constant Cert.Reference5Ideal.S_ .f32 0x00000000#32) Cert.Reference5Ideal.Gen.reducesTo_S20x4096x4x64_S20x4096x4_d3 Cert.Reference5Ideal.Gen.h_S_))
    (broadcastInDim Cert.Reference5Ideal.S20x4096x4x1 ![] Cert.Reference5Ideal.Gen.bcast_S_S20x4096x4x1 (constant Cert.Reference5Ideal.S_ .f32 0x42800000#32))

def cenV (Y : FVec Ideal Cert.Reference5Ideal.S20x4096x4x64 .f32) : FVec Ideal Cert.Reference5Ideal.S20x4096x4x64 .f32 :=
  subf Y (broadcastInDim Cert.Reference5Ideal.S20x4096x4x64 ![0, 1, 2, 3] Cert.Reference5Ideal.Gen.bcast_S20x4096x4x1_S20x4096x4x64_0_1_2_3 (meanV Y))

/-- The reference's normalised channels, from the centred ones. -/
def normV (C : FVec Ideal Cert.Reference5Ideal.S20x4096x4x64 .f32) : FVec Ideal Cert.Reference5Ideal.S20x4096x4x64 .f32 :=
  mulf C (broadcastInDim Cert.Reference5Ideal.S20x4096x4x64 ![0, 1, 2, 3] Cert.Reference5Ideal.Gen.bcast_S20x4096x4x1_S20x4096x4x64_0_1_2_3 (Host.rsqrt (addf (meanV (mulf C C)) (broadcastInDim Cert.Reference5Ideal.S20x4096x4x1 ![] Cert.Reference5Ideal.Gen.bcast_S_S20x4096x4x1 (constant Cert.Reference5Ideal.S_ .f32 0x3A27C5AC#32)))))

/-- The reference's scale, shift, bonus and gate. -/
def outV (N : FVec Ideal Cert.Reference5Ideal.S20x4096x4x64 .f32) : FVec Ideal Cert.Reference5Ideal.S20x4096x256 .f32 :=
  mulf (addf (addf (mulf (shapeCast _ N Cert.Reference5Ideal.Gen.shapeCasts_S20x4096x4x64_S20x4096x256) (broadcastInDim Cert.Reference5Ideal.S20x4096x256 ![0, 1, 2] Cert.Reference5Ideal.Gen.bcast_S1x1x256_S20x4096x256_0_1_2 (broadcastInDim Cert.Reference5Ideal.S1x1x256 ![2] Cert.Reference5Ideal.Gen.bcast_S256_S1x1x256_2 w))) (broadcastInDim Cert.Reference5Ideal.S20x4096x256 ![0, 1, 2] Cert.Reference5Ideal.Gen.bcast_S1x1x256_S20x4096x256_0_1_2 (broadcastInDim Cert.Reference5Ideal.S1x1x256 ![2] Cert.Reference5Ideal.Gen.bcast_S256_S1x1x256_2 b))) (shapeCast _ bo Cert.Reference5Ideal.Gen.shapeCasts_S81920x256_S20x4096x256)) (shapeCast _ g Cert.Reference5Ideal.Gen.shapeCasts_S81920x256_S20x4096x256)

theorem bothV_at (s : Fin 20) (p : Fin 4096) (h : Fin 4) (n : Fin 64) :
    bothV yf yb (ix4 s p h n) = yf (ix3 p n ⟨h.val * 20 + s.val, by omega⟩) + yb (ix3 p n ⟨h.val * 20 + s.val, by omega⟩) := by
  pointwise [bothV]

theorem meanV_at (Y : FVec Ideal Cert.Reference5Ideal.S20x4096x4x64 .f32) (s : Fin 20) (p : Fin 4096) (h : Fin 4) :
    meanV Y (ix4 s p h 0) = Ideal.div (∑ n : Fin 64, Y (ix4 s p h n)) (Ideal.ofBits .f32 0x42800000#32) := by
  pointwise [meanV]

theorem cenV_at (Y : FVec Ideal Cert.Reference5Ideal.S20x4096x4x64 .f32) (s : Fin 20) (p : Fin 4096) (h : Fin 4) (n : Fin 64) :
    cenV Y (ix4 s p h n) = Y (ix4 s p h n) - meanV Y (ix4 s p h 0) := by
  pointwise [cenV]

theorem normV_at (C : FVec Ideal Cert.Reference5Ideal.S20x4096x4x64 .f32) (s : Fin 20) (p : Fin 4096) (h : Fin 4) (n : Fin 64) :
    normV C (ix4 s p h n) = C (ix4 s p h n) * Ideal.rsqrt (meanV (mulf C C) (ix4 s p h 0) + Ideal.ofBits .f32 0x3A27C5AC#32) := by
  pointwise [normV]

theorem outV_at (N : FVec Ideal Cert.Reference5Ideal.S20x4096x4x64 .f32) (s : Fin 20) (p : Fin 4096) (k : Fin 256) :
    outV bo g w b N (ix3 s p k) = (N (ix4 s p ⟨k.val / 64, by omega⟩ ⟨k.val % 64, by omega⟩) * w (ix1 k) + b (ix1 k)
      + bo (ix2 ⟨s.val * 4096 + p.val, by omega⟩ k)) * g (ix2 ⟨s.val * 4096 + p.val, by omega⟩ k) := by
  pointwise [outV]

/-- The reference's channels, normalised, are the normalised sum of the directions. -/
theorem norm_ref (i : Fin 81920) (h : Fin 4) (n : Fin 64) :
    normV (cenV (bothV yf yb)) (ix4 ⟨i.val / 4096, by omega⟩ ⟨i.val % 4096, by omega⟩ h n) = norm (both yf yb i) h n := by
  have e : ∀ h n, cenV (bothV yf yb) (ix4 ⟨i.val / 4096, by omega⟩ ⟨i.val % 4096, by omega⟩ h n) = cen (both yf yb i) h n := by
    intro h n
    rw [cenV_at, meanV_at]
    simp only [bothV_at]
    rfl
  have e2 : ∀ h n, (mulf (cenV (bothV yf yb)) (cenV (bothV yf yb))) (ix4 ⟨i.val / 4096, by omega⟩ ⟨i.val % 4096, by omega⟩ h n)
      = cen (both yf yb i) h n * cen (both yf yb i) h n := by
    intro h n
    rw [← e]
    rfl
  rw [normV_at, meanV_at, e]
  simp only [e2]
  rfl

/-- The reference's result read at a token and channel. -/
theorem ref_at (m' : (ℓ : Loc Cert.Reference5Ideal.nD Cert.Reference5Ideal.τ Cert.Reference5Ideal.sig) → Buf (Elt Ideal) ℓ)
    (c : Dev Cert.Reference5Ideal.nD) (i : Fin 81920) (k : Fin 256) :
    Cert.Reference5Ideal.Value.res_main_v34 (F := Ideal) m' c (ix2 i k)
      = spec (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1))
          (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3))
          (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) i k := by
  have e : Cert.Reference5Ideal.Value.res_main_v34 (F := Ideal) m' c
      = shapeCast _ (outV (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3))
          (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5))
          (normV (cenV (bothV (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1))))))
          Cert.Reference5Ideal.Gen.shapeCasts_S20x4096x256_S81920x256 := rfl
  have e2 : ∀ G : FVec Ideal Cert.Reference5Ideal.S20x4096x256 .f32, shapeCast Cert.Reference5Ideal.S81920x256 G Cert.Reference5Ideal.Gen.shapeCasts_S20x4096x256_S81920x256 (ix2 i k)
      = G (ix3 ⟨i.val / 4096, by omega⟩ ⟨i.val % 4096, Nat.mod_lt _ (by decide)⟩ k) := by
    intro G
    pointwise
  have e3 : (⟨i.val / 4096 * 4096 + i.val % 4096, by omega⟩ : Fin 81920) = i := Fin.ext (by show i.val / 4096 * 4096 + i.val % 4096 = i.val; omega)
  rw [e]
  refine (e2 _).trans ?_
  rw [outV_at, norm_ref]
  simp only [e3, spec]

theorem final (c : Dev nD) : (dats m 0 c).arrAt 6 cfg0.N
    = fun j : S81920x256.Idx => spec (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) (j 0) (j 1) := by
  refine (dats m 0 c).arrAt_eq_of_covers 6 _ (by decide +kernel) fun t hf y => ?_
  blk_simp
  revert y
  intro (y : S1024x256.Idx)
  idx_vars y
  have e : (win0_6.blk t).view.emb (ix2 y0 y1) = ix2 (tok t y0) y1 := by
    blk_ext [index_6, tok]
  rw [after0_6, e]
  frame_out
  rw [body_cen, body_sq]
  exact final_at m c t y0 y1

/-- From memories that agree on the arguments, the kernel's result is the reference's. -/
theorem results : Cert.algebraic_Kernel5Ideal_Reference5Ideal := by
  intro m g m' g' _ hm
  refine ⟨fun c => (dats m 0 c).arrAt 6 cfg0.N, run_blocks m g, ?_⟩
  refine (θ_run Cert.Reference5Ideal.defs _ _).mono (fun r h c => ?_) (Cert.Reference5Ideal.Value.run (F := Ideal) m' g')
  obtain ⟨h0, ha⟩ := h c
  obtain ⟨e0, e1, e2, e3, e4, e5⟩ := hm c
  refine ⟨h0.trans (Eq.trans ?_ (final m c).symm), ha⟩
  funext (j : S81920x256.Idx)
  idx_vars j
  refine (ref_at m' c j0 j1).trans ?_
  rw [e0, e1, e2, e3, e4, e5]

end Cert.Kernel5Ideal.Post

end
-- ==== Proof.S5Finish.lean ====
/- The end of the state-space mixer: skip, smooth rectifier and gated unit, read off the kernel's blocks and set beside
   the reference. -/
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

noncomputable section

namespace Cert.Kernel6Ideal.Finish

open Idealize.ShloMosaic Idealize.ShloMosaic.TpuEff Idealize.SL Idealize.SL.Sem Idealize.ShloMosaic.StableHlo
open Idealize.ShloMosaic.Pipeline Cert.Kernel6Ideal Cert.Kernel6Ideal.Gen Cert.Kernel6Ideal.Value

/-- The smooth rectifier in its hyperbolic-tangent form, as the reference multiplies it out. -/
def gelu (y : EReal) : EReal :=
  y * (Ideal.ofBits .f32 0x3F000000#32 * (Ideal.ofBits .f32 0x3F800000#32
    + Ideal.tanh (Ideal.ofBits .f32 0x3F4C422A#32 * (y + Ideal.ofBits .f32 0x3D372713#32 * (y * y * y)))))

variable (y2 : FVec Ideal Cert.Reference6Ideal.S2x81920x256 .f32) (z : FVec Ideal Cert.Reference6Ideal.S81920x256 .f32)
  (d : FVec Ideal Cert.Reference6Ideal.S256 .f32) (w : FVec Ideal Cert.Reference6Ideal.S256x256 .f32)
  (b : FVec Ideal Cert.Reference6Ideal.S256 .f32)

/-- Both scans' outputs and the skip at one token and channel. -/
def mix (i : Fin 81920) (k : Fin 256) : EReal :=
  y2 (ix3 0 i k) + y2 (ix3 1 i k) + d (ix1 k) * z (ix2 i k)

/-- The result at one token and channel. -/
def spec (i : Fin 81920) (k : Fin 256) : EReal :=
  gelu (mix y2 z d i k) * Ideal.logistic ((∑ l : Fin 256, gelu (mix y2 z d i l) * w (ix2 l k)) + b (ix1 k))

variable (m : (ℓ : Loc nD τ sig) → Buf (Elt Ideal) ℓ)

theorem V_arg0 (c : Dev nD) : V m c main_arg0 = m ((c.tc : Thread nD τ).loc main_arg0) := by
  dsimp only [V]
  after_results <;> rfl

theorem V_arg1 (c : Dev nD) : V m c main_arg1 = m ((c.tc : Thread nD τ).loc main_arg1) := by
  dsimp only [V]
  after_results <;> rfl

theorem V_v0 (c : Dev nD) : V m c main_v0 = (m ((c.tc : Thread nD τ).loc main_arg3) : FVec Ideal S256x256 .f32) := by
  dsimp only [V]
  after_results <;> rfl

theorem V_v1 (c : Dev nD) : V m c main_v1 = shapeCast _ (m ((c.tc : Thread nD τ).loc main_arg2)) Gen.shapeCasts_S256_S1x256 := by
  dsimp only [V]
  after_results <;> rfl

theorem V_v2 (c : Dev nD) : V m c main_v2 = shapeCast _ (m ((c.tc : Thread nD τ).loc main_arg4)) Gen.shapeCasts_S256_S1x256 := by
  dsimp only [V]
  after_results <;> rfl

theorem index_0 : ∀ t : Fin cfg0.N, win0_0.index t = ![0, t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![t.val, 0] := (by decide +kernel : ∀ t : Fin grid0.N, _)

theorem points (t : Fin cfg0.N) : t.val < 80 := lt_of_lt_of_eq t.isLt (by decide : cfg0.N = 80)

/-- Row `r` of the scans' block at point `t` is token `1024 t + r`. -/
theorem blk_0 (c : Dev nD) (t : Fin cfg0.N) (a : Fin 2) (r : Fin 1024) (k : Fin 256) :
    iblk m c 0 t (ix3 a r k) = m ((c.tc : Thread nD τ).loc main_arg0) (ix3 a ⟨t.val * 1024 + r.val, by have := points t; omega⟩ k) := by
  have e : (win0_0.blk t).view.emb (ix3 a r k) = ix3 a ⟨t.val * 1024 + r.val, by have := points t; omega⟩ k := by
    blk_ext [index_0]
  show V m c main_arg0 ((win0_0.blk t).view.emb (ix3 a r k)) = _
  rw [e, V_arg0]

/-- The same of the mixer's input. -/
theorem blk_1 (c : Dev nD) (t : Fin cfg0.N) (r : Fin 1024) (k : Fin 256) :
    iblk m c 1 t (ix2 r k) = m ((c.tc : Thread nD τ).loc main_arg1) (ix2 ⟨t.val * 1024 + r.val, by have := points t; omega⟩ k) := by
  have e : (win0_1.blk t).view.emb (ix2 r k) = ix2 ⟨t.val * 1024 + r.val, by have := points t; omega⟩ k := by
    blk_ext [index_1]
  show V m c main_arg1 ((win0_1.blk t).view.emb (ix2 r k)) = _
  rw [e, V_arg1]

theorem blk_2 (c : Dev nD) (t : Fin cfg0.N) (k : Fin 256) :
    iblk m c 2 t (ix2 0 k) = m ((c.tc : Thread nD τ).loc main_arg2) (ix1 k) := by
  have e : (win0_2.blk t).view.emb (ix2 0 k) = ix2 0 k := by
    blk_ext [index_2]
  show V m c main_v1 ((win0_2.blk t).view.emb (ix2 0 k)) = _
  rw [e, V_v1]
  pointwise

theorem blk_3 (c : Dev nD) (t : Fin cfg0.N) (k j : Fin 256) :
    iblk m c 3 t (ix2 k j) = m ((c.tc : Thread nD τ).loc main_arg3) (ix2 k j) := by
  have e : (win0_3.blk t).view.emb (ix2 k j) = ix2 k j := by
    blk_ext [index_3]
  show V m c main_v0 ((win0_3.blk t).view.emb (ix2 k j)) = _
  rw [e, V_v0]

theorem blk_4 (c : Dev nD) (t : Fin cfg0.N) (k : Fin 256) :
    iblk m c 4 t (ix2 0 k) = m ((c.tc : Thread nD τ).loc main_arg4) (ix1 k) := by
  have e : (win0_4.blk t).view.emb (ix2 0 k) = ix2 0 k := by
    blk_ext [index_4]
  show V m c main_v2 ((win0_4.blk t).view.emb (ix2 0 k)) = _
  rw [e, V_v2]
  pointwise

/-- The reference's sum of the two scans and the skip. -/
def mixV : FVec Ideal Cert.Reference6Ideal.S20x4096x256 .f32 :=
  addf (shapeCast _ (addf (shapeCast _ (extractStridedSlice Cert.Reference6Ideal.S1x81920x256 ![0, 0, 0] y2 Cert.Reference6Ideal.Gen.slices_S2x81920x256_S1x81920x256_0_0_0) Cert.Reference6Ideal.Gen.shapeCasts_S1x81920x256_S81920x256) (shapeCast _ (extractStridedSlice Cert.Reference6Ideal.S1x81920x256 ![1, 0, 0] y2 Cert.Reference6Ideal.Gen.slices_S2x81920x256_S1x81920x256_1_0_0) Cert.Reference6Ideal.Gen.shapeCasts_S1x81920x256_S81920x256)) Cert.Reference6Ideal.Gen.shapeCasts_S81920x256_S20x4096x256) (mulf (broadcastInDim Cert.Reference6Ideal.S20x4096x256 ![0, 1, 2] Cert.Reference6Ideal.Gen.bcast_S1x1x256_S20x4096x256_0_1_2 (broadcastInDim Cert.Reference6Ideal.S1x1x256 ![2] Cert.Reference6Ideal.Gen.bcast_S256_S1x1x256_2 d)) (shapeCast _ z Cert.Reference6Ideal.Gen.shapeCasts_S81920x256_S20x4096x256))

/-- The reference's rectifier. -/
def geluV (Y : FVec Ideal Cert.Reference6Ideal.S20x4096x256 .f32) : FVec Ideal Cert.Reference6Ideal.S20x4096x256 .f32 :=
  mulf Y (mulf (broadcastInDim Cert.Reference6Ideal.S20x4096x256 ![] Cert.Reference6Ideal.Gen.bcast_S_S20x4096x256 (constant Cert.Reference6Ideal.S_ .f32 0x3F000000#32)) (addf (broadcastInDim Cert.Reference6Ideal.S20x4096x256 ![] Cert.Reference6Ideal.Gen.bcast_S_S20x4096x256 (constant Cert.Reference6Ideal.S_ .f32 0x3F800000#32)) (Host.tanh (mulf (broadcastInDim Cert.Reference6Ideal.S20x4096x256 ![] Cert.Reference6Ideal.Gen.bcast_S_S20x4096x256 (constant Cert.Reference6Ideal.S_ .f32 0x3F4C422A#32)) (addf Y (mulf (broadcastInDim Cert.Reference6Ideal.S20x4096x256 ![] Cert.Reference6Ideal.Gen.bcast_S_S20x4096x256 (constant Cert.Reference6Ideal.S_ .f32 0x3D372713#32)) (mulf (mulf Y Y) Y)))))))

/-- The reference's gated unit. -/
def gluV (G : FVec Ideal Cert.Reference6Ideal.S20x4096x256 .f32) : FVec Ideal Cert.Reference6Ideal.S20x4096x256 .f32 :=
  mulf G (Host.divf (broadcastInDim Cert.Reference6Ideal.S20x4096x256 ![] Cert.Reference6Ideal.Gen.bcast_S_S20x4096x256 (constant Cert.Reference6Ideal.S_ .f32 0x3F800000#32)) (addf (broadcastInDim Cert.Reference6Ideal.S20x4096x256 ![] Cert.Reference6Ideal.Gen.bcast_S_S20x4096x256 (constant Cert.Reference6Ideal.S_ .f32 0x3F800000#32)) (Host.exp (Host.negf (addf (Host.dotGeneral Cert.Reference6Ideal.dot_S20x4096x256_S256x256_S20x4096x256_2_0_01_1_n_n none G w) (broadcastInDim Cert.Reference6Ideal.S20x4096x256 ![0, 1, 2] Cert.Reference6Ideal.Gen.bcast_S1x1x256_S20x4096x256_0_1_2 (broadcastInDim Cert.Reference6Ideal.S1x1x256 ![2] Cert.Reference6Ideal.Gen.bcast_S256_S1x1x256_2 b)))))))

theorem mixV_at (s : Fin 20) (p : Fin 4096) (k : Fin 256) :
    mixV y2 z d (ix3 s p k) = mix y2 z d ⟨s.val * 4096 + p.val, by omega⟩ k := by
  pointwise [mixV, mix]

theorem geluV_at (Y : FVec Ideal Cert.Reference6Ideal.S20x4096x256 .f32) (s : Fin 20) (p : Fin 4096) (k : Fin 256) :
    geluV Y (ix3 s p k) = gelu (Y (ix3 s p k)) := by
  pointwise [geluV, gelu]

theorem gluV_at (G : FVec Ideal Cert.Reference6Ideal.S20x4096x256 .f32) (s : Fin 20) (p : Fin 4096) (k : Fin 256) :
    gluV w b G (ix3 s p k) = G (ix3 s p k) * Ideal.logistic ((∑ l : Fin 256, G (ix3 s p l) * w (ix2 l k)) + b (ix1 k)) := by
  pointwise [gluV, Ideal.logistic]

/-- The reference's result read at a token and channel. -/
theorem ref_at (m' : (ℓ : Loc Cert.Reference6Ideal.nD Cert.Reference6Ideal.τ Cert.Reference6Ideal.sig) → Buf (Elt Ideal) ℓ)
    (c : Dev Cert.Reference6Ideal.nD) (i : Fin 81920) (k : Fin 256) :
    Cert.Reference6Ideal.Value.res_out0 (F := Ideal) m' c (ix2 i k)
      = spec (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1))
          (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3))
          (m' ((c.tc : Thread Cert.Reference6Ideal.nD Cert.Reference6Ideal.τ).loc Cert.Reference6Ideal.main_arg4)) i k := by
  have e : Cert.Reference6Ideal.Value.res_out0 (F := Ideal) m' c
      = shapeCast _ (gluV (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4))
          (geluV (mixV (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1))
            (m' ((c.tc : Thread Cert.Reference6Ideal.nD Cert.Reference6Ideal.τ).loc Cert.Reference6Ideal.main_arg2))))) Cert.Reference6Ideal.Gen.shapeCasts_S20x4096x256_S81920x256 := rfl
  have e2 : ∀ G : FVec Ideal Cert.Reference6Ideal.S20x4096x256 .f32, shapeCast Cert.Reference6Ideal.S81920x256 G Cert.Reference6Ideal.Gen.shapeCasts_S20x4096x256_S81920x256 (ix2 i k)
      = G (ix3 ⟨i.val / 4096, by omega⟩ ⟨i.val % 4096, Nat.mod_lt _ (by decide)⟩ k) := by
    intro G
    pointwise
  have e3 : (⟨i.val / 4096 * 4096 + i.val % 4096, by omega⟩ : Fin 81920) = i := Fin.ext (by show i.val / 4096 * 4096 + i.val % 4096 = i.val; omega)
  rw [e]
  refine (e2 _).trans ?_
  rw [gluV_at]
  simp only [geluV_at, mixV_at, e3, spec]

set_option maxRecDepth 16384 in
theorem final_at (c : Dev nD) (t : Fin cfg0.N) (r : Fin 1024) (k : Fin 256) :
    (k0_pay1 (F := Ideal) (fun j => iblk m c 0 t (ix3 0 (j 1) (j 2))) (fun j => iblk m c 0 t (ix3 1 (j 1) (j 2)))
      (iblk m c 2 t) (iblk m c 1 t) (iblk m c 3 t) (iblk m c 4 t)) (ix2 r k)
      = spec (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) ⟨t.val * 1024 + r.val, by have := points t; omega⟩ k := by
  pointwise [k0_pay1, spec, mix, gelu, Ideal.logistic]
  simp only [blk_0, blk_1, blk_2, blk_3, blk_4, mul_assoc]

set_option maxRecDepth 16384 in
theorem final (c : Dev nD) : (dats m 0 c).arrAt 5 cfg0.N
    = fun j : S81920x256.Idx => spec (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (j 0) (j 1) := by
  refine (dats m 0 c).arrAt_eq_of_covers 5 _ (by decide +kernel) fun t hf y => ?_
  blk_simp
  revert y
  intro (y : S1024x256.Idx)
  idx_vars y
  have e : (win0_5.blk t).view.emb (ix2 y0 y1) = ix2 ⟨t.val * 1024 + y0.val, by have := points t; omega⟩ y1 := by
    blk_ext [index_5]
  rw [after0_5, e]
  frame_out
  refine Eq.trans ?_ (final_at m c t y0 y1)
  pointwise [k0_pay1]

/-- From memories that agree on the arguments, the kernel's result is the reference's. -/
theorem results : Cert.algebraic_Kernel6Ideal_Reference6Ideal := by
  intro m g m' g' _ hm
  refine ⟨fun c => (dats m 0 c).arrAt 5 cfg0.N, run_blocks m g, ?_⟩
  refine (θ_run Cert.Reference6Ideal.defs _ _).mono (fun r h c => ?_) (Cert.Reference6Ideal.Value.run (F := Ideal) m' g')
  obtain ⟨h0, ha⟩ := h c
  obtain ⟨e0, e1, e2, e3, e4⟩ := hm c
  refine ⟨h0.trans (Eq.trans ?_ (final m c).symm), ha⟩
  funext (j : S81920x256.Idx)
  idx_vars j
  refine (ref_at m' c j0 j1).trans ?_
  rw [e0, e1, e2, e3, e4]

end Cert.Kernel6Ideal.Finish

end
-- ==== Proof.HyPre.lean ====
/- The short convolution in front of the long one, read off the kernel's blocks and set beside the reference. -/
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

@[expose] public section

noncomputable section

namespace Cert.Kernel7Ideal.Conv

open Idealize.ShloMosaic Idealize.ShloMosaic.TpuEff Idealize.SL Idealize.SL.Sem Idealize.ShloMosaic.StableHlo
open Idealize.ShloMosaic.Pipeline Cert.Kernel7Ideal Cert.Kernel7Ideal.Gen Cert.Kernel7Ideal.Value

variable (x : FVec Ideal S81920x768 .f32) (w : FVec Ideal S3x768 .f32) (b : FVec Ideal S768 .f32)

/-- The token before, zero in front of a sequence's first. -/
def before (i : Fin 81920) (k : Fin 768) : EReal :=
  if i.val % 4096 = 0 then 0 else x (ix2 ⟨i.val - 1, by omega⟩ k)

/-- The token after, zero behind a sequence's last. -/
def behind (i : Fin 81920) (k : Fin 768) : EReal :=
  if h : i.val % 4096 = 4095 then 0 else x (ix2 ⟨i.val + 1, by omega⟩ k)

/-- The three taps and the bias at one token and channel. -/
def spec (i : Fin 81920) (k : Fin 768) : EReal :=
  w (ix2 0 k) * before x i k + w (ix2 1 k) * x (ix2 i k) + w (ix2 2 k) * behind x i k + b (ix1 k)

variable (m : (ℓ : Loc nD τ sig) → Buf (Elt Ideal) ℓ)

theorem V_arg0 (c : Dev nD) : V m c main_arg0 = m ((c.tc : Thread nD τ).loc main_arg0) := by
  dsimp only [V]
  after_results <;> rfl

theorem V_arg1 (c : Dev nD) : V m c main_arg1 = m ((c.tc : Thread nD τ).loc main_arg1) := by
  dsimp only [V]
  after_results <;> rfl

theorem V_v10 (c : Dev nD) : V m c main_v10 = shapeCast _ (m ((c.tc : Thread nD τ).loc main_arg2)) Gen.shapeCasts_S768_S1x768 := by
  dsimp only [V]
  after_results <;> rfl

/-- The rows in front of the tiles, zero in front of a sequence's first tile. -/
def fronts : FVec Ideal S80x1x768 .f32 :=
  shapeCast _ (concatenate S20x4x768 1 [⟨S20x1x768, broadcastInDim S20x1x768 ![] Gen.bcast_S_S20x1x768 (constant (F := Ideal) S_ .f32 0x00000000#32)⟩,
    ⟨S20x3x768, shapeCast S20x3x768 (extractStridedSlice S20x3x1x768 ![0, 0, 1023, 0] (shapeCast S20x4x1024x768 x Gen.shapeCasts_S81920x768_S20x4x1024x768) Gen.slices_S20x4x1024x768_S20x3x1x768_0_0_1023_0) Gen.shapeCasts_S20x3x1x768_S20x3x768⟩]
    Gen.concatenates_S20x1x768_S20x3x768_S20x4x768_d1) Gen.shapeCasts_S20x4x768_S80x1x768

/-- The rows behind the tiles, zero behind a sequence's last tile. -/
def backs : FVec Ideal S80x1x768 .f32 :=
  shapeCast _ (concatenate S20x4x768 1 [
    ⟨S20x3x768, shapeCast S20x3x768 (extractStridedSlice S20x3x1x768 ![0, 1, 0, 0] (shapeCast S20x4x1024x768 x Gen.shapeCasts_S81920x768_S20x4x1024x768) Gen.slices_S20x4x1024x768_S20x3x1x768_0_1_0_0) Gen.shapeCasts_S20x3x1x768_S20x3x768⟩,
    ⟨S20x1x768, broadcastInDim S20x1x768 ![] Gen.bcast_S_S20x1x768 (constant (F := Ideal) S_ .f32 0x00000000#32)⟩]
    Gen.concatenates_S20x3x768_S20x1x768_S20x4x768_d1) Gen.shapeCasts_S20x4x768_S80x1x768

theorem V_v5 (c : Dev nD) : V m c main_v5 = fronts (m ((c.tc : Thread nD τ).loc main_arg0)) := by
  dsimp only [V]
  after_results <;> rfl

theorem V_v9 (c : Dev nD) : V m c main_v9 = backs (m ((c.tc : Thread nD τ).loc main_arg0)) := by
  dsimp only [V]
  after_results <;> rfl

theorem fronts_at (t : Fin 80) (k : Fin 768) :
    fronts x (ix3 t 0 k) = before x ⟨t.val * 1024, by omega⟩ k := by
  have e : fronts x (ix3 t 0 k) = if h : t.val % 4 < 1 then 0
      else x (ix2 ⟨t.val / 4 * 4096 + (t.val % 4 - 1) * 1024 + 1023, by omega⟩ k) := by
    pointwise [fronts]
  rw [e, before]
  by_cases h : t.val % 4 < 1
  · rw [dif_pos h, if_pos (by show t.val * 1024 % 4096 = 0; omega)]
  · rw [dif_neg h, if_neg (by show ¬ t.val * 1024 % 4096 = 0; omega)]
    exact congrArg (fun i => x (ix2 i k)) (Fin.ext (by
      show t.val / 4 * 4096 + (t.val % 4 - 1) * 1024 + 1023 = t.val * 1024 - 1
      omega))

set_option maxRecDepth 16384 in
theorem backs_at (t : Fin 80) (k : Fin 768) :
    backs x (ix3 t 0 k) = behind x ⟨t.val * 1024 + 1023, by omega⟩ k := by
  have e : backs x (ix3 t 0 k) = if h : t.val % 4 < 3 then
      x (ix2 ⟨t.val / 4 * 4096 + (1 + t.val % 4) * 1024, by omega⟩ k) else 0 := by
    pointwise [backs]
  rw [e, behind]
  by_cases h : t.val % 4 < 3
  · rw [dif_pos h, dif_neg (by show ¬ (t.val * 1024 + 1023) % 4096 = 4095; omega)]
    exact congrArg (fun i => x (ix2 i k)) (Fin.ext (by
      show t.val / 4 * 4096 + (1 + t.val % 4) * 1024 = t.val * 1024 + 1023 + 1
      omega))
  · rw [dif_neg h, dif_pos (by show (t.val * 1024 + 1023) % 4096 = 4095; omega)]

/-- A choice by the equality of two small words is a choice by the equality of their numbers. -/
theorem select_row (n c : Nat) (hn : n < 4096) (hc : c < 4096) (a b : EReal) :
    Scalar.select (IntOp.cmpi .eq (BitVec.ofNat 32 n) (BitVec.ofNat 32 c)) a b = if n = c then a else b := by
  have e : (BitVec.ofNat 32 n = BitVec.ofNat 32 c) ↔ n = c := by
    constructor
    · intro h
      have := congrArg BitVec.toNat h
      simp only [BitVec.toNat_ofNat] at this
      omega
    · rintro rfl; rfl
  by_cases h : n = c
  · subst h
    simp [IntOp.cmpi, Scalar.select]
  · have h' : ¬ BitVec.ofNat 32 n = BitVec.ofNat 32 c := fun q => h (e.1 q)
    simp [IntOp.cmpi, Scalar.select, h, beq_eq_false_iff_ne.2 h']

set_option maxRecDepth 16384 in
/-- A tile's value at a row: the taps of the row before, the row and the row after, the tile's neighbours at its ends. -/
theorem pay2_at (z : FVec Ideal S1024x768 .f32) (p q : FVec Ideal S1x1x768 .f32) (w0 w1 w2 bb : FVec Ideal S1x768 .f32)
    (r : Fin 1024) (k : Fin 768) :
    k0_pay2 (F := Ideal) z p q w0 w1 w2 bb (ix2 r k)
      = w0 (ix2 0 k) * (if r.val = 0 then p (ix3 0 0 k) else z (ix2 ⟨r.val - 1, by omega⟩ k)) + w1 (ix2 0 k) * z (ix2 r k)
        + w2 (ix2 0 k) * (if h : r.val = 1023 then q (ix3 0 0 k) else z (ix2 ⟨r.val + 1, by omega⟩ k)) + bb (ix2 0 k) := by
  pointwise [k0_pay2]
  rw [select_row _ 0 (by omega) (by omega), select_row _ 1023 (by omega) (by omega)]
  have e1 : (if r.val = 0 then p (ix3 0 0 k) else z (ix2 ⟨(r.val + 1024 - 1) % 1024, Nat.mod_lt _ (by decide)⟩ k))
      = if r.val = 0 then p (ix3 0 0 k) else z (ix2 ⟨r.val - 1, by omega⟩ k) := by
    by_cases h : r.val = 0
    · rw [if_pos h, if_pos h]
    · rw [if_neg h, if_neg h]
      exact congrArg (fun i => z (ix2 i k)) (Fin.ext (by show (r.val + 1024 - 1) % 1024 = r.val - 1; omega))
  have e2 : (if r.val = 1023 then q (ix3 0 0 k) else z (ix2 ⟨(r.val + 1024 - 1023) % 1024, Nat.mod_lt _ (by decide)⟩ k))
      = if h : r.val = 1023 then q (ix3 0 0 k) else z (ix2 ⟨r.val + 1, by omega⟩ k) := by
    by_cases h : r.val = 1023
    · rw [if_pos h, dif_pos h]
    · rw [if_neg h, dif_neg h]
      exact congrArg (fun i => z (ix2 i k)) (Fin.ext (by show (r.val + 1024 - 1023) % 1024 = r.val + 1; omega))
  rw [e1, e2]

abbrev convV : FVec Ideal Cert.Reference7Ideal.S20x4096x768 .f32 :=
  addf (addf (addf (mulf (broadcastInDim Cert.Reference7Ideal.S20x4096x768 ![0, 1, 2] Cert.Reference7Ideal.Gen.bcast_S1x1x768_S20x4096x768_0_1_2 (broadcastInDim Cert.Reference7Ideal.S1x1x768 ![2] Cert.Reference7Ideal.Gen.bcast_S768_S1x1x768_2 (shapeCast _ (extractStridedSlice Cert.Reference7Ideal.S1x768 ![0, 0] w Cert.Reference7Ideal.Gen.slices_S3x768_S1x768_0_0) Cert.Reference7Ideal.Gen.shapeCasts_S1x768_S768))) (pad Cert.Reference7Ideal.S20x4096x768 ![0, 1, 0] ![0, 0, 0] ![0, 0, 0] (extractStridedSlice Cert.Reference7Ideal.S20x4095x768 ![0, 0, 0] (shapeCast _ x Cert.Reference7Ideal.Gen.shapeCasts_S81920x768_S20x4096x768) Cert.Reference7Ideal.Gen.slices_S20x4096x768_S20x4095x768_0_0_0) (sitofp .f32 (constantI Cert.Reference7Ideal.S_ 32 0#32)) Cert.Reference7Ideal.Gen.pads_S20x4095x768_S20x4096x768_000_100_000 Cert.Reference7Ideal.Gen.h_S_)) (mulf (broadcastInDim Cert.Reference7Ideal.S20x4096x768 ![0, 1, 2] Cert.Reference7Ideal.Gen.bcast_S1x1x768_S20x4096x768_0_1_2 (broadcastInDim Cert.Reference7Ideal.S1x1x768 ![2] Cert.Reference7Ideal.Gen.bcast_S768_S1x1x768_2 (shapeCast _ (extractStridedSlice Cert.Reference7Ideal.S1x768 ![1, 0] w Cert.Reference7Ideal.Gen.slices_S3x768_S1x768_1_0) Cert.Reference7Ideal.Gen.shapeCasts_S1x768_S768))) (shapeCast _ x Cert.Reference7Ideal.Gen.shapeCasts_S81920x768_S20x4096x768))) (mulf (broadcastInDim Cert.Reference7Ideal.S20x4096x768 ![0, 1, 2] Cert.Reference7Ideal.Gen.bcast_S1x1x768_S20x4096x768_0_1_2 (broadcastInDim Cert.Reference7Ideal.S1x1x768 ![2] Cert.Reference7Ideal.Gen.bcast_S768_S1x1x768_2 (shapeCast _ (extractStridedSlice Cert.Reference7Ideal.S1x768 ![2, 0] w Cert.Reference7Ideal.Gen.slices_S3x768_S1x768_2_0) Cert.Reference7Ideal.Gen.shapeCasts_S1x768_S768))) (pad Cert.Reference7Ideal.S20x4096x768 ![0, 0, 0] ![0, 1, 0] ![0, 0, 0] (extractStridedSlice Cert.Reference7Ideal.S20x4095x768 ![0, 1, 0] (shapeCast _ x Cert.Reference7Ideal.Gen.shapeCasts_S81920x768_S20x4096x768) Cert.Reference7Ideal.Gen.slices_S20x4096x768_S20x4095x768_0_1_0) (sitofp .f32 (constantI Cert.Reference7Ideal.S_ 32 0#32)) Cert.Reference7Ideal.Gen.pads_S20x4095x768_S20x4096x768_000_010_000 Cert.Reference7Ideal.Gen.h_S_))) (broadcastInDim Cert.Reference7Ideal.S20x4096x768 ![0, 1, 2] Cert.Reference7Ideal.Gen.bcast_S1x1x768_S20x4096x768_0_1_2 (broadcastInDim Cert.Reference7Ideal.S1x1x768 ![2] Cert.Reference7Ideal.Gen.bcast_S768_S1x1x768_2 b))

theorem convV_at (s : Fin 20) (p : Fin 4096) (k : Fin 768) :
    convV x w b (ix3 s p k) = spec x w b ⟨s.val * 4096 + p.val, by omega⟩ k := by
  have hz : (FloatOps.sitofp .f32 (0#32 : BitVec 32) : Ideal .f32) = (0 : EReal) := by
    show (((0#32 : BitVec 32).toInt : ℝ) : EReal) = 0
    simp
  have e : convV x w b (ix3 s p k) = w (ix2 0 k) * (if h : 1 ≤ p.val ∧ p.val - 1 < 4095 then x (ix2 ⟨s.val * 4096 + (p.val - 1), by omega⟩ k) else 0)
      + w (ix2 1 k) * x (ix2 ⟨s.val * 4096 + p.val, by omega⟩ k)
      + w (ix2 2 k) * (if h : p.val < 4095 then x (ix2 ⟨s.val * 4096 + (1 + p.val), by omega⟩ k) else 0) + b (ix1 k) := by
    pointwise [convV]
    simp only [hz]
  have e1 : (if h : 1 ≤ p.val ∧ p.val - 1 < 4095 then x (ix2 ⟨s.val * 4096 + (p.val - 1), by omega⟩ k) else 0)
      = before x ⟨s.val * 4096 + p.val, by omega⟩ k := by
    by_cases h : 1 ≤ p.val ∧ p.val - 1 < 4095
    · rw [dif_pos h, before, if_neg (by show ¬ (s.val * 4096 + p.val) % 4096 = 0; omega)]
      exact congrArg (fun i => x (ix2 i k)) (Fin.ext (by show s.val * 4096 + (p.val - 1) = s.val * 4096 + p.val - 1; omega))
    · rw [dif_neg h, before, if_pos (by show (s.val * 4096 + p.val) % 4096 = 0; omega)]
  have e2 : (if h : p.val < 4095 then x (ix2 ⟨s.val * 4096 + (1 + p.val), by omega⟩ k) else 0)
      = behind x ⟨s.val * 4096 + p.val, by omega⟩ k := by
    by_cases h : p.val < 4095
    · rw [dif_pos h, behind, dif_neg (by show ¬ (s.val * 4096 + p.val) % 4096 = 4095; omega)]
      exact congrArg (fun i => x (ix2 i k)) (Fin.ext (by show s.val * 4096 + (1 + p.val) = s.val * 4096 + p.val + 1; omega))
    · rw [dif_neg h, behind, dif_pos (by show (s.val * 4096 + p.val) % 4096 = 4095; omega)]
  rw [e, e1, e2, spec]

theorem index_0 : ∀ t : Fin cfg0.N, win0_0.index t = ![t.val, 0] := (by decide +kernel : ∀ t : Fin grid0.N, _)
theorem index_1 : ∀ t : Fin cfg0.N, win0_1.index t = ![t.val, 0, 0] := (by decide +kernel : ∀ t : Fin grid0.N, _)
theorem index_2 : ∀ t : Fin cfg0.N, win0_2.index t = ![t.val, 0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)

theorem points (t : Fin cfg0.N) : t.val < 80 := lt_of_lt_of_eq t.isLt (by decide : cfg0.N = 80)

/-- Row `r` of the block at point `t` is token `1024 t + r`. -/
theorem blk_0 (c : Dev nD) (t : Fin cfg0.N) (r : Fin 1024) (k : Fin 768) :
    iblk m c 0 t (ix2 r k) = m ((c.tc : Thread nD τ).loc main_arg0) (ix2 ⟨t.val * 1024 + r.val, by have := points t; omega⟩ k) := by
  have e : (win0_0.blk t).view.emb (ix2 r k) = ix2 ⟨t.val * 1024 + r.val, by have := points t; omega⟩ k := by
    blk_ext [index_0]
  show V m c main_arg0 ((win0_0.blk t).view.emb (ix2 r k)) = _
  rw [e, V_arg0]

theorem blk_1 (c : Dev nD) (t : Fin cfg0.N) (k : Fin 768) :
    iblk m c 1 t (ix3 0 0 k) = before (m ((c.tc : Thread nD τ).loc main_arg0)) ⟨t.val * 1024, by have := points t; omega⟩ k := by
  have e : (win0_1.blk t).view.emb (ix3 0 0 k) = ix3 ⟨t.val, points t⟩ 0 k := by
    blk_ext [index_1]
  show V m c main_v5 ((win0_1.blk t).view.emb (ix3 0 0 k)) = _
  rw [e, V_v5]
  exact fronts_at _ _ _

theorem blk_2 (c : Dev nD) (t : Fin cfg0.N) (k : Fin 768) :
    iblk m c 2 t (ix3 0 0 k) = behind (m ((c.tc : Thread nD τ).loc main_arg0)) ⟨t.val * 1024 + 1023, by have := points t; omega⟩ k := by
  have e : (win0_2.blk t).view.emb (ix3 0 0 k) = ix3 ⟨t.val, points t⟩ 0 k := by
    blk_ext [index_2]
  show V m c main_v9 ((win0_2.blk t).view.emb (ix3 0 0 k)) = _
  rw [e, V_v9]
  exact backs_at _ _ _

theorem blk_3 (c : Dev nD) (t : Fin cfg0.N) (a : Fin 3) (k : Fin 768) :
    iblk m c 3 t (ix2 a k) = m ((c.tc : Thread nD τ).loc main_arg1) (ix2 a k) := by
  have e : (win0_3.blk t).view.emb (ix2 a k) = ix2 a k := by
    blk_ext [index_3]
  show V m c main_arg1 ((win0_3.blk t).view.emb (ix2 a k)) = _
  rw [e, V_arg1]

theorem blk_4 (c : Dev nD) (t : Fin cfg0.N) (k : Fin 768) :
    iblk m c 4 t (ix2 0 k) = m ((c.tc : Thread nD τ).loc main_arg2) (ix1 k) := by
  have e : (win0_4.blk t).view.emb (ix2 0 k) = ix2 0 k := by
    blk_ext [index_4]
  show V m c main_v10 ((win0_4.blk t).view.emb (ix2 0 k)) = _
  rw [e, V_v10]
  pointwise

theorem row0 (c : Dev nD) (t : Fin cfg0.N) (k : Fin 768) :
    View.ld (iblk m c 3 t) r0_2 (ix2 0 k) = m ((c.tc : Thread nD τ).loc main_arg1) (ix2 0 k) := by
  unfold r0_2
  pointwise
  exact blk_3 m c t 0 k

theorem row1 (c : Dev nD) (t : Fin cfg0.N) (k : Fin 768) :
    View.ld (iblk m c 3 t) r0_3 (ix2 0 k) = m ((c.tc : Thread nD τ).loc main_arg1) (ix2 1 k) := by
  unfold r0_3
  pointwise
  exact blk_3 m c t 1 k

theorem row2 (c : Dev nD) (t : Fin cfg0.N) (k : Fin 768) :
    View.ld (iblk m c 3 t) r0_4 (ix2 0 k) = m ((c.tc : Thread nD τ).loc main_arg1) (ix2 2 k) := by
  unfold r0_4
  pointwise
  exact blk_3 m c t 2 k

/-- The token before a tile's row: the row before it in the tile, or the tile's front row. -/
theorem before_row (c : Dev nD) (t : Fin cfg0.N) (r : Fin 1024) (k : Fin 768) :
    (if r.val = 0 then iblk m c 1 t (ix3 0 0 k) else iblk m c 0 t (ix2 ⟨r.val - 1, by omega⟩ k))
      = before (m ((c.tc : Thread nD τ).loc main_arg0)) ⟨t.val * 1024 + r.val, by have := points t; omega⟩ k := by
  by_cases h : r.val = 0
  · rw [if_pos h, blk_1]
    exact congrArg (fun i => before _ i k) (Fin.ext (by show t.val * 1024 = t.val * 1024 + r.val; omega))
  · rw [if_neg h, blk_0, before, if_neg (by show ¬ (t.val * 1024 + r.val) % 4096 = 0; omega)]
    exact congrArg (fun i => m ((c.tc : Thread nD τ).loc main_arg0) (ix2 i k))
      (Fin.ext (by show t.val * 1024 + (r.val - 1) = t.val * 1024 + r.val - 1; omega))

theorem behind_row (c : Dev nD) (t : Fin cfg0.N) (r : Fin 1024) (k : Fin 768) :
    (if h : r.val = 1023 then iblk m c 2 t (ix3 0 0 k) else iblk m c 0 t (ix2 ⟨r.val + 1, by omega⟩ k))
      = behind (m ((c.tc : Thread nD τ).loc main_arg0)) ⟨t.val * 1024 + r.val, by have := points t; omega⟩ k := by
  by_cases h : r.val = 1023
  · rw [dif_pos h, blk_2]
    exact congrArg (fun i => behind _ i k) (Fin.ext (by show t.val * 1024 + 1023 = t.val * 1024 + r.val; omega))
  · rw [dif_neg h, blk_0, behind, dif_neg (by show ¬ (t.val * 1024 + r.val) % 4096 = 4095; omega)]
    exact congrArg (fun i => m ((c.tc : Thread nD τ).loc main_arg0) (ix2 i k))
      (Fin.ext (by show t.val * 1024 + (r.val + 1) = t.val * 1024 + r.val + 1; omega))

/-- A tile's value is the taps of its tokens. -/
theorem tile_at (c : Dev nD) (t : Fin cfg0.N) (w0 w1 w2 : FVec Ideal S1x768 .f32)
    (h0 : ∀ k, w0 (ix2 0 k) = m ((c.tc : Thread nD τ).loc main_arg1) (ix2 0 k))
    (h1 : ∀ k, w1 (ix2 0 k) = m ((c.tc : Thread nD τ).loc main_arg1) (ix2 1 k))
    (h2 : ∀ k, w2 (ix2 0 k) = m ((c.tc : Thread nD τ).loc main_arg1) (ix2 2 k)) (r : Fin 1024) (k : Fin 768) :
    k0_pay2 (F := Ideal) (iblk m c 0 t) (iblk m c 1 t) (iblk m c 2 t) w0 w1 w2 (iblk m c 4 t) (ix2 r k)
      = spec (m ((c.tc : Thread nD τ).loc main_arg0)) (m ((c.tc : Thread nD τ).loc main_arg1))
          (m ((c.tc : Thread nD τ).loc main_arg2)) ⟨t.val * 1024 + r.val, by have := points t; omega⟩ k := by
  rw [pay2_at, before_row, behind_row, blk_0, blk_4, h0, h1, h2, spec]

theorem slice0_at (i : Fin 81920) (k : Fin 256) :
    shapeCast S81920x256 (extractStridedSlice Cert.Reference7Ideal.S20x4096x256 ![0, 0, 0] (convV x w b)
        Cert.Reference7Ideal.Gen.slices_S20x4096x768_S20x4096x256_0_0_0)
        Cert.Reference7Ideal.Gen.shapeCasts_S20x4096x256_S81920x256 (ix2 i k)
      = spec x w b i ⟨k.val, by omega⟩ := by
  have e : ∀ G : FVec Ideal Cert.Reference7Ideal.S20x4096x768 .f32,
      shapeCast S81920x256 (extractStridedSlice Cert.Reference7Ideal.S20x4096x256 ![0, 0, 0] G
        Cert.Reference7Ideal.Gen.slices_S20x4096x768_S20x4096x256_0_0_0)
        Cert.Reference7Ideal.Gen.shapeCasts_S20x4096x256_S81920x256 (ix2 i k)
      = G (ix3 ⟨i.val / 4096, by omega⟩ ⟨i.val % 4096, Nat.mod_lt _ (by decide)⟩ ⟨k.val, by omega⟩) := by
    intro G
    pointwise
  refine (e _).trans ((convV_at x w b _ _ _).trans ?_)
  exact congrArg (fun i => spec x w b i ⟨k.val, by omega⟩)
    (Fin.ext (by show i.val / 4096 * 4096 + i.val % 4096 = i.val; omega))

theorem slice256_at (i : Fin 81920) (k : Fin 256) :
    shapeCast S81920x256 (extractStridedSlice Cert.Reference7Ideal.S20x4096x256 ![0, 0, 256] (convV x w b)
        Cert.Reference7Ideal.Gen.slices_S20x4096x768_S20x4096x256_0_0_256)
        Cert.Reference7Ideal.Gen.shapeCasts_S20x4096x256_S81920x256 (ix2 i k)
      = spec x w b i ⟨256 + k.val, by omega⟩ := by
  have e : ∀ G : FVec Ideal Cert.Reference7Ideal.S20x4096x768 .f32,
      shapeCast S81920x256 (extractStridedSlice Cert.Reference7Ideal.S20x4096x256 ![0, 0, 256] G
        Cert.Reference7Ideal.Gen.slices_S20x4096x768_S20x4096x256_0_0_256)
        Cert.Reference7Ideal.Gen.shapeCasts_S20x4096x256_S81920x256 (ix2 i k)
      = G (ix3 ⟨i.val / 4096, by omega⟩ ⟨i.val % 4096, Nat.mod_lt _ (by decide)⟩ ⟨256 + k.val, by omega⟩) := by
    intro G
    pointwise
  refine (e _).trans ((convV_at x w b _ _ _).trans ?_)
  exact congrArg (fun i => spec x w b i ⟨256 + k.val, by omega⟩)
    (Fin.ext (by show i.val / 4096 * 4096 + i.val % 4096 = i.val; omega))

theorem slice512_at (i : Fin 81920) (k : Fin 256) :
    shapeCast S81920x256 (extractStridedSlice Cert.Reference7Ideal.S20x4096x256 ![0, 0, 512] (convV x w b)
        Cert.Reference7Ideal.Gen.slices_S20x4096x768_S20x4096x256_0_0_512)
        Cert.Reference7Ideal.Gen.shapeCasts_S20x4096x256_S81920x256 (ix2 i k)
      = spec x w b i ⟨512 + k.val, by omega⟩ := by
  have e : ∀ G : FVec Ideal Cert.Reference7Ideal.S20x4096x768 .f32,
      shapeCast S81920x256 (extractStridedSlice Cert.Reference7Ideal.S20x4096x256 ![0, 0, 512] G
        Cert.Reference7Ideal.Gen.slices_S20x4096x768_S20x4096x256_0_0_512)
        Cert.Reference7Ideal.Gen.shapeCasts_S20x4096x256_S81920x256 (ix2 i k)
      = G (ix3 ⟨i.val / 4096, by omega⟩ ⟨i.val % 4096, Nat.mod_lt _ (by decide)⟩ ⟨512 + k.val, by omega⟩) := by
    intro G
    pointwise
  refine (e _).trans ((convV_at x w b _ _ _).trans ?_)
  exact congrArg (fun i => spec x w b i ⟨512 + k.val, by omega⟩)
    (Fin.ext (by show i.val / 4096 * 4096 + i.val % 4096 = i.val; omega))

set_option maxRecDepth 16384 in
theorem final5 (c : Dev nD) : (dats m 0 c).arrAt 5 cfg0.N
    = shapeCast _ (extractStridedSlice Cert.Reference7Ideal.S20x4096x256 ![0, 0, 0]
        (convV (m ((c.tc : Thread nD τ).loc main_arg0)) (m ((c.tc : Thread nD τ).loc main_arg1)) (m ((c.tc : Thread nD τ).loc main_arg2)))
        Cert.Reference7Ideal.Gen.slices_S20x4096x768_S20x4096x256_0_0_0)
        Cert.Reference7Ideal.Gen.shapeCasts_S20x4096x256_S81920x256 := by
  refine (dats m 0 c).arrAt_eq_of_covers 5 _ (by decide +kernel) fun t hf y => ?_
  blk_simp
  revert y
  intro (y : S1024x256.Idx)
  idx_vars y
  have hi := (by decide +kernel : ∀ t : Fin grid0.N, win0_5.index t = ![t.val, 0]) t
  have e : (win0_5.blk t).view.emb (ix2 y0 y1) = ix2 ⟨t.val * 1024 + y0.val, by have := points t; omega⟩ y1 := by
    blk_ext [hi]
  rw [after0_5, e, slice0_at]
  frame_out
  pointwise [k0_pay3]
  refine (tile_at m c t _ _ _ (fun k => ?_) (fun k => ?_) (fun k => ?_) y0 ⟨y1.val, by omega⟩)
  · exact row0 m c t k
  · exact row1 m c t k
  · exact row2 m c t k

set_option maxRecDepth 16384 in
theorem final6 (c : Dev nD) : (dats m 0 c).arrAt 6 cfg0.N
    = shapeCast _ (extractStridedSlice Cert.Reference7Ideal.S20x4096x256 ![0, 0, 256]
        (convV (m ((c.tc : Thread nD τ).loc main_arg0)) (m ((c.tc : Thread nD τ).loc main_arg1)) (m ((c.tc : Thread nD τ).loc main_arg2)))
        Cert.Reference7Ideal.Gen.slices_S20x4096x768_S20x4096x256_0_0_256)
        Cert.Reference7Ideal.Gen.shapeCasts_S20x4096x256_S81920x256 := by
  refine (dats m 0 c).arrAt_eq_of_covers 6 _ (by decide +kernel) fun t hf y => ?_
  blk_simp
  revert y
  intro (y : S1024x256.Idx)
  idx_vars y
  have hi := (by decide +kernel : ∀ t : Fin grid0.N, win0_6.index t = ![t.val, 0]) t
  have e : (win0_6.blk t).view.emb (ix2 y0 y1) = ix2 ⟨t.val * 1024 + y0.val, by have := points t; omega⟩ y1 := by
    blk_ext [hi]
  rw [after0_6, e, slice256_at]
  frame_out
  pointwise [k0_pay4]
  refine (tile_at m c t _ _ _ (fun k => ?_) (fun k => ?_) (fun k => ?_) y0 ⟨256 + y1.val, by omega⟩)
  · exact row0 m c t k
  · exact row1 m c t k
  · exact row2 m c t k

set_option maxRecDepth 16384 in
theorem final7 (c : Dev nD) : (dats m 0 c).arrAt 7 cfg0.N
    = shapeCast _ (extractStridedSlice Cert.Reference7Ideal.S20x4096x256 ![0, 0, 512]
        (convV (m ((c.tc : Thread nD τ).loc main_arg0)) (m ((c.tc : Thread nD τ).loc main_arg1)) (m ((c.tc : Thread nD τ).loc main_arg2)))
        Cert.Reference7Ideal.Gen.slices_S20x4096x768_S20x4096x256_0_0_512)
        Cert.Reference7Ideal.Gen.shapeCasts_S20x4096x256_S81920x256 := by
  refine (dats m 0 c).arrAt_eq_of_covers 7 _ (by decide +kernel) fun t hf y => ?_
  blk_simp
  revert y
  intro (y : S1024x256.Idx)
  idx_vars y
  have hi := (by decide +kernel : ∀ t : Fin grid0.N, win0_7.index t = ![t.val, 0]) t
  have e : (win0_7.blk t).view.emb (ix2 y0 y1) = ix2 ⟨t.val * 1024 + y0.val, by have := points t; omega⟩ y1 := by
    blk_ext [hi]
  rw [after0_7, e, slice512_at]
  frame_out
  pointwise [k0_pay1]
  refine (tile_at m c t _ _ _ (fun k => ?_) (fun k => ?_) (fun k => ?_) y0 ⟨512 + y1.val, by omega⟩)
  · exact row0 m c t k
  · exact row1 m c t k
  · exact row2 m c t k

/-- From memories that agree on the arguments, the kernel's three results are the reference's. -/
theorem results : Cert.algebraic_Kernel7Ideal_Reference7Ideal := by
  intro m g m' g' _ hm
  refine ⟨fun c => (dats m 0 c).arrAt 5 cfg0.N, fun c => (dats m 0 c).arrAt 6 cfg0.N, fun c => (dats m 0 c).arrAt 7 cfg0.N,
    run_blocks m g, ?_⟩
  refine (θ_run Cert.Reference7Ideal.defs _ _).mono (fun r h c => ?_) (Cert.Reference7Ideal.Value.run (F := Ideal) m' g')
  obtain ⟨h0, h1, h2, ha⟩ := h c
  obtain ⟨e0, e1, e2⟩ := hm c
  rw [e0, e1, e2] at h0 h1 h2
  exact ⟨h0.trans (final5 m c).symm, h1.trans (final6 m c).symm, h2.trans (final7 m c).symm, ha⟩

end Cert.Kernel7Ideal.Conv

end
-- ==== Proof.HyGate.lean ====
/- The gate of the long convolution, read off the kernel's blocks and set beside the reference. -/
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise

@[expose] public section

noncomputable section

namespace Cert.Kernel8Ideal.Gate

open Idealize.ShloMosaic Idealize.ShloMosaic.TpuEff Idealize.SL Idealize.SL.Sem Idealize.ShloMosaic.StableHlo
open Idealize.ShloMosaic.Pipeline Cert.Kernel8Ideal Cert.Kernel8Ideal.Gen Cert.Kernel8Ideal.Value

variable (m : (ℓ : Loc nD τ sig) → Buf (Elt Ideal) ℓ)

theorem V_arg0 (c : Dev nD) : V m c main_arg0 = m ((c.tc : Thread nD τ).loc main_arg0) := by
  dsimp only [V]
  after_results <;> rfl

theorem V_arg1 (c : Dev nD) : V m c main_arg1 = m ((c.tc : Thread nD τ).loc main_arg1) := by
  dsimp only [V]
  after_results <;> rfl

theorem V_arg2 (c : Dev nD) : V m c main_arg2 = m ((c.tc : Thread nD τ).loc main_arg2) := by
  dsimp only [V]
  after_results <;> rfl

theorem V_v0 (c : Dev nD) : V m c main_v0 = shapeCast _ (m ((c.tc : Thread nD τ).loc main_arg3)) Gen.shapeCasts_S256_S1x256 := by
  dsimp only [V]
  after_results <;> rfl

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![t.val, 0] := (by decide +kernel : ∀ t : Fin grid0.N, _)

theorem points (t : Fin cfg0.N) : t.val < 80 := lt_of_lt_of_eq t.isLt (by decide : cfg0.N = 80)

/-- Row `r` of the convolution's block at point `t` is row `1024 t + r`. -/
theorem blk_0 (c : Dev nD) (t : Fin cfg0.N) (r : Fin 1024) (k : Fin 256) :
    iblk m c 0 t (ix2 r k) = m ((c.tc : Thread nD τ).loc main_arg0) (ix2 ⟨t.val * 1024 + r.val, by have := points t; omega⟩ k) := by
  have e : (win0_0.blk t).view.emb (ix2 r k) = ix2 ⟨t.val * 1024 + r.val, by have := points t; omega⟩ k := by
    blk_ext [index_0]
  show V m c main_arg0 ((win0_0.blk t).view.emb (ix2 r k)) = _
  rw [e, V_arg0]

/-- The same of the convolution's argument. -/
theorem blk_1 (c : Dev nD) (t : Fin cfg0.N) (r : Fin 1024) (k : Fin 256) :
    iblk m c 1 t (ix2 r k) = m ((c.tc : Thread nD τ).loc main_arg1) (ix2 ⟨t.val * 1024 + r.val, by have := points t; omega⟩ k) := by
  have e : (win0_1.blk t).view.emb (ix2 r k) = ix2 ⟨t.val * 1024 + r.val, by have := points t; omega⟩ k := by
    blk_ext [index_1]
  show V m c main_arg1 ((win0_1.blk t).view.emb (ix2 r k)) = _
  rw [e, V_arg1]

/-- The same of the gate. -/
theorem blk_2 (c : Dev nD) (t : Fin cfg0.N) (r : Fin 1024) (k : Fin 256) :
    iblk m c 2 t (ix2 r k) = m ((c.tc : Thread nD τ).loc main_arg2) (ix2 ⟨t.val * 1024 + r.val, by have := points t; omega⟩ k) := by
  have e : (win0_2.blk t).view.emb (ix2 r k) = ix2 ⟨t.val * 1024 + r.val, by have := points t; omega⟩ k := by
    blk_ext [index_2]
  show V m c main_arg2 ((win0_2.blk t).view.emb (ix2 r k)) = _
  rw [e, V_arg2]

/-- The skip's weights at a point are the skip's weights. -/
theorem blk_3 (c : Dev nD) (t : Fin cfg0.N) (k : Fin 256) :
    iblk m c 3 t (ix2 0 k) = m ((c.tc : Thread nD τ).loc main_arg3) (ix1 k) := by
  have e : (win0_3.blk t).view.emb (ix2 0 k) = ix2 0 k := by
    blk_ext [index_3]
  show V m c main_v0 ((win0_3.blk t).view.emb (ix2 0 k)) = _
  rw [e, V_v0]
  pointwise

/-- The gated rows as the reference writes them. -/
abbrev gated (conv u gate : FVec Ideal Cert.Reference8Ideal.S81920x256 .f32) (d : FVec Ideal Cert.Reference8Ideal.S256 .f32) :
    FVec Ideal Cert.Reference8Ideal.S81920x256 .f32 :=
  shapeCast _ (mulf (shapeCast _ gate Cert.Reference8Ideal.Gen.shapeCasts_S81920x256_S20x4096x256) (addf (shapeCast _ conv Cert.Reference8Ideal.Gen.shapeCasts_S81920x256_S20x4096x256) (mulf (broadcastInDim Cert.Reference8Ideal.S20x4096x256 ![0, 1, 2] Cert.Reference8Ideal.Gen.bcast_S1x1x256_S20x4096x256_0_1_2 (broadcastInDim Cert.Reference8Ideal.S1x1x256 ![2] Cert.Reference8Ideal.Gen.bcast_S256_S1x1x256_2 d)) (shapeCast _ u Cert.Reference8Ideal.Gen.shapeCasts_S81920x256_S20x4096x256)))) Cert.Reference8Ideal.Gen.shapeCasts_S20x4096x256_S81920x256

theorem gated_at (conv u gate : FVec Ideal Cert.Reference8Ideal.S81920x256 .f32) (d : FVec Ideal Cert.Reference8Ideal.S256 .f32)
    (i : Fin 81920) (k : Fin 256) :
    gated conv u gate d (ix2 i k) = gate (ix2 i k) * (conv (ix2 i k) + d (ix1 k) * u (ix2 i k)) := by
  pointwise [gated]

set_option maxRecDepth 16384 in
theorem final (c : Dev nD) : (dats m 0 c).arrAt 4 cfg0.N
    = gated (m ((c.tc : Thread nD τ).loc main_arg0)) (m ((c.tc : Thread nD τ).loc main_arg1))
        (m ((c.tc : Thread nD τ).loc main_arg2)) (m ((c.tc : Thread nD τ).loc main_arg3)) := by
  refine (dats m 0 c).arrAt_eq_of_covers 4 _ (by decide +kernel) fun t hf y => ?_
  blk_simp
  revert y
  intro (y : S1024x256.Idx)
  idx_vars y
  have e : (win0_4.blk t).view.emb (ix2 y0 y1) = ix2 ⟨t.val * 1024 + y0.val, by have := points t; omega⟩ y1 := by
    blk_ext [index_4]
  rw [after0_4, e, gated_at]
  frame_out
  pointwise [k0_pay1]
  simp only [blk_0, blk_1, blk_2, blk_3]

/-- From memories that agree on the arguments, the kernel's result is the reference's. -/
theorem results : Cert.algebraic_Kernel8Ideal_Reference8Ideal := by
  intro m g m' g' _ hm
  refine ⟨fun c => (dats m 0 c).arrAt 4 cfg0.N, run_blocks m g, ?_⟩
  refine (θ_run Cert.Reference8Ideal.defs _ _).mono (fun r h c => ?_) (Cert.Reference8Ideal.Value.run (F := Ideal) m' g')
  obtain ⟨h0, ha⟩ := h c
  obtain ⟨e0, e1, e2, e3⟩ := hm c
  rw [e0, e1, e2, e3] at h0
  exact ⟨h0.trans (final m c).symm, ha⟩

end Cert.Kernel8Ideal.Gate

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Reference3Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.ScanBits
public import proofs.«01_k».proof.Proof.ScanFinal
public import proofs.«01_k».proof.Proof.InProj
public import proofs.«01_k».proof.Proof.Mlp
public import proofs.«01_k».proof.Proof.RwkvPost
public import proofs.«01_k».proof.Proof.S5Finish
public import proofs.«01_k».proof.Proof.HyPre
public import proofs.«01_k».proof.Proof.HyGate
public import Idealize.ShloMosaic.Adequacy
public import Idealize.ShloMosaic.Init

@[expose] public section

noncomputable section

namespace Cert.Proof

open Idealize.ShloMosaic Idealize.SL.Sem Cert.Kernel

/-! The references' frames: their runs read at the arguments; they declare no semaphore. -/

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_reference2 : Cert.quiescent_Reference2Ideal := fun m ρ _ =>
  (θ_run Cert.Reference2Ideal.defs _ _).mono (fun r h => ⟨fun c => (h c).2.2.2.2.2.2, Idealize.ShloMosaic.sem_eq_zero_of_no_sems (by decide) r.2⟩)
    (Cert.Reference2Ideal.Value.run (F := Ideal) m ρ)

theorem frame_reference5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem frame_reference6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

theorem frame_reference7 : Cert.quiescent_Reference7Ideal := fun m ρ _ =>
  (θ_run Cert.Reference7Ideal.defs _ _).mono (fun r h => ⟨fun c => (h c).2.2.2, Idealize.ShloMosaic.sem_eq_zero_of_no_sems (by decide) r.2⟩)
    (Cert.Reference7Ideal.Value.run (F := Ideal) m ρ)

theorem frame_reference8 : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  Cert.Kernel3Ideal.Scan.frame_kernel, Cert.Kernel3Ideal.Scan.frame_ideal, Cert.Reference3Ideal.Scan.frame,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  trivial, Cert.KernelIdeal.Value.results, trivial, Cert.Kernel2Ideal.Value.results,
  trivial, Cert.Kernel3Ideal.Scan.results, trivial, Cert.Kernel5Ideal.Post.results,
  trivial, Cert.Kernel6Ideal.Finish.results,
  trivial, Cert.Kernel7Ideal.Conv.results, trivial, Cert.Kernel8Ideal.Gate.results⟩

end Cert.Proof

end
